-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v17)) (v1 : (c : Dev Cert.Kernel2Ideal.nD) → Buf (Elt Ideal) ((c.tc : Thread Cert.Kernel2Ideal.nD Cert.Kernel2Ideal.τ).loc Cert.Kernel2Ideal.main_v18)) (v2 : (c : Dev Cert.Kernel2Ideal.nD) → Buf (Elt Ideal) ((c.tc : Thread Cert.Kernel2Ideal.nD Cert.Kernel2Ideal.τ).loc Cert.Kernel2Ideal.main_v21)) (v3 : (c : Dev Cert.Kernel2Ideal.nD) → Buf (Elt Ideal) ((c.tc : Thread Cert.Kernel2Ideal.nD Cert.Kernel2Ideal.τ).loc Cert.Kernel2Ideal.main_v22)) (v4 : (c : Dev Cert.Kernel2Ideal.nD) → Buf (Elt Ideal) ((c.tc : Thread Cert.Kernel2Ideal.nD Cert.Kernel2Ideal.τ).loc Cert.Kernel2Ideal.main_v41)) (v5 : (c : Dev Cert.Kernel2Ideal.nD) → Buf (Elt Ideal) ((c.tc : Thread Cert.Kernel2Ideal.nD Cert.Kernel2Ideal.τ).loc Cert.Kernel2Ideal.main_v60)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17) = v0 c
          ∧ r.2.mem ((c.tc : Thread Cert.Kernel2Ideal.nD Cert.Kernel2Ideal.τ).loc Cert.Kernel2Ideal.main_v18) = v1 c
          ∧ r.2.mem ((c.tc : Thread Cert.Kernel2Ideal.nD Cert.Kernel2Ideal.τ).loc Cert.Kernel2Ideal.main_v21) = v2 c
          ∧ r.2.mem ((c.tc : Thread Cert.Kernel2Ideal.nD Cert.Kernel2Ideal.τ).loc Cert.Kernel2Ideal.main_v22) = v3 c
          ∧ r.2.mem ((c.tc : Thread Cert.Kernel2Ideal.nD Cert.Kernel2Ideal.τ).loc Cert.Kernel2Ideal.main_v41) = v4 c
          ∧ r.2.mem ((c.tc : Thread Cert.Kernel2Ideal.nD Cert.Kernel2Ideal.τ).loc Cert.Kernel2Ideal.main_v60) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_v3) = v1 c
          ∧ r.2.mem ((c.tc : Thread Cert.Reference2Ideal.nD Cert.Reference2Ideal.τ).loc Cert.Reference2Ideal.main_v4) = v2 c
          ∧ r.2.mem ((c.tc : Thread Cert.Reference2Ideal.nD Cert.Reference2Ideal.τ).loc Cert.Reference2Ideal.main_v5) = v3 c
          ∧ r.2.mem ((c.tc : Thread Cert.Reference2Ideal.nD Cert.Reference2Ideal.τ).loc Cert.Reference2Ideal.main_v14) = v4 c
          ∧ r.2.mem ((c.tc : Thread Cert.Reference2Ideal.nD Cert.Reference2Ideal.τ).loc Cert.Reference2Ideal.main_v15) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v14)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v11)) (v1 : (c : Dev Cert.Kernel5Ideal.nD) → Buf (Elt Ideal) ((c.tc : Thread Cert.Kernel5Ideal.nD Cert.Kernel5Ideal.τ).loc Cert.Kernel5Ideal.main_v13)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v11) = v0 c
          ∧ r.2.mem ((c.tc : Thread Cert.Kernel5Ideal.nD Cert.Kernel5Ideal.τ).loc Cert.Kernel5Ideal.main_v13) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v39) = v0 c
          ∧ r.2.mem ((c.tc : Thread Cert.Reference5Ideal.nD Cert.Reference5Ideal.τ).loc Cert.Reference5Ideal.main_v41) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v48_0)) (v1 : (c : Dev Cert.Kernel6Ideal.nD) → Buf (Elt Ideal) ((c.tc : Thread Cert.Kernel6Ideal.nD Cert.Kernel6Ideal.τ).loc Cert.Kernel6Ideal.main_v50)) (v2 : (c : Dev Cert.Kernel6Ideal.nD) → Buf (Elt Ideal) ((c.tc : Thread Cert.Kernel6Ideal.nD Cert.Kernel6Ideal.τ).loc Cert.Kernel6Ideal.main_v52)) (v3 : (c : Dev Cert.Kernel6Ideal.nD) → Buf (Elt Ideal) ((c.tc : Thread Cert.Kernel6Ideal.nD Cert.Kernel6Ideal.τ).loc Cert.Kernel6Ideal.main_v54)) (v4 : (c : Dev Cert.Kernel6Ideal.nD) → Buf (Elt Ideal) ((c.tc : Thread Cert.Kernel6Ideal.nD Cert.Kernel6Ideal.τ).loc Cert.Kernel6Ideal.main_v56)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v48_0) = v0 c
          ∧ r.2.mem ((c.tc : Thread Cert.Kernel6Ideal.nD Cert.Kernel6Ideal.τ).loc Cert.Kernel6Ideal.main_v50) = v1 c
          ∧ r.2.mem ((c.tc : Thread Cert.Kernel6Ideal.nD Cert.Kernel6Ideal.τ).loc Cert.Kernel6Ideal.main_v52) = v2 c
          ∧ r.2.mem ((c.tc : Thread Cert.Kernel6Ideal.nD Cert.Kernel6Ideal.τ).loc Cert.Kernel6Ideal.main_v54) = v3 c
          ∧ r.2.mem ((c.tc : Thread Cert.Kernel6Ideal.nD Cert.Kernel6Ideal.τ).loc Cert.Kernel6Ideal.main_v56) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v16) = v0 c
          ∧ r.2.mem ((c.tc : Thread Cert.Reference6Ideal.nD Cert.Reference6Ideal.τ).loc Cert.Reference6Ideal.main_v49) = v1 c
          ∧ r.2.mem ((c.tc : Thread Cert.Reference6Ideal.nD Cert.Reference6Ideal.τ).loc Cert.Reference6Ideal.main_v68) = v2 c
          ∧ r.2.mem ((c.tc : Thread Cert.Reference6Ideal.nD Cert.Reference6Ideal.τ).loc Cert.Reference6Ideal.main_v103) = v3 c
          ∧ r.2.mem ((c.tc : Thread Cert.Reference6Ideal.nD Cert.Reference6Ideal.τ).loc Cert.Reference6Ideal.main_v122) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v12)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v12) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v44)) (v1 : (c : Dev Cert.Kernel8Ideal.nD) → Buf (Elt Ideal) ((c.tc : Thread Cert.Kernel8Ideal.nD Cert.Kernel8Ideal.τ).loc Cert.Kernel8Ideal.main_v46)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v44) = v0 c
          ∧ r.2.mem ((c.tc : Thread Cert.Kernel8Ideal.nD Cert.Kernel8Ideal.τ).loc Cert.Kernel8Ideal.main_v46) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v43) = v0 c
          ∧ r.2.mem ((c.tc : Thread Cert.Reference8Ideal.nD Cert.Reference8Ideal.τ).loc Cert.Reference8Ideal.main_v46) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v5_0)) (v1 : (c : Dev Cert.Kernel9Ideal.nD) → Buf (Elt Ideal) ((c.tc : Thread Cert.Kernel9Ideal.nD Cert.Kernel9Ideal.τ).loc Cert.Kernel9Ideal.main_v5_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5_0) = v0 c
          ∧ r.2.mem ((c.tc : Thread Cert.Kernel9Ideal.nD Cert.Kernel9Ideal.τ).loc Cert.Kernel9Ideal.main_v5_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v26) = v0 c
          ∧ r.2.mem ((c.tc : Thread Cert.Reference9Ideal.nD Cert.Reference9Ideal.τ).loc Cert.Reference9Ideal.main_v27) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v8)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v8) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v10) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite_inputs.lean ====
abbrev S4x2048x16x512 : Shape := ⟨4, ![4, 2048, 16, 512]⟩
abbrev S4x2048x16x64 : Shape := ⟨4, ![4, 2048, 16, 64]⟩
abbrev S9216x512 : Shape := ⟨2, ![9216, 512]⟩
abbrev S9216x64 : Shape := ⟨2, ![9216, 64]⟩
abbrev S1x512x16x128 : Shape := ⟨4, ![1, 512, 16, 128]⟩
abbrev S_ : Shape := ⟨0, ![]⟩

class Facts : Prop where
  bcast_S_S4x2048x16x512 : S_.BroadcastsInDim S4x2048x16x512 (![] : Fin 0 → Fin S4x2048x16x512.rank)
  bcast_S_S4x2048x16x64 : S_.BroadcastsInDim S4x2048x16x64 (![] : Fin 0 → Fin S4x2048x16x64.rank)
  bcast_S_S9216x512 : S_.BroadcastsInDim S9216x512 (![] : Fin 0 → Fin S9216x512.rank)
  bcast_S_S9216x64 : S_.BroadcastsInDim S9216x64 (![] : Fin 0 → Fin S9216x64.rank)

variable [Facts]

def fn_part1 {F : FTy → Type} [FloatOps F] (main_arg3 : FVec F S9216x64 .f32) (main_v4 : IVec S4x2048x16x512 1) (main_v9 : IVec S4x2048x16x64 1) (main_v14 : IVec S9216x512 1) (main_v16 : IVec S9216x64 1) : IVec S4x2048x16x512 1 × IVec S4x2048x16x64 1 × IVec S9216x512 1 × IVec S9216x64 1 :=
  let main_cst_6 : FVec F S_ .f32 := constant S_ .f32 0x7F800000#32
  let main_v17 : FVec F S9216x64 .f32 := broadcastInDim S9216x64 ![] bcast_S_S9216x64 main_cst_6
  let main_v18 : IVec S9216x64 1 := cmpf .olt main_arg3 main_v17
  let main_v19 : IVec S9216x64 1 := andi main_v16 main_v18
  (main_v4, main_v9, main_v14, main_v19)

def fn {F : FTy → Type} [FloatOps F] (main_arg0 : FVec F S4x2048x16x512 .f32) (main_arg1 : FVec F S4x2048x16x64 .f32) (main_arg2 : FVec F S9216x512 .f32) (main_arg3 : FVec F S9216x64 .f32) (main_arg4 : FVec F S1x512x16x128 .f32) : IVec S4x2048x16x512 1 × IVec S4x2048x16x64 1 × IVec S9216x512 1 × IVec S9216x64 1 :=
  let main_cst : FVec F S_ .f32 := constant S_ .f32 0xFF800000#32
  let main_v0 : FVec F S4x2048x16x512 .f32 := broadcastInDim S4x2048x16x512 ![] bcast_S_S4x2048x16x512 main_cst
  let main_v1 : IVec S4x2048x16x512 1 := cmpf .ogt main_arg0 main_v0
  let main_cst_0 : FVec F S_ .f32 := constant S_ .f32 0x7F800000#32
  let main_v2 : FVec F S4x2048x16x512 .f32 := broadcastInDim S4x2048x16x512 ![] bcast_S_S4x2048x16x512 main_cst_0
  let main_v3 : IVec S4x2048x16x512 1 := cmpf .olt main_arg0 main_v2
  let main_v4 : IVec S4x2048x16x512 1 := andi main_v1 main_v3
  let main_cst_1 : FVec F S_ .f32 := constant S_ .f32 0xFF800000#32
  let main_v5 : FVec F S4x2048x16x64 .f32 := broadcastInDim S4x2048x16x64 ![] bcast_S_S4x2048x16x64 main_cst_1
  let main_v6 : IVec S4x2048x16x64 1 := cmpf .ogt main_arg1 main_v5
  let main_cst_2 : FVec F S_ .f32 := constant S_ .f32 0x7F800000#32
  let main_v7 : FVec F S4x2048x16x64 .f32 := broadcastInDim S4x2048x16x64 ![] bcast_S_S4x2048x16x64 main_cst_2
  let main_v8 : IVec S4x2048x16x64 1 := cmpf .olt main_arg1 main_v7
  let main_v9 : IVec S4x2048x16x64 1 := andi main_v6 main_v8
  let main_cst_3 : FVec F S_ .f32 := constant S_ .f32 0xFF800000#32
  let main_v10 : FVec F S9216x512 .f32 := broadcastInDim S9216x512 ![] bcast_S_S9216x512 main_cst_3
  let main_v11 : IVec S9216x512 1 := cmpf .ogt main_arg2 main_v10
  let main_cst_4 : FVec F S_ .f32 := constant S_ .f32 0x7F800000#32
  let main_v12 : FVec F S9216x512 .f32 := broadcastInDim S9216x512 ![] bcast_S_S9216x512 main_cst_4
  let main_v13 : IVec S9216x512 1 := cmpf .olt main_arg2 main_v12
  let main_v14 : IVec S9216x512 1 := andi main_v11 main_v13
  let main_cst_5 : FVec F S_ .f32 := constant S_ .f32 0xFF800000#32
  let main_v15 : FVec F S9216x64 .f32 := broadcastInDim S9216x64 ![] bcast_S_S9216x64 main_cst_5
  let main_v16 : IVec S9216x64 1 := cmpf .ogt main_arg3 main_v15
  fn_part1 (F := F) main_arg3 main_v4 main_v9 main_v14 main_v16
-- ==== Kernel.lean ====
abbrev S4x2048x16x512 : Shape := ⟨4, ![4, 2048, 16, 512]⟩
abbrev S4x2048x16x64 : Shape := ⟨4, ![4, 2048, 16, 64]⟩
abbrev S9216x512 : Shape := ⟨2, ![9216, 512]⟩
abbrev S9216x64 : Shape := ⟨2, ![9216, 64]⟩
abbrev S1x512x16x128 : Shape := ⟨4, ![1, 512, 16, 128]⟩
abbrev S8192x16x512 : Shape := ⟨3, ![8192, 16, 512]⟩
abbrev S16x8192x512 : Shape := ⟨3, ![16, 8192, 512]⟩
abbrev S_ : Shape := ⟨0, ![]⟩
abbrev S8192x16x64 : Shape := ⟨3, ![8192, 16, 64]⟩
abbrev S16x8192x64 : Shape := ⟨3, ![16, 8192, 64]⟩
abbrev S512x16x128 : Shape := ⟨3, ![512, 16, 128]⟩
abbrev S16x512x128 : Shape := ⟨3, ![16, 512, 128]⟩
abbrev S8192x2048 : Shape := ⟨2, ![8192, 2048]⟩
abbrev S16x64x512 : Shape := ⟨3, ![16, 64, 512]⟩
abbrev S16x64x64 : Shape := ⟨3, ![16, 64, 64]⟩
abbrev S2048x512 : Shape := ⟨2, ![2048, 512]⟩
abbrev S2048x64 : Shape := ⟨2, ![2048, 64]⟩
abbrev S64x2048 : Shape := ⟨2, ![64, 2048]⟩
abbrev S1024x1 : Shape := ⟨2, ![1024, 1]⟩
abbrev S1024x512 : Shape := ⟨2, ![1024, 512]⟩
abbrev S1024x64 : Shape := ⟨2, ![1024, 64]⟩
abbrev S512x512 : Shape := ⟨2, ![512, 512]⟩
abbrev S512x64 : Shape := ⟨2, ![512, 64]⟩
abbrev S1x512 : Shape := ⟨2, ![1, 512]⟩
abbrev S1024 : Shape := ⟨1, ![1024]⟩
abbrev S64x512 : Shape := ⟨2, ![64, 512]⟩
abbrev S1x512x128 : Shape := ⟨3, ![1, 512, 128]⟩
abbrev S512x128 : Shape := ⟨2, ![512, 128]⟩
abbrev S64x128 : Shape := ⟨2, ![64, 128]⟩

abbrev nBuf : Space → Nat
  | .hbm => 23
  | .vmem => 14
  | .smem => 0
  | _ => 0

abbrev bufTy : (tb : Table) → Fin (tcTables nBuf tb) → BufTy
  | .hbm, ⟨0, _⟩ => ⟨S4x2048x16x512, .f32⟩
  | .hbm, ⟨1, _⟩ => ⟨S4x2048x16x64, .f32⟩
  | .hbm, ⟨2, _⟩ => ⟨S9216x512, .f32⟩
  | .hbm, ⟨3, _⟩ => ⟨S9216x64, .f32⟩
  | .hbm, ⟨4, _⟩ => ⟨S1x512x16x128, .f32⟩
  | .hbm, ⟨5, _⟩ => ⟨S8192x16x512, .f32⟩
  | .hbm, ⟨6, _⟩ => ⟨S16x8192x512, .f32⟩
  | .hbm, ⟨7, _⟩ => ⟨S_, .f32⟩
  | .hbm, ⟨8, _⟩ => ⟨S16x8192x512, .f32⟩
  | .hbm, ⟨9, _⟩ => ⟨S16x8192x512, .f32⟩
  | .hbm, ⟨10, _⟩ => ⟨S16x8192x512, .bf16⟩
  | .hbm, ⟨11, _⟩ => ⟨S8192x16x64, .f32⟩
  | .hbm, ⟨12, _⟩ => ⟨S16x8192x64, .f32⟩
  | .hbm, ⟨13, _⟩ => ⟨S_, .f32⟩
  | .hbm, ⟨14, _⟩ => ⟨S16x8192x64, .f32⟩
  | .hbm, ⟨15, _⟩ => ⟨S16x8192x64, .f32⟩
  | .hbm, ⟨16, _⟩ => ⟨S16x8192x64, .bf16⟩
  | .hbm, ⟨17, _⟩ => ⟨S512x16x128, .f32⟩
  | .hbm, ⟨18, _⟩ => ⟨S16x512x128, .f32⟩
  | .hbm, ⟨19, _⟩ => ⟨S16x512x128, .bf16⟩
  | .hbm, ⟨20, _⟩ => ⟨S9216x512, .bf16⟩
  | .hbm, ⟨21, _⟩ => ⟨S9216x64, .bf16⟩
  | .hbm, ⟨22, _⟩ => ⟨S8192x2048, .bf16⟩
  | .local _ .vmem, ⟨0, _⟩ => ⟨S16x64x512, .bf16⟩
  | .local _ .vmem, ⟨1, _⟩ => ⟨S16x64x512, .bf16⟩
  | .local _ .vmem, ⟨2, _⟩ => ⟨S16x64x64, .bf16⟩
  | .local _ .vmem, ⟨3, _⟩ => ⟨S16x64x64, .bf16⟩
  | .local _ .vmem, ⟨4, _⟩ => ⟨S2048x512, .bf16⟩
  | .local _ .vmem, ⟨5, _⟩ => ⟨S2048x512, .bf16⟩
  | .local _ .vmem, ⟨6, _⟩ => ⟨S2048x64, .bf16⟩
  | .local _ .vmem, ⟨7, _⟩ => ⟨S2048x64, .bf16⟩
  | .local _ .vmem, ⟨8, _⟩ => ⟨S16x512x128, .bf16⟩
  | .local _ .vmem, ⟨9, _⟩ => ⟨S64x2048, .bf16⟩
  | .local _ .vmem, ⟨10, _⟩ => ⟨S64x2048, .bf16⟩
  | .local _ .vmem, ⟨11, _⟩ => ⟨S1024x1, .f32⟩
  | .local _ .vmem, ⟨12, _⟩ => ⟨S1024x1, .f32⟩
  | .local _ .vmem, ⟨13, _⟩ => ⟨S1024x512, .f32⟩
  | _, _ => ⟨S4x2048x16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 32], ![false, false]⟩

@[reducible] def k0_t1_loop (i : grid0.Coords) : Scf.Loop 32 :=
  let c0_i32_28 : BitVec 32 := 0#32
  let arg1 : BitVec 32 := BitVec.ofNat 32 (i 1).val
  let c1_i32_17 : BitVec 32 := 1#32
  let v38 : BitVec 32 := Scalar.addi arg1 c1_i32_17
  let c64_i32_18 : BitVec 32 := 64#32
  let v39 : BitVec 32 := Scalar.muli v38 c64_i32_18
  let c512_i32 : BitVec 32 := 512#32
  let v40 : BitVec 32 := Scalar.addi v39 c512_i32
  let c1_i32_19 : BitVec 32 := 1#32
  let v41 : BitVec 32 := Scalar.subi v40 c1_i32_19
  let c0_i32_21 : BitVec 32 := 0#32
  let v43 : BitVec 1 := Scalar.cmpi .sgt v41 c0_i32_21
  let v44 : BitVec 32 := Scalar.extui v43
  let c0_i32_22 : BitVec 32 := 0#32
  let v45 : BitVec 1 := Scalar.cmpi .slt v41 c0_i32_22
  let v46 : BitVec 32 := Scalar.extui v45
  let v47 : BitVec 32 := Scalar.subi v44 v46
  let c512_i32_20 : BitVec 32 := 512#32
  let c0_i32_23 : BitVec 32 := 0#32
  let v48 : BitVec 1 := Scalar.cmpi .sgt c512_i32_20 c0_i32_23
  let v49 : BitVec 32 := Scalar.extui v48
  let c0_i32_24 : BitVec 32 := 0#32
  let v50 : BitVec 1 := Scalar.cmpi .slt c512_i32_20 c0_i32_24
  let v51 : BitVec 32 := Scalar.extui v50
  let v52 : BitVec 32 := Scalar.subi v49 v51
  let v53 : BitVec 1 := Scalar.cmpi .ne v47 v52
  let v54 : BitVec 32 := Scalar.remsi v41 c512_i32_20
  let c0_i32_25 : BitVec 32 := 0#32
  let v55 : BitVec 1 := Scalar.cmpi .ne v54 c0_i32_25
  let v56 : BitVec 1 := Scalar.andi v53 v55
  let v42 : BitVec 32 := Scalar.divsi v41 c512_i32_20
  let c1_i32_26 : BitVec 32 := 1#32
  let v57 : BitVec 32 := Scalar.subi v42 c1_i32_26
  let v58 : BitVec 32 := Scalar.select v56 v57 v42
  let v59 : BitVec 32 := Scalar.subi v58 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_30 : BitVec 32 := 1#32
  ⟨c0_i32_28, v63, c1_i32_30⟩
def k0_mult1 (i : grid0.Coords) (k0_t1 : Fin (k0_t1_loop i).trips) : BitVec 32 :=
  let c0_i32_28 : BitVec 32 := 0#32
  let c1_i32_30 : BitVec 32 := 1#32
  let arg11 : BitVec 32 := Scf.iv c0_i32_28 c1_i32_30 k0_t1
  let c512_i32_102 : BitVec 32 := 512#32
  let v165 : BitVec 32 := Scalar.muli arg11 c512_i32_102
  v165
def k0_off1 (i : grid0.Coords) (k0_t1 : Fin (k0_t1_loop i).trips) : Fin 2 → Nat :=
  let c0_i32_28 : BitVec 32 := 0#32
  let c1_i32_30 : BitVec 32 := 1#32
  let arg11 : BitVec 32 := Scf.iv c0_i32_28 c1_i32_30 k0_t1
  let c512_i32_102 : BitVec 32 := 512#32
  let v165 : BitVec 32 := Scalar.muli arg11 c512_i32_102
  let v166 : BitVec 32 := v165
  let v167 : Index := Scalar.indexCast v166
  let c0_103 : Index := 0#32
  ![v167.toNat, 0]
def k0_off2 (i : grid0.Coords) (k0_t1 : Fin (k0_t1_loop i).trips) : Fin 2 → Nat :=
  let c0_i32_28 : BitVec 32 := 0#32
  let c1_i32_30 : BitVec 32 := 1#32
  let arg11 : BitVec 32 := Scf.iv c0_i32_28 c1_i32_30 k0_t1
  let c512_i32_102 : BitVec 32 := 512#32
  let v165 : BitVec 32 := Scalar.muli arg11 c512_i32_102
  let v166 : BitVec 32 := v165
  let v171 : Index := Scalar.indexCast v166
  let c0_105 : Index := 0#32
  ![v171.toNat, 0]
@[reducible] def k0_t2_loop (i : grid0.Coords) : Scf.Loop 32 :=
  let c0_i32_28 : BitVec 32 := 0#32
  let arg1 : BitVec 32 := BitVec.ofNat 32 (i 1).val
  let c1_i32_17 : BitVec 32 := 1#32
  let v38 : BitVec 32 := Scalar.addi arg1 c1_i32_17
  let c64_i32_18 : BitVec 32 := 64#32
  let v39 : BitVec 32 := Scalar.muli v38 c64_i32_18
  let c512_i32 : BitVec 32 := 512#32
  let v40 : BitVec 32 := Scalar.addi v39 c512_i32
  let c1_i32_19 : BitVec 32 := 1#32
  let v41 : BitVec 32 := Scalar.subi v40 c1_i32_19
  let c0_i32_21 : BitVec 32 := 0#32
  let v43 : BitVec 1 := Scalar.cmpi .sgt v41 c0_i32_21
  let v44 : BitVec 32 := Scalar.extui v43
  let c0_i32_22 : BitVec 32 := 0#32
  let v45 : BitVec 1 := Scalar.cmpi .slt v41 c0_i32_22
  let v46 : BitVec 32 := Scalar.extui v45
  let v47 : BitVec 32 := Scalar.subi v44 v46
  let c512_i32_20 : BitVec 32 := 512#32
  let c0_i32_23 : BitVec 32 := 0#32
  let v48 : BitVec 1 := Scalar.cmpi .sgt c512_i32_20 c0_i32_23
  let v49 : BitVec 32 := Scalar.extui v48
  let c0_i32_24 : BitVec 32 := 0#32
  let v50 : BitVec 1 := Scalar.cmpi .slt c512_i32_20 c0_i32_24
  let v51 : BitVec 32 := Scalar.extui v50
  let v52 : BitVec 32 := Scalar.subi v49 v51
  let v53 : BitVec 1 := Scalar.cmpi .ne v47 v52
  let v54 : BitVec 32 := Scalar.remsi v41 c512_i32_20
  let c0_i32_25 : BitVec 32 := 0#32
  let v55 : BitVec 1 := Scalar.cmpi .ne v54 c0_i32_25
  let v56 : BitVec 1 := Scalar.andi v53 v55
  let v42 : BitVec 32 := Scalar.divsi v41 c512_i32_20
  let c1_i32_26 : BitVec 32 := 1#32
  let v57 : BitVec 32 := Scalar.subi v42 c1_i32_26
  let v58 : BitVec 32 := Scalar.select v56 v57 v42
  let v59 : BitVec 32 := Scalar.subi v58 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let v60 : BitVec 32 := Scalar.addi c0_i32_28 v59
  let c1_i32_31 : BitVec 32 := 1#32
  ⟨v63, v60, c1_i32_31⟩
def k0_mult2 (i : grid0.Coords) (k0_t2 : Fin (k0_t2_loop i).trips) : BitVec 32 :=
  let c0_i32_28 : BitVec 32 := 0#32
  let arg1 : BitVec 32 := BitVec.ofNat 32 (i 1).val
  let c1_i32_17 : BitVec 32 := 1#32
  let v38 : BitVec 32 := Scalar.addi arg1 c1_i32_17
  let c64_i32_18 : BitVec 32 := 64#32
  let v39 : BitVec 32 := Scalar.muli v38 c64_i32_18
  let c512_i32 : BitVec 32 := 512#32
  let v40 : BitVec 32 := Scalar.addi v39 c512_i32
  let c1_i32_19 : BitVec 32 := 1#32
  let v41 : BitVec 32 := Scalar.subi v40 c1_i32_19
  let c0_i32_21 : BitVec 32 := 0#32
  let v43 : BitVec 1 := Scalar.cmpi .sgt v41 c0_i32_21
  let v44 : BitVec 32 := Scalar.extui v43
  let c0_i32_22 : BitVec 32 := 0#32
  let v45 : BitVec 1 := Scalar.cmpi .slt v41 c0_i32_22
  let v46 : BitVec 32 := Scalar.extui v45
  let v47 : BitVec 32 := Scalar.subi v44 v46
  let c512_i32_20 : BitVec 32 := 512#32
  let c0_i32_23 : BitVec 32 := 0#32
  let v48 : BitVec 1 := Scalar.cmpi .sgt c512_i32_20 c0_i32_23
  let v49 : BitVec 32 := Scalar.extui v48
  let c0_i32_24 : BitVec 32 := 0#32
  let v50 : BitVec 1 := Scalar.cmpi .slt c512_i32_20 c0_i32_24
  let v51 : BitVec 32 := Scalar.extui v50
  let v52 : BitVec 32 := Scalar.subi v49 v51
  let v53 : BitVec 1 := Scalar.cmpi .ne v47 v52
  let v54 : BitVec 32 := Scalar.remsi v41 c512_i32_20
  let c0_i32_25 : BitVec 32 := 0#32
  let v55 : BitVec 1 := Scalar.cmpi .ne v54 c0_i32_25
  let v56 : BitVec 1 := Scalar.andi v53 v55
  let v42 : BitVec 32 := Scalar.divsi v41 c512_i32_20
  let c1_i32_26 : BitVec 32 := 1#32
  let v57 : BitVec 32 := Scalar.subi v42 c1_i32_26
  let v58 : BitVec 32 := Scalar.select v56 v57 v42
  let v59 : BitVec 32 := Scalar.subi v58 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg11 : BitVec 32 := Scf.iv v63 c1_i32_31 k0_t2
  let c512_i32_102 : BitVec 32 := 512#32
  let v165 : BitVec 32 := Scalar.muli arg11 c512_i32_102
  v165
def k0_off3 (i : grid0.Coords) (k0_t2 : Fin (k0_t2_loop i).trips) : Fin 2 → Nat :=
  let c0_i32_28 : BitVec 32 := 0#32
  let arg1 : BitVec 32 := BitVec.ofNat 32 (i 1).val
  let c1_i32_17 : BitVec 32 := 1#32
  let v38 : BitVec 32 := Scalar.addi arg1 c1_i32_17
  let c64_i32_18 : BitVec 32 := 64#32
  let v39 : BitVec 32 := Scalar.muli v38 c64_i32_18
  let c512_i32 : BitVec 32 := 512#32
  let v40 : BitVec 32 := Scalar.addi v39 c512_i32
  let c1_i32_19 : BitVec 32 := 1#32
  let v41 : BitVec 32 := Scalar.subi v40 c1_i32_19
  let c0_i32_21 : BitVec 32 := 0#32
  let v43 : BitVec 1 := Scalar.cmpi .sgt v41 c0_i32_21
  let v44 : BitVec 32 := Scalar.extui v43
  let c0_i32_22 : BitVec 32 := 0#32
  let v45 : BitVec 1 := Scalar.cmpi .slt v41 c0_i32_22
  let v46 : BitVec 32 := Scalar.extui v45
  let v47 : BitVec 32 := Scalar.subi v44 v46
  let c512_i32_20 : BitVec 32 := 512#32
  let c0_i32_23 : BitVec 32 := 0#32
  let v48 : BitVec 1 := Scalar.cmpi .sgt c512_i32_20 c0_i32_23
  let v49 : BitVec 32 := Scalar.extui v48
  let c0_i32_24 : BitVec 32 := 0#32
  let v50 : BitVec 1 := Scalar.cmpi .slt c512_i32_20 c0_i32_24
  let v51 : BitVec 32 := Scalar.extui v50
  let v52 : BitVec 32 := Scalar.subi v49 v51
  let v53 : BitVec 1 := Scalar.cmpi .ne v47 v52
  let v54 : BitVec 32 := Scalar.remsi v41 c512_i32_20
  let c0_i32_25 : BitVec 32 := 0#32
  let v55 : BitVec 1 := Scalar.cmpi .ne v54 c0_i32_25
  let v56 : BitVec 1 := Scalar.andi v53 v55
  let v42 : BitVec 32 := Scalar.divsi v41 c512_i32_20
  let c1_i32_26 : BitVec 32 := 1#32
  let v57 : BitVec 32 := Scalar.subi v42 c1_i32_26
  let v58 : BitVec 32 := Scalar.select v56 v57 v42
  let v59 : BitVec 32 := Scalar.subi v58 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg11 : BitVec 32 := Scf.iv v63 c1_i32_31 k0_t2
  let c512_i32_102 : BitVec 32 := 512#32
  let v165 : BitVec 32 := Scalar.muli arg11 c512_i32_102
  let v166 : BitVec 32 := v165
  let v167 : Index := Scalar.indexCast v166
  let c0_103 : Index := 0#32
  ![v167.toNat, 0]
def k0_off4 (i : grid0.Coords) (k0_t2 : Fin (k0_t2_loop i).trips) : Fin 2 → Nat :=
  let c0_i32_28 : BitVec 32 := 0#32
  let arg1 : BitVec 32 := BitVec.ofNat 32 (i 1).val
  let c1_i32_17 : BitVec 32 := 1#32
  let v38 : BitVec 32 := Scalar.addi arg1 c1_i32_17
  let c64_i32_18 : BitVec 32 := 64#32
  let v39 : BitVec 32 := Scalar.muli v38 c64_i32_18
  let c512_i32 : BitVec 32 := 512#32
  let v40 : BitVec 32 := Scalar.addi v39 c512_i32
  let c1_i32_19 : BitVec 32 := 1#32
  let v41 : BitVec 32 := Scalar.subi v40 c1_i32_19
  let c0_i32_21 : BitVec 32 := 0#32
  let v43 : BitVec 1 := Scalar.cmpi .sgt v41 c0_i32_21
  let v44 : BitVec 32 := Scalar.extui v43
  let c0_i32_22 : BitVec 32 := 0#32
  let v45 : BitVec 1 := Scalar.cmpi .slt v41 c0_i32_22
  let v46 : BitVec 32 := Scalar.extui v45
  let v47 : BitVec 32 := Scalar.subi v44 v46
  let c512_i32_20 : BitVec 32 := 512#32
  let c0_i32_23 : BitVec 32 := 0#32
  let v48 : BitVec 1 := Scalar.cmpi .sgt c512_i32_20 c0_i32_23
  let v49 : BitVec 32 := Scalar.extui v48
  let c0_i32_24 : BitVec 32 := 0#32
  let v50 : BitVec 1 := Scalar.cmpi .slt c512_i32_20 c0_i32_24
  let v51 : BitVec 32 := Scalar.extui v50
  let v52 : BitVec 32 := Scalar.subi v49 v51
  let v53 : BitVec 1 := Scalar.cmpi .ne v47 v52
  let v54 : BitVec 32 := Scalar.remsi v41 c512_i32_20
  let c0_i32_25 : BitVec 32 := 0#32
  let v55 : BitVec 1 := Scalar.cmpi .ne v54 c0_i32_25
  let v56 : BitVec 1 := Scalar.andi v53 v55
  let v42 : BitVec 32 := Scalar.divsi v41 c512_i32_20
  let c1_i32_26 : BitVec 32 := 1#32
  let v57 : BitVec 32 := Scalar.subi v42 c1_i32_26
  let v58 : BitVec 32 := Scalar.select v56 v57 v42
  let v59 : BitVec 32 := Scalar.subi v58 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg11 : BitVec 32 := Scf.iv v63 c1_i32_31 k0_t2
  let c512_i32_102 : BitVec 32 := 512#32
  let v165 : BitVec 32 := Scalar.muli arg11 c512_i32_102
  let v166 : BitVec 32 := v165
  let v171 : Index := Scalar.indexCast v166
  let c0_105 : Index := 0#32
  ![v171.toNat, 0]
def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S16x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x64x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S16x512x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S64x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S4x2048x16x512 : Shape := ⟨4, ![4, 2048, 16, 512]⟩
abbrev S4x2048x16x64 : Shape := ⟨4, ![4, 2048, 16, 64]⟩
abbrev S9216x512 : Shape := ⟨2, ![9216, 512]⟩
abbrev S9216x64 : Shape := ⟨2, ![9216, 64]⟩
abbrev S1x512x16x128 : Shape := ⟨4, ![1, 512, 16, 128]⟩
abbrev S8192x512 : Shape := ⟨2, ![8192, 512]⟩
abbrev S4x2048x512 : Shape := ⟨3, ![4, 2048, 512]⟩
abbrev S8192x64 : Shape := ⟨2, ![8192, 64]⟩
abbrev S4x2048x64 : Shape := ⟨3, ![4, 2048, 64]⟩
abbrev S4x2048x2048x16 : Shape := ⟨4, ![4, 2048, 2048, 16]⟩
abbrev S4x16x2048x2048 : Shape := ⟨4, ![4, 16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x16x2048 : Shape := ⟨3, ![4, 16, 2048]⟩
abbrev S4x16x2048x1 : Shape := ⟨4, ![4, 16, 2048, 1]⟩
abbrev S4x512x16x2048 : Shape := ⟨4, ![4, 512, 16, 2048]⟩
abbrev S512x16x128 : Shape := ⟨3, ![512, 16, 128]⟩
abbrev S16x128x4x2048 : Shape := ⟨4, ![16, 128, 4, 2048]⟩
abbrev S4x2048x16x128 : Shape := ⟨4, ![4, 2048, 16, 128]⟩
abbrev S8192x2048 : Shape := ⟨2, ![8192, 2048]⟩

abbrev nBuf : Space → Nat
  | .hbm => 49
  | .vmem => 0
  | .smem => 0
  | _ => 0

abbrev bufTy : (tb : Table) → Fin (tcTables nBuf tb) → BufTy
  | .hbm, ⟨0, _⟩ => ⟨S4x2048x16x512, .f32⟩
  | .hbm, ⟨1, _⟩ => ⟨S4x2048x16x64, .f32⟩
  | .hbm, ⟨2, _⟩ => ⟨S9216x512, .f32⟩
  | .hbm, ⟨3, _⟩ => ⟨S9216x64, .f32⟩
  | .hbm, ⟨4, _⟩ => ⟨S1x512x16x128, .f32⟩
  | .hbm, ⟨5, _⟩ => ⟨S8192x512, .f32⟩
  | .hbm, ⟨6, _⟩ => ⟨S4x2048x512, .f32⟩
  | .hbm, ⟨7, _⟩ => ⟨S8192x64, .f32⟩
  | .hbm, ⟨8, _⟩ => ⟨S4x2048x64, .f32⟩
  | .hbm, ⟨9, _⟩ => ⟨S4x2048x2048x16, .f32⟩
  | .hbm, ⟨10, _⟩ => ⟨S4x16x2048x2048, .f32⟩
  | .hbm, ⟨11, _⟩ => ⟨S4x2048x2048x16, .f32⟩
  | .hbm, ⟨12, _⟩ => ⟨S4x16x2048x2048, .f32⟩
  | .hbm, ⟨13, _⟩ => ⟨S4x16x2048x2048, .f32⟩
  | .hbm, ⟨14, _⟩ => ⟨S_, .f32⟩
  | .hbm, ⟨15, _⟩ => ⟨S4x16x2048x2048, .f32⟩
  | .hbm, ⟨16, _⟩ => ⟨S4x16x2048x2048, .f32⟩
  | .hbm, ⟨17, _⟩ => ⟨S2048, .i32⟩
  | .hbm, ⟨18, _⟩ => ⟨S1x2048, .i32⟩
  | .hbm, ⟨19, _⟩ => ⟨S2048x1, .i32⟩
  | .hbm, ⟨20, _⟩ => ⟨S2048x2048, .i32⟩
  | .hbm, ⟨21, _⟩ => ⟨S2048x2048, .i32⟩
  | .hbm, ⟨22, _⟩ => ⟨S2048x2048, .i1⟩
  | .hbm, ⟨23, _⟩ => ⟨S_, .f32⟩
  | .hbm, ⟨24, _⟩ => ⟨S_, .f32⟩
  | .hbm, ⟨25, _⟩ => ⟨S4x16x2048x2048, .i1⟩
  | .hbm, ⟨26, _⟩ => ⟨S4x16x2048x2048, .f32⟩
  | .hbm, ⟨27, _⟩ => ⟨S4x16x2048x2048, .f32⟩
  | .hbm, ⟨28, _⟩ => ⟨S_, .f32⟩
  | .hbm, ⟨29, _⟩ => ⟨S4x16x2048, .f32⟩
  | .hbm, ⟨30, _⟩ => ⟨S_, .f32⟩
  | .hbm, ⟨31, _⟩ => ⟨S4x16x2048, .f32⟩
  | .hbm, ⟨32, _⟩ => ⟨S4x16x2048, .f32⟩
  | .hbm, ⟨33, _⟩ => ⟨S4x16x2048x1, .f32⟩
  | .hbm, ⟨34, _⟩ => ⟨S4x16x2048x2048, .f32⟩
  | .hbm, ⟨35, _⟩ => ⟨S4x16x2048x2048, .f32⟩
  | .hbm, ⟨36, _⟩ => ⟨S4x16x2048x2048, .f32⟩
  | .hbm, ⟨37, _⟩ => ⟨S_, .f32⟩
  | .hbm, ⟨38, _⟩ => ⟨S4x16x2048, .f32⟩
  | .hbm, ⟨39, _⟩ => ⟨S4x16x2048x1, .f32⟩
  | .hbm, ⟨40, _⟩ => ⟨S4x16x2048x2048, .f32⟩
  | .hbm, ⟨41, _⟩ => ⟨S4x16x2048x2048, .f32⟩
  | .hbm, ⟨42, _⟩ => ⟨S4x512x16x2048, .f32⟩
  | .hbm, ⟨43, _⟩ => ⟨S4x2048x16x512, .f32⟩
  | .hbm, ⟨44, _⟩ => ⟨S512x16x128, .f32⟩
  | .hbm, ⟨45, _⟩ => ⟨S16x128x4x2048, .f32⟩
  | .hbm, ⟨46, _⟩ => ⟨S4x2048x16x128, .f32⟩
  | .hbm, ⟨47, _⟩ => ⟨S8192x2048, .f32⟩
  | .hbm, ⟨48, _⟩ => ⟨S8192x2048, .bf16⟩
  | _, _ => ⟨S4x2048x16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Kernel2.lean ====
abbrev S9216x4096 : Shape := ⟨2, ![9216, 4096]⟩
abbrev S1x4096x16320 : Shape := ⟨3, ![1, 4096, 16320]⟩
abbrev S4096x16320 : Shape := ⟨2, ![4096, 16320]⟩
abbrev S4096x6144 : Shape := ⟨2, ![4096, 6144]⟩
abbrev S4096x64 : Shape := ⟨2, ![4096, 64]⟩
abbrev S4096x256 : Shape := ⟨2, ![4096, 256]⟩
abbrev S4096x1024 : Shape := ⟨2, ![4096, 1024]⟩
abbrev S4096x512 : Shape := ⟨2, ![4096, 512]⟩
abbrev S4096x8192 : Shape := ⟨2, ![4096, 8192]⟩
abbrev S_ : Shape := ⟨0, ![]⟩
abbrev S4096x16384 : Shape := ⟨2, ![4096, 16384]⟩
abbrev S9216x16384 : Shape := ⟨2, ![9216, 16384]⟩
abbrev S1024x4096 : Shape := ⟨2, ![1024, 4096]⟩
abbrev S1024x512 : Shape := ⟨2, ![1024, 512]⟩
abbrev S9216x6144 : Shape := ⟨2, ![9216, 6144]⟩
abbrev S9216x128 : Shape := ⟨2, ![9216, 128]⟩
abbrev S9216x256 : Shape := ⟨2, ![9216, 256]⟩
abbrev S9216x6528 : Shape := ⟨2, ![9216, 6528]⟩
abbrev S9216x1024 : Shape := ⟨2, ![9216, 1024]⟩
abbrev S9216x512 : Shape := ⟨2, ![9216, 512]⟩
abbrev S9216x64 : Shape := ⟨2, ![9216, 64]⟩
abbrev S9216x576 : Shape := ⟨2, ![9216, 576]⟩
abbrev S9216x8192 : Shape := ⟨2, ![9216, 8192]⟩
abbrev S4 : Shape := ⟨1, ![4]⟩
abbrev S4x1 : Shape := ⟨2, ![4, 1]⟩
abbrev S4x16384 : Shape := ⟨2, ![4, 16384]⟩
abbrev S4x6144 : Shape := ⟨2, ![4, 6144]⟩
abbrev S4x128 : Shape := ⟨2, ![4, 128]⟩
abbrev S4x256 : Shape := ⟨2, ![4, 256]⟩
abbrev S4x6528 : Shape := ⟨2, ![4, 6528]⟩
abbrev S1x4x6528 : Shape := ⟨3, ![1, 4, 6528]⟩
abbrev S128 : Shape := ⟨1, ![128]⟩
abbrev S128x1 : Shape := ⟨2, ![128, 1]⟩
abbrev S128x16384 : Shape := ⟨2, ![128, 16384]⟩
abbrev S128x6144 : Shape := ⟨2, ![128, 6144]⟩
abbrev S128x128 : Shape := ⟨2, ![128, 128]⟩
abbrev S128x256 : Shape := ⟨2, ![128, 256]⟩
abbrev S128x6528 : Shape := ⟨2, ![128, 6528]⟩
abbrev S1x128x6528 : Shape := ⟨3, ![1, 128, 6528]⟩

abbrev nBuf : Space → Nat
  | .hbm => 74
  | .vmem => 6
  | .smem => 0
  | _ => 0

abbrev bufTy : (tb : Table) → Fin (tcTables nBuf tb) → BufTy
  | .hbm, ⟨0, _⟩ => ⟨S9216x4096, .f32⟩
  | .hbm, ⟨1, _⟩ => ⟨S1x4096x16320, .f32⟩
  | .hbm, ⟨2, _⟩ => ⟨S4096x16320, .f32⟩
  | .hbm, ⟨3, _⟩ => ⟨S4096x6144, .f32⟩
  | .hbm, ⟨4, _⟩ => ⟨S4096x64, .f32⟩
  | .hbm, ⟨5, _⟩ => ⟨S4096x64, .f32⟩
  | .hbm, ⟨6, _⟩ => ⟨S4096x256, .f32⟩
  | .hbm, ⟨7, _⟩ => ⟨S4096x1024, .f32⟩
  | .hbm, ⟨8, _⟩ => ⟨S4096x512, .f32⟩
  | .hbm, ⟨9, _⟩ => ⟨S4096x64, .f32⟩
  | .hbm, ⟨10, _⟩ => ⟨S4096x8192, .f32⟩
  | .hbm, ⟨11, _⟩ => ⟨S_, .f32⟩
  | .hbm, ⟨12, _⟩ => ⟨S4096x64, .f32⟩
  | .hbm, ⟨13, _⟩ => ⟨S4096x16384, .f32⟩
  | .hbm, ⟨14, _⟩ => ⟨S4096x16384, .bf16⟩
  | .hbm, ⟨15, _⟩ => ⟨S9216x4096, .bf16⟩
  | .hbm, ⟨16, _⟩ => ⟨S9216x16384, .f32⟩
  | .hbm, ⟨17, _⟩ => ⟨S9216x6144, .f32⟩
  | .hbm, ⟨18, _⟩ => ⟨S9216x128, .f32⟩
  | .hbm, ⟨19, _⟩ => ⟨S9216x256, .f32⟩
  | .hbm, ⟨20, _⟩ => ⟨S9216x6528, .f32⟩
  | .hbm, ⟨21, _⟩ => ⟨S9216x1024, .f32⟩
  | .hbm, ⟨22, _⟩ => ⟨S9216x512, .f32⟩
  | .hbm, ⟨23, _⟩ => ⟨S9216x64, .f32⟩
  | .hbm, ⟨24, _⟩ => ⟨S9216x576, .f32⟩
  | .hbm, ⟨25, _⟩ => ⟨S9216x8192, .f32⟩
  | .hbm, ⟨26, _⟩ => ⟨S4, .i32⟩
  | .hbm, ⟨27, _⟩ => ⟨S_, .i32⟩
  | .hbm, ⟨28, _⟩ => ⟨S4, .i32⟩
  | .hbm, ⟨29, _⟩ => ⟨S4, .i32⟩
  | .hbm, ⟨30, _⟩ => ⟨S_, .i32⟩
  | .hbm, ⟨31, _⟩ => ⟨S4, .i32⟩
  | .hbm, ⟨32, _⟩ => ⟨S4, .i32⟩
  | .hbm, ⟨33, _⟩ => ⟨S_, .i32⟩
  | .hbm, ⟨34, _⟩ => ⟨S4, .i32⟩
  | .hbm, ⟨35, _⟩ => ⟨S4, .i32⟩
  | .hbm, ⟨36, _⟩ => ⟨S_, .i32⟩
  | .hbm, ⟨37, _⟩ => ⟨S4, .i32⟩
  | .hbm, ⟨38, _⟩ => ⟨S4, .i1⟩
  | .hbm, ⟨39, _⟩ => ⟨S_, .i32⟩
  | .hbm, ⟨40, _⟩ => ⟨S4, .i32⟩
  | .hbm, ⟨41, _⟩ => ⟨S4, .i32⟩
  | .hbm, ⟨42, _⟩ => ⟨S4, .i32⟩
  | .hbm, ⟨43, _⟩ => ⟨S4x1, .i32⟩
  | .hbm, ⟨44, _⟩ => ⟨S4x16384, .f32⟩
  | .hbm, ⟨45, _⟩ => ⟨S4x6144, .f32⟩
  | .hbm, ⟨46, _⟩ => ⟨S4x128, .f32⟩
  | .hbm, ⟨47, _⟩ => ⟨S4x256, .f32⟩
  | .hbm, ⟨48, _⟩ => ⟨S4x6528, .f32⟩
  | .hbm, ⟨49, _⟩ => ⟨S1x4x6528, .f32⟩
  | .hbm, ⟨50, _⟩ => ⟨S128, .i32⟩
  | .hbm, ⟨51, _⟩ => ⟨S_, .i32⟩
  | .hbm, ⟨52, _⟩ => ⟨S128, .i32⟩
  | .hbm, ⟨53, _⟩ => ⟨S128, .i32⟩
  | .hbm, ⟨54, _⟩ => ⟨S_, .i32⟩
  | .hbm, ⟨55, _⟩ => ⟨S128, .i32⟩
  | .hbm, ⟨56, _⟩ => ⟨S128, .i32⟩
  | .hbm, ⟨57, _⟩ => ⟨S_, .i32⟩
  | .hbm, ⟨58, _⟩ => ⟨S128, .i32⟩
  | .hbm, ⟨59, _⟩ => ⟨S128, .i32⟩
  | .hbm, ⟨60, _⟩ => ⟨S_, .i32⟩
  | .hbm, ⟨61, _⟩ => ⟨S128, .i32⟩
  | .hbm, ⟨62, _⟩ => ⟨S128, .i1⟩
  | .hbm, ⟨63, _⟩ => ⟨S_, .i32⟩
  | .hbm, ⟨64, _⟩ => ⟨S128, .i32⟩
  | .hbm, ⟨65, _⟩ => ⟨S128, .i32⟩
  | .hbm, ⟨66, _⟩ => ⟨S128, .i32⟩
  | .hbm, ⟨67, _⟩ => ⟨S128x1, .i32⟩
  | .hbm, ⟨68, _⟩ => ⟨S128x16384, .f32⟩
  | .hbm, ⟨69, _⟩ => ⟨S128x6144, .f32⟩
  | .hbm, ⟨70, _⟩ => ⟨S128x128, .f32⟩
  | .hbm, ⟨71, _⟩ => ⟨S128x256, .f32⟩
  | .hbm, ⟨72, _⟩ => ⟨S128x6528, .f32⟩
  | .hbm, ⟨73, _⟩ => ⟨S1x128x6528, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S9216x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_c : Ref sig .tc := ⟨.hbm, 27, rfl⟩
abbrev main_v24 : Ref sig .tc := ⟨.hbm, 28, rfl⟩
abbrev main_v25 : Ref sig .tc := ⟨.hbm, 29, rfl⟩
abbrev main_c_0 : Ref sig .tc := ⟨.hbm, 30, rfl⟩
abbrev main_v26 : Ref sig .tc := ⟨.hbm, 31, rfl⟩
abbrev main_v27 : Ref sig .tc := ⟨.hbm, 32, rfl⟩
abbrev main_c_1 : Ref sig .tc := ⟨.hbm, 33, rfl⟩
abbrev main_v28 : Ref sig .tc := ⟨.hbm, 34, rfl⟩
abbrev main_v29 : Ref sig .tc := ⟨.hbm, 35, rfl⟩
abbrev main_c_2 : Ref sig .tc := ⟨.hbm, 36, rfl⟩
abbrev main_v30 : Ref sig .tc := ⟨.hbm, 37, rfl⟩
abbrev main_v31 : Ref sig .tc := ⟨.hbm, 38, rfl⟩
abbrev main_c_3 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_c_4 : Ref sig .tc := ⟨.hbm, 51, rfl⟩
abbrev main_v43 : Ref sig .tc := ⟨.hbm, 52, rfl⟩
abbrev main_v44 : Ref sig .tc := ⟨.hbm, 53, rfl⟩
abbrev main_c_5 : Ref sig .tc := ⟨.hbm, 54, rfl⟩
abbrev main_v45 : Ref sig .tc := ⟨.hbm, 55, rfl⟩
abbrev main_v46 : Ref sig .tc := ⟨.hbm, 56, rfl⟩
abbrev main_c_6 : Ref sig .tc := ⟨.hbm, 57, rfl⟩
abbrev main_v47 : Ref sig .tc := ⟨.hbm, 58, rfl⟩
abbrev main_v48 : Ref sig .tc := ⟨.hbm, 59, rfl⟩
abbrev main_c_7 : Ref sig .tc := ⟨.hbm, 60, rfl⟩
abbrev main_v49 : Ref sig .tc := ⟨.hbm, 61, rfl⟩
abbrev main_v50 : Ref sig .tc := ⟨.hbm, 62, rfl⟩
abbrev main_c_8 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![9, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S9216x4096 : Shape := ⟨2, ![9216, 4096]⟩
abbrev S1x4096x16320 : Shape := ⟨3, ![1, 4096, 16320]⟩
abbrev S4096x16320 : Shape := ⟨2, ![4096, 16320]⟩
abbrev S9216x16320 : Shape := ⟨2, ![9216, 16320]⟩
abbrev S9216x6528 : Shape := ⟨2, ![9216, 6528]⟩
abbrev S9216x1024 : Shape := ⟨2, ![9216, 1024]⟩
abbrev S9216x576 : Shape := ⟨2, ![9216, 576]⟩
abbrev S9216x8192 : Shape := ⟨2, ![9216, 8192]⟩
abbrev S8192x6528 : Shape := ⟨2, ![8192, 6528]⟩
abbrev S4x2048x6528 : Shape := ⟨3, ![4, 2048, 6528]⟩
abbrev S4x1x6528 : Shape := ⟨3, ![4, 1, 6528]⟩
abbrev S4x6528 : Shape := ⟨2, ![4, 6528]⟩
abbrev S1024x6528 : Shape := ⟨2, ![1024, 6528]⟩
abbrev S128x8x6528 : Shape := ⟨3, ![128, 8, 6528]⟩
abbrev S128x1x6528 : Shape := ⟨3, ![128, 1, 6528]⟩
abbrev S128x6528 : Shape := ⟨2, ![128, 6528]⟩
abbrev S1x4x6528 : Shape := ⟨3, ![1, 4, 6528]⟩
abbrev S1x128x6528 : Shape := ⟨3, ![1, 128, 6528]⟩

abbrev nBuf : Space → Nat
  | .hbm => 18
  | .vmem => 0
  | .smem => 0
  | _ => 0

abbrev bufTy : (tb : Table) → Fin (tcTables nBuf tb) → BufTy
  | .hbm, ⟨0, _⟩ => ⟨S9216x4096, .f32⟩
  | .hbm, ⟨1, _⟩ => ⟨S1x4096x16320, .f32⟩
  | .hbm, ⟨2, _⟩ => ⟨S4096x16320, .f32⟩
  | .hbm, ⟨3, _⟩ => ⟨S9216x16320, .f32⟩
  | .hbm, ⟨4, _⟩ => ⟨S9216x6528, .f32⟩
  | .hbm, ⟨5, _⟩ => ⟨S9216x1024, .f32⟩
  | .hbm, ⟨6, _⟩ => ⟨S9216x576, .f32⟩
  | .hbm, ⟨7, _⟩ => ⟨S9216x8192, .f32⟩
  | .hbm, ⟨8, _⟩ => ⟨S8192x6528, .f32⟩
  | .hbm, ⟨9, _⟩ => ⟨S4x2048x6528, .f32⟩
  | .hbm, ⟨10, _⟩ => ⟨S4x1x6528, .f32⟩
  | .hbm, ⟨11, _⟩ => ⟨S4x6528, .f32⟩
  | .hbm, ⟨12, _⟩ => ⟨S1024x6528, .f32⟩
  | .hbm, ⟨13, _⟩ => ⟨S128x8x6528, .f32⟩
  | .hbm, ⟨14, _⟩ => ⟨S128x1x6528, .f32⟩
  | .hbm, ⟨15, _⟩ => ⟨S128x6528, .f32⟩
  | .hbm, ⟨16, _⟩ => ⟨S1x4x6528, .f32⟩
  | .hbm, ⟨17, _⟩ => ⟨S1x128x6528, .f32⟩
  | _, _ => ⟨S9216x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩

abbrev nD : Nat := 1
abbrev τ : Topo := Topo.v7x

variable {F : FTy → Type} [FloatOps F]
-- ==== Kernel3.lean ====
abbrev S9216x2048 : Shape := ⟨2, ![9216, 2048]⟩
abbrev S9216x16320 : Shape := ⟨2, ![9216, 16320]⟩
abbrev S1x2x2048x4096 : Shape := ⟨4, ![1, 2, 2048, 4096]⟩
abbrev S2x2048x4096 : Shape := ⟨3, ![2, 2048, 4096]⟩
abbrev S9216x6144 : Shape := ⟨2, ![9216, 6144]⟩
abbrev S9216x64 : Shape := ⟨2, ![9216, 64]⟩
abbrev S9216x256 : Shape := ⟨2, ![9216, 256]⟩
abbrev S9216x1024 : Shape := ⟨2, ![9216, 1024]⟩
abbrev S9216x512 : Shape := ⟨2, ![9216, 512]⟩
abbrev S9216x8192 : Shape := ⟨2, ![9216, 8192]⟩
abbrev S_ : Shape := ⟨0, ![]⟩
abbrev S9216x16384 : Shape := ⟨2, ![9216, 16384]⟩
abbrev S9216x4096 : Shape := ⟨2, ![9216, 4096]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 20
  | .vmem => 14
  | .smem => 0
  | _ => 0

abbrev bufTy : (tb : Table) → Fin (tcTables nBuf tb) → BufTy
  | .hbm, ⟨0, _⟩ => ⟨S9216x2048, .f32⟩
  | .hbm, ⟨1, _⟩ => ⟨S9216x2048, .f32⟩
  | .hbm, ⟨2, _⟩ => ⟨S9216x16320, .f32⟩
  | .hbm, ⟨3, _⟩ => ⟨S1x2x2048x4096, .f32⟩
  | .hbm, ⟨4, _⟩ => ⟨S9216x2048, .bf16⟩
  | .hbm, ⟨5, _⟩ => ⟨S9216x2048, .bf16⟩
  | .hbm, ⟨6, _⟩ => ⟨S2x2048x4096, .f32⟩
  | .hbm, ⟨7, _⟩ => ⟨S2x2048x4096, .bf16⟩
  | .hbm, ⟨8, _⟩ => ⟨S9216x6144, .f32⟩
  | .hbm, ⟨9, _⟩ => ⟨S9216x64, .f32⟩
  | .hbm, ⟨10, _⟩ => ⟨S9216x64, .f32⟩
  | .hbm, ⟨11, _⟩ => ⟨S9216x256, .f32⟩
  | .hbm, ⟨12, _⟩ => ⟨S9216x1024, .f32⟩
  | .hbm, ⟨13, _⟩ => ⟨S9216x512, .f32⟩
  | .hbm, ⟨14, _⟩ => ⟨S9216x64, .f32⟩
  | .hbm, ⟨15, _⟩ => ⟨S9216x8192, .f32⟩
  | .hbm, ⟨16, _⟩ => ⟨S_, .f32⟩
  | .hbm, ⟨17, _⟩ => ⟨S9216x64, .f32⟩
  | .hbm, ⟨18, _⟩ => ⟨S9216x16384, .f32⟩
  | .hbm, ⟨19, _⟩ => ⟨S9216x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![9, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S9216x2048 : Shape := ⟨2, ![9216, 2048]⟩
abbrev S9216x16320 : Shape := ⟨2, ![9216, 16320]⟩
abbrev S1x2x2048x4096 : Shape := ⟨4, ![1, 2, 2048, 4096]⟩
abbrev S9216x8192 : Shape := ⟨2, ![9216, 8192]⟩
abbrev S9216x1x2048 : Shape := ⟨3, ![9216, 1, 2048]⟩
abbrev S9216x2x2048 : Shape := ⟨3, ![9216, 2, 2048]⟩
abbrev S2x2048x4096 : Shape := ⟨3, ![2, 2048, 4096]⟩
abbrev S2x4096x9216 : Shape := ⟨3, ![2, 4096, 9216]⟩
abbrev S9216x2x4096 : Shape := ⟨3, ![9216, 2, 4096]⟩
abbrev S_ : Shape := ⟨0, ![]⟩
abbrev S9216x4096 : Shape := ⟨2, ![9216, 4096]⟩

abbrev nBuf : Space → Nat
  | .hbm => 24
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S9216x2048, .f32⟩
  | .hbm, ⟨2, _⟩ => ⟨S9216x16320, .f32⟩
  | .hbm, ⟨3, _⟩ => ⟨S1x2x2048x4096, .f32⟩
  | .hbm, ⟨4, _⟩ => ⟨S9216x8192, .f32⟩
  | .hbm, ⟨5, _⟩ => ⟨S9216x1x2048, .f32⟩
  | .hbm, ⟨6, _⟩ => ⟨S9216x1x2048, .f32⟩
  | .hbm, ⟨7, _⟩ => ⟨S9216x2x2048, .f32⟩
  | .hbm, ⟨8, _⟩ => ⟨S2x2048x4096, .f32⟩
  | .hbm, ⟨9, _⟩ => ⟨S2x4096x9216, .f32⟩
  | .hbm, ⟨10, _⟩ => ⟨S9216x2x4096, .f32⟩
  | .hbm, ⟨11, _⟩ => ⟨S9216x2x4096, .f32⟩
  | .hbm, ⟨12, _⟩ => ⟨S9216x2x4096, .f32⟩
  | .hbm, ⟨13, _⟩ => ⟨S9216x2x4096, .f32⟩
  | .hbm, ⟨14, _⟩ => ⟨S_, .f32⟩
  | .hbm, ⟨15, _⟩ => ⟨S9216x2x4096, .f32⟩
  | .hbm, ⟨16, _⟩ => ⟨S9216x2x4096, .f32⟩
  | .hbm, ⟨17, _⟩ => ⟨S_, .f32⟩
  | .hbm, ⟨18, _⟩ => ⟨S9216x2x4096, .f32⟩
  | .hbm, ⟨19, _⟩ => ⟨S9216x2x4096, .f32⟩
  | .hbm, ⟨20, _⟩ => ⟨S9216x2x4096, .f32⟩
  | .hbm, ⟨21, _⟩ => ⟨S_, .f32⟩
  | .hbm, ⟨22, _⟩ => ⟨S9216x4096, .f32⟩
  | .hbm, ⟨23, _⟩ => ⟨S9216x4096, .bf16⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel4.lean ====
abbrev S9216x4096 : Shape := ⟨2, ![9216, 4096]⟩
abbrev S1x4096x4096 : Shape := ⟨3, ![1, 4096, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 7
  | .vmem => 8
  | .smem => 0
  | _ => 0

abbrev bufTy : (tb : Table) → Fin (tcTables nBuf tb) → BufTy
  | .hbm, ⟨0, _⟩ => ⟨S9216x4096, .f32⟩
  | .hbm, ⟨1, _⟩ => ⟨S9216x4096, .f32⟩
  | .hbm, ⟨2, _⟩ => ⟨S1x4096x4096, .f32⟩
  | .hbm, ⟨3, _⟩ => ⟨S9216x4096, .bf16⟩
  | .hbm, ⟨4, _⟩ => ⟨S4096x4096, .f32⟩
  | .hbm, ⟨5, _⟩ => ⟨S4096x4096, .bf16⟩
  | .hbm, ⟨6, _⟩ => ⟨S9216x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S9216x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![9, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S9216x4096 : Shape := ⟨2, ![9216, 4096]⟩
abbrev S1x4096x4096 : Shape := ⟨3, ![1, 4096, 4096]⟩
abbrev S_ : Shape := ⟨0, ![]⟩
abbrev S4096x4096 : Shape := ⟨2, ![4096, 4096]⟩

abbrev nBuf : Space → Nat
  | .hbm => 9
  | .vmem => 0
  | .smem => 0
  | _ => 0

abbrev bufTy : (tb : Table) → Fin (tcTables nBuf tb) → BufTy
  | .hbm, ⟨0, _⟩ => ⟨S9216x4096, .f32⟩
  | .hbm, ⟨1, _⟩ => ⟨S9216x4096, .f32⟩
  | .hbm, ⟨2, _⟩ => ⟨S1x4096x4096, .f32⟩
  | .hbm, ⟨3, _⟩ => ⟨S_, .f32⟩
  | .hbm, ⟨4, _⟩ => ⟨S9216x4096, .f32⟩
  | .hbm, ⟨5, _⟩ => ⟨S9216x4096, .f32⟩
  | .hbm, ⟨6, _⟩ => ⟨S4096x4096, .f32⟩
  | .hbm, ⟨7, _⟩ => ⟨S9216x4096, .f32⟩
  | .hbm, ⟨8, _⟩ => ⟨S9216x4096, .f32⟩
  | _, _ => ⟨S9216x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel5.lean ====
abbrev S9216x4096 : Shape := ⟨2, ![9216, 4096]⟩
abbrev S1x4096x1024 : Shape := ⟨3, ![1, 4096, 1024]⟩
abbrev S1x512x4096 : Shape := ⟨3, ![1, 512, 4096]⟩
abbrev S1x4096 : Shape := ⟨2, ![1, 4096]⟩
abbrev S4096x1024 : Shape := ⟨2, ![4096, 1024]⟩
abbrev S512x4096 : Shape := ⟨2, ![512, 4096]⟩
abbrev S4096 : Shape := ⟨1, ![4096]⟩
abbrev S128x4096 : Shape := ⟨2, ![128, 4096]⟩
abbrev S128x1024 : Shape := ⟨2, ![128, 1024]⟩
abbrev S128x512 : Shape := ⟨2, ![128, 512]⟩
abbrev S128 : Shape := ⟨1, ![128]⟩
abbrev S128x1 : Shape := ⟨2, ![128, 1]⟩
abbrev S8192x4096 : Shape := ⟨2, ![8192, 4096]⟩
abbrev S4x2048x4096 : Shape := ⟨3, ![4, 2048, 4096]⟩
abbrev S1024x4096 : Shape := ⟨2, ![1024, 4096]⟩
abbrev S128x8x4096 : Shape := ⟨3, ![128, 8, 4096]⟩

abbrev nBuf : Space → Nat
  | .hbm => 20
  | .vmem => 12
  | .smem => 0
  | _ => 0

abbrev bufTy : (tb : Table) → Fin (tcTables nBuf tb) → BufTy
  | .hbm, ⟨0, _⟩ => ⟨S9216x4096, .f32⟩
  | .hbm, ⟨1, _⟩ => ⟨S9216x4096, .f32⟩
  | .hbm, ⟨2, _⟩ => ⟨S1x4096x1024, .f32⟩
  | .hbm, ⟨3, _⟩ => ⟨S1x512x4096, .f32⟩
  | .hbm, ⟨4, _⟩ => ⟨S1x4096, .f32⟩
  | .hbm, ⟨5, _⟩ => ⟨S1x4096, .f32⟩
  | .hbm, ⟨6, _⟩ => ⟨S9216x4096, .bf16⟩
  | .hbm, ⟨7, _⟩ => ⟨S4096x1024, .f32⟩
  | .hbm, ⟨8, _⟩ => ⟨S4096x1024, .bf16⟩
  | .hbm, ⟨9, _⟩ => ⟨S512x4096, .f32⟩
  | .hbm, ⟨10, _⟩ => ⟨S512x4096, .bf16⟩
  | .hbm, ⟨11, _⟩ => ⟨S4096, .f32⟩
  | .hbm, ⟨12, _⟩ => ⟨S4096, .f32⟩
  | .hbm, ⟨13, _⟩ => ⟨S1x4096, .f32⟩
  | .hbm, ⟨14, _⟩ => ⟨S1x4096, .f32⟩
  | .hbm, ⟨15, _⟩ => ⟨S9216x4096, .f32⟩
  | .hbm, ⟨16, _⟩ => ⟨S8192x4096, .f32⟩
  | .hbm, ⟨17, _⟩ => ⟨S4x2048x4096, .f32⟩
  | .hbm, ⟨18, _⟩ => ⟨S1024x4096, .f32⟩
  | .hbm, ⟨19, _⟩ => ⟨S128x8x4096, .f32⟩
  | .local _ .vmem, ⟨0, _⟩ => ⟨S128x4096, .bf16⟩
  | .local _ .vmem, ⟨1, _⟩ => ⟨S128x4096, .bf16⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S4096x1024, .bf16⟩
  | .local _ .vmem, ⟨7, _⟩ => ⟨S512x4096, .bf16⟩
  | .local _ .vmem, ⟨8, _⟩ => ⟨S1x4096, .f32⟩
  | .local _ .vmem, ⟨9, _⟩ => ⟨S1x4096, .f32⟩
  | .local _ .vmem, ⟨10, _⟩ => ⟨S128x4096, .f32⟩
  | .local _ .vmem, ⟨11, _⟩ => ⟨S128x4096, .f32⟩
  | _, _ => ⟨S9216x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![72], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S9216x4096 : Shape := ⟨2, ![9216, 4096]⟩
abbrev S1x4096x1024 : Shape := ⟨3, ![1, 4096, 1024]⟩
abbrev S1x512x4096 : Shape := ⟨3, ![1, 512, 4096]⟩
abbrev S1x4096 : Shape := ⟨2, ![1, 4096]⟩
abbrev S4096x1024 : Shape := ⟨2, ![4096, 1024]⟩
abbrev S9216x1024 : Shape := ⟨2, ![9216, 1024]⟩
abbrev S9216x512 : Shape := ⟨2, ![9216, 512]⟩
abbrev S_ : Shape := ⟨0, ![]⟩
abbrev S512x4096 : Shape := ⟨2, ![512, 4096]⟩
abbrev S4096 : Shape := ⟨1, ![4096]⟩
abbrev S9216 : Shape := ⟨1, ![9216]⟩
abbrev S9216x1 : Shape := ⟨2, ![9216, 1]⟩
abbrev S8192x4096 : Shape := ⟨2, ![8192, 4096]⟩
abbrev S4x2048x4096 : Shape := ⟨3, ![4, 2048, 4096]⟩
abbrev S1024x4096 : Shape := ⟨2, ![1024, 4096]⟩
abbrev S128x8x4096 : Shape := ⟨3, ![128, 8, 4096]⟩

abbrev nBuf : Space → Nat
  | .hbm => 62
  | .vmem => 0
  | .smem => 0
  | _ => 0

abbrev bufTy : (tb : Table) → Fin (tcTables nBuf tb) → BufTy
  | .hbm, ⟨0, _⟩ => ⟨S9216x4096, .f32⟩
  | .hbm, ⟨1, _⟩ => ⟨S9216x4096, .f32⟩
  | .hbm, ⟨2, _⟩ => ⟨S1x4096x1024, .f32⟩
  | .hbm, ⟨3, _⟩ => ⟨S1x512x4096, .f32⟩
  | .hbm, ⟨4, _⟩ => ⟨S1x4096, .f32⟩
  | .hbm, ⟨5, _⟩ => ⟨S1x4096, .f32⟩
  | .hbm, ⟨6, _⟩ => ⟨S4096x1024, .f32⟩
  | .hbm, ⟨7, _⟩ => ⟨S9216x1024, .f32⟩
  | .hbm, ⟨8, _⟩ => ⟨S9216x512, .f32⟩
  | .hbm, ⟨9, _⟩ => ⟨S9216x512, .f32⟩
  | .hbm, ⟨10, _⟩ => ⟨S9216x512, .f32⟩
  | .hbm, ⟨11, _⟩ => ⟨S_, .f32⟩
  | .hbm, ⟨12, _⟩ => ⟨S9216x512, .f32⟩
  | .hbm, ⟨13, _⟩ => ⟨S9216x512, .f32⟩
  | .hbm, ⟨14, _⟩ => ⟨S_, .f32⟩
  | .hbm, ⟨15, _⟩ => ⟨S9216x512, .f32⟩
  | .hbm, ⟨16, _⟩ => ⟨S9216x512, .f32⟩
  | .hbm, ⟨17, _⟩ => ⟨S9216x512, .f32⟩
  | .hbm, ⟨18, _⟩ => ⟨S9216x512, .f32⟩
  | .hbm, ⟨19, _⟩ => ⟨S9216x512, .f32⟩
  | .hbm, ⟨20, _⟩ => ⟨S512x4096, .f32⟩
  | .hbm, ⟨21, _⟩ => ⟨S9216x4096, .f32⟩
  | .hbm, ⟨22, _⟩ => ⟨S_, .f32⟩
  | .hbm, ⟨23, _⟩ => ⟨S9216x4096, .f32⟩
  | .hbm, ⟨24, _⟩ => ⟨S9216x4096, .f32⟩
  | .hbm, ⟨25, _⟩ => ⟨S9216x4096, .f32⟩
  | .hbm, ⟨26, _⟩ => ⟨S9216x4096, .f32⟩
  | .hbm, ⟨27, _⟩ => ⟨S4096, .f32⟩
  | .hbm, ⟨28, _⟩ => ⟨S4096, .f32⟩
  | .hbm, ⟨29, _⟩ => ⟨S_, .f32⟩
  | .hbm, ⟨30, _⟩ => ⟨S9216, .f32⟩
  | .hbm, ⟨31, _⟩ => ⟨S9216x1, .f32⟩
  | .hbm, ⟨32, _⟩ => ⟨S_, .f32⟩
  | .hbm, ⟨33, _⟩ => ⟨S9216x1, .f32⟩
  | .hbm, ⟨34, _⟩ => ⟨S9216x1, .f32⟩
  | .hbm, ⟨35, _⟩ => ⟨S9216x4096, .f32⟩
  | .hbm, ⟨36, _⟩ => ⟨S9216x4096, .f32⟩
  | .hbm, ⟨37, _⟩ => ⟨S9216x4096, .f32⟩
  | .hbm, ⟨38, _⟩ => ⟨S_, .f32⟩
  | .hbm, ⟨39, _⟩ => ⟨S9216, .f32⟩
  | .hbm, ⟨40, _⟩ => ⟨S9216x1, .f32⟩
  | .hbm, ⟨41, _⟩ => ⟨S_, .f32⟩
  | .hbm, ⟨42, _⟩ => ⟨S9216x1, .f32⟩
  | .hbm, ⟨43, _⟩ => ⟨S9216x1, .f32⟩
  | .hbm, ⟨44, _⟩ => ⟨S9216x4096, .f32⟩
  | .hbm, ⟨45, _⟩ => ⟨S9216x4096, .f32⟩
  | .hbm, ⟨46, _⟩ => ⟨S_, .f32⟩
  | .hbm, ⟨47, _⟩ => ⟨S9216x1, .f32⟩
  | .hbm, ⟨48, _⟩ => ⟨S9216x1, .f32⟩
  | .hbm, ⟨49, _⟩ => ⟨S9216x1, .f32⟩
  | .hbm, ⟨50, _⟩ => ⟨S9216x4096, .f32⟩
  | .hbm, ⟨51, _⟩ => ⟨S9216x4096, .f32⟩
  | .hbm, ⟨52, _⟩ => ⟨S1x4096, .f32⟩
  | .hbm, ⟨53, _⟩ => ⟨S9216x4096, .f32⟩
  | .hbm, ⟨54, _⟩ => ⟨S9216x4096, .f32⟩
  | .hbm, ⟨55, _⟩ => ⟨S1x4096, .f32⟩
  | .hbm, ⟨56, _⟩ => ⟨S9216x4096, .f32⟩
  | .hbm, ⟨57, _⟩ => ⟨S9216x4096, .f32⟩
  | .hbm, ⟨58, _⟩ => ⟨S8192x4096, .f32⟩
  | .hbm, ⟨59, _⟩ => ⟨S4x2048x4096, .f32⟩
  | .hbm, ⟨60, _⟩ => ⟨S1024x4096, .f32⟩
  | .hbm, ⟨61, _⟩ => ⟨S128x8x4096, .f32⟩
  | _, _ => ⟨S9216x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩

abbrev nD : Nat := 1
abbrev τ : Topo := Topo.v7x

variable {F : FTy → Type} [FloatOps F]
-- ==== Kernel6.lean ====
abbrev S9216x16320 : Shape := ⟨2, ![9216, 16320]⟩
abbrev S1x1024 : Shape := ⟨2, ![1, 1024]⟩
abbrev S1x512 : Shape := ⟨2, ![1, 512]⟩
abbrev S2048 : Shape := ⟨1, ![2048]⟩
abbrev S1x2048 : Shape := ⟨2, ![1, 2048]⟩
abbrev S4x2048 : Shape := ⟨2, ![4, 2048]⟩
abbrev S8192 : Shape := ⟨1, ![8192]⟩
abbrev S8 : Shape := ⟨1, ![8]⟩
abbrev S_ : Shape := ⟨0, ![]⟩
abbrev S1x8 : Shape := ⟨2, ![1, 8]⟩
abbrev S128x8 : Shape := ⟨2, ![128, 8]⟩
abbrev S1024 : Shape := ⟨1, ![1024]⟩
abbrev S9216 : Shape := ⟨1, ![9216]⟩
abbrev S32 : Shape := ⟨1, ![32]⟩
abbrev S9216x1 : Shape := ⟨2, ![9216, 1]⟩
abbrev S1x32 : Shape := ⟨2, ![1, 32]⟩
abbrev S9216x32 : Shape := ⟨2, ![9216, 32]⟩
abbrev S9216x64 : Shape := ⟨2, ![9216, 64]⟩
abbrev S1x9216x1x64 : Shape := ⟨4, ![1, 9216, 1, 64]⟩
abbrev S1x9216x2x64 : Shape := ⟨4, ![1, 9216, 2, 64]⟩
abbrev S9216x128 : Shape := ⟨2, ![9216, 128]⟩
abbrev S9216x6144 : Shape := ⟨2, ![9216, 6144]⟩
abbrev S9216x256 : Shape := ⟨2, ![9216, 256]⟩
abbrev S9216x1024 : Shape := ⟨2, ![9216, 1024]⟩
abbrev S9216x512 : Shape := ⟨2, ![9216, 512]⟩
abbrev S9216x8192 : Shape := ⟨2, ![9216, 8192]⟩
abbrev S9216x16384 : Shape := ⟨2, ![9216, 16384]⟩
abbrev S512 : Shape := ⟨1, ![512]⟩
abbrev S256x1024 : Shape := ⟨2, ![256, 1024]⟩
abbrev S256x512 : Shape := ⟨2, ![256, 512]⟩
abbrev S256x128 : Shape := ⟨2, ![256, 128]⟩
abbrev S256x64 : Shape := ⟨2, ![256, 64]⟩
abbrev S256 : Shape := ⟨1, ![256]⟩
abbrev S256x1 : Shape := ⟨2, ![256, 1]⟩
abbrev S8192x512 : Shape := ⟨2, ![8192, 512]⟩
abbrev S1x4x2048x512 : Shape := ⟨4, ![1, 4, 2048, 512]⟩
abbrev S8192x64 : Shape := ⟨2, ![8192, 64]⟩
abbrev S1x4x2048x64 : Shape := ⟨4, ![1, 4, 2048, 64]⟩
abbrev S1024x512 : Shape := ⟨2, ![1024, 512]⟩
abbrev S1x128x8x512 : Shape := ⟨4, ![1, 128, 8, 512]⟩
abbrev S1024x64 : Shape := ⟨2, ![1024, 64]⟩
abbrev S1x128x8x64 : Shape := ⟨4, ![1, 128, 8, 64]⟩

abbrev nBuf : Space → Nat
  | .hbm => 68
  | .vmem => 22
  | .smem => 0
  | _ => 0

abbrev bufTy : (tb : Table) → Fin (tcTables nBuf tb) → BufTy
  | .hbm, ⟨0, _⟩ => ⟨S9216x16320, .f32⟩
  | .hbm, ⟨1, _⟩ => ⟨S1x1024, .f32⟩
  | .hbm, ⟨2, _⟩ => ⟨S1x512, .f32⟩
  | .hbm, ⟨3, _⟩ => ⟨S2048, .i32⟩
  | .hbm, ⟨4, _⟩ => ⟨S1x2048, .i32⟩
  | .hbm, ⟨5, _⟩ => ⟨S4x2048, .i32⟩
  | .hbm, ⟨6, _⟩ => ⟨S8192, .i32⟩
  | .hbm, ⟨7, _⟩ => ⟨S8, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S1x8, .i32⟩
  | .hbm, ⟨12, _⟩ => ⟨S128x8, .i32⟩
  | .hbm, ⟨13, _⟩ => ⟨S1024, .i32⟩
  | .hbm, ⟨14, _⟩ => ⟨S9216, .i32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S9216, .f32⟩
  | .hbm, ⟨24, _⟩ => ⟨S9216x1, .f32⟩
  | .hbm, ⟨25, _⟩ => ⟨S1x32, .f32⟩
  | .hbm, ⟨26, _⟩ => ⟨S9216x32, .f32⟩
  | .hbm, ⟨27, _⟩ => ⟨S9216x32, .f32⟩
  | .hbm, ⟨28, _⟩ => ⟨S9216x32, .f32⟩
  | .hbm, ⟨29, _⟩ => ⟨S9216x32, .f32⟩
  | .hbm, ⟨30, _⟩ => ⟨S9216x32, .f32⟩
  | .hbm, ⟨31, _⟩ => ⟨S9216x64, .f32⟩
  | .hbm, ⟨32, _⟩ => ⟨S1x9216x1x64, .f32⟩
  | .hbm, ⟨33, _⟩ => ⟨S1x9216x2x64, .f32⟩
  | .hbm, ⟨34, _⟩ => ⟨S9216x128, .f32⟩
  | .hbm, ⟨35, _⟩ => ⟨S9216x32, .f32⟩
  | .hbm, ⟨36, _⟩ => ⟨S9216x64, .f32⟩
  | .hbm, ⟨37, _⟩ => ⟨S1x9216x1x64, .f32⟩
  | .hbm, ⟨38, _⟩ => ⟨S1x9216x2x64, .f32⟩
  | .hbm, ⟨39, _⟩ => ⟨S9216x128, .f32⟩
  | .hbm, ⟨40, _⟩ => ⟨S9216x6144, .f32⟩
  | .hbm, ⟨41, _⟩ => ⟨S9216x64, .f32⟩
  | .hbm, ⟨42, _⟩ => ⟨S9216x64, .f32⟩
  | .hbm, ⟨43, _⟩ => ⟨S9216x256, .f32⟩
  | .hbm, ⟨44, _⟩ => ⟨S9216x1024, .f32⟩
  | .hbm, ⟨45, _⟩ => ⟨S9216x512, .f32⟩
  | .hbm, ⟨46, _⟩ => ⟨S9216x64, .f32⟩
  | .hbm, ⟨47, _⟩ => ⟨S9216x8192, .f32⟩
  | .hbm, ⟨48, _⟩ => ⟨S_, .f32⟩
  | .hbm, ⟨49, _⟩ => ⟨S9216x64, .f32⟩
  | .hbm, ⟨50, _⟩ => ⟨S9216x16384, .f32⟩
  | .hbm, ⟨51, _⟩ => ⟨S1024, .f32⟩
  | .hbm, ⟨52, _⟩ => ⟨S512, .f32⟩
  | .hbm, ⟨53, _⟩ => ⟨S1x1024, .f32⟩
  | .hbm, ⟨54, _⟩ => ⟨S1x512, .f32⟩
  | .hbm, ⟨55, _⟩ => ⟨S9216x1024, .bf16⟩
  | .hbm, ⟨56, _⟩ => ⟨S9216x512, .f32⟩
  | .hbm, ⟨57, _⟩ => ⟨S9216x512, .bf16⟩
  | .hbm, ⟨58, _⟩ => ⟨S9216x64, .f32⟩
  | .hbm, ⟨59, _⟩ => ⟨S9216x64, .bf16⟩
  | .hbm, ⟨60, _⟩ => ⟨S8192x512, .f32⟩
  | .hbm, ⟨61, _⟩ => ⟨S1x4x2048x512, .f32⟩
  | .hbm, ⟨62, _⟩ => ⟨S8192x64, .f32⟩
  | .hbm, ⟨63, _⟩ => ⟨S1x4x2048x64, .f32⟩
  | .hbm, ⟨64, _⟩ => ⟨S1024x512, .f32⟩
  | .hbm, ⟨65, _⟩ => ⟨S1x128x8x512, .f32⟩
  | .hbm, ⟨66, _⟩ => ⟨S1024x64, .f32⟩
  | .hbm, ⟨67, _⟩ => ⟨S1x128x8x64, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S1x1024, .f32⟩
  | .local _ .vmem, ⟨7, _⟩ => ⟨S1x512, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x1024, .bf16⟩
  | .local _ .vmem, ⟨13, _⟩ => ⟨S256x1024, .bf16⟩
  | .local _ .vmem, ⟨14, _⟩ => ⟨S256x512, .f32⟩
  | .local _ .vmem, ⟨15, _⟩ => ⟨S256x512, .f32⟩
  | .local _ .vmem, ⟨16, _⟩ => ⟨S256x512, .bf16⟩
  | .local _ .vmem, ⟨17, _⟩ => ⟨S256x512, .bf16⟩
  | .local _ .vmem, ⟨18, _⟩ => ⟨S256x64, .f32⟩
  | .local _ .vmem, ⟨19, _⟩ => ⟨S256x64, .f32⟩
  | .local _ .vmem, ⟨20, _⟩ => ⟨S256x64, .bf16⟩
  | .local _ .vmem, ⟨21, _⟩ => ⟨S256x64, .bf16⟩
  | _, _ => ⟨S9216x16320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_cst_1 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48_0 : Ref sig .tc := ⟨.hbm, 55, rfl⟩
abbrev main_v48_1 : Ref sig .tc := ⟨.hbm, 56, rfl⟩
abbrev main_v48_2 : Ref sig .tc := ⟨.hbm, 57, rfl⟩
abbrev main_v48_3 : Ref sig .tc := ⟨.hbm, 58, rfl⟩
abbrev main_v48_4 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_1 (i : grid0.Coords) : Fin 2 → Nat :=
  let arg0 : BitVec 32 := BitVec.ofNat 32 (i 0).val
  let c30_i32 : BitVec 32 := 30#32
  let c0_i32 : BitVec 32 := 0#32
  ![arg0.toNat, c30_i32.toNat]

def cc0_transform_2 (i : grid0.Coords) : Fin 2 → Nat :=
  let arg0 : BitVec 32 := BitVec.ofNat 32 (i 0).val
  let c31_i32 : BitVec 32 := 31#32
  let c0_i32 : BitVec 32 := 0#32
  ![arg0.toNat, c31_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference6Ideal.lean ====
abbrev S9216x16320 : Shape := ⟨2, ![9216, 16320]⟩
abbrev S1x1024 : Shape := ⟨2, ![1, 1024]⟩
abbrev S1x512 : Shape := ⟨2, ![1, 512]⟩
abbrev S9216x1024 : Shape := ⟨2, ![9216, 1024]⟩
abbrev S9216x576 : Shape := ⟨2, ![9216, 576]⟩
abbrev S1024 : Shape := ⟨1, ![1024]⟩
abbrev S_ : Shape := ⟨0, ![]⟩
abbrev S9216 : Shape := ⟨1, ![9216]⟩
abbrev S9216x1 : Shape := ⟨2, ![9216, 1]⟩
abbrev S8192x576 : Shape := ⟨2, ![8192, 576]⟩
abbrev S4x2048x576 : Shape := ⟨3, ![4, 2048, 576]⟩
abbrev S2048 : Shape := ⟨1, ![2048]⟩
abbrev S4x2048x512 : Shape := ⟨3, ![4, 2048, 512]⟩
abbrev S512 : Shape := ⟨1, ![512]⟩
abbrev S4x2048 : Shape := ⟨2, ![4, 2048]⟩
abbrev S4x2048x1 : Shape := ⟨3, ![4, 2048, 1]⟩
abbrev S1x1x512 : Shape := ⟨3, ![1, 1, 512]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S1x4x2048x512 : Shape := ⟨4, ![1, 4, 2048, 512]⟩
abbrev S4x2048x64 : Shape := ⟨3, ![4, 2048, 64]⟩
abbrev S4x2048x32 : Shape := ⟨3, ![4, 2048, 32]⟩
abbrev S1x2048x32 : Shape := ⟨3, ![1, 2048, 32]⟩
abbrev S1x4x2048x64 : Shape := ⟨4, ![1, 4, 2048, 64]⟩
abbrev S1024x576 : Shape := ⟨2, ![1024, 576]⟩
abbrev S128x8x576 : Shape := ⟨3, ![128, 8, 576]⟩
abbrev S8 : Shape := ⟨1, ![8]⟩
abbrev S128x8x512 : Shape := ⟨3, ![128, 8, 512]⟩
abbrev S128x8 : Shape := ⟨2, ![128, 8]⟩
abbrev S128x8x1 : Shape := ⟨3, ![128, 8, 1]⟩
abbrev S8x1 : Shape := ⟨2, ![8, 1]⟩
abbrev S8x32 : Shape := ⟨2, ![8, 32]⟩
abbrev S1x128x8x512 : Shape := ⟨4, ![1, 128, 8, 512]⟩
abbrev S128x8x64 : Shape := ⟨3, ![128, 8, 64]⟩
abbrev S128x8x32 : Shape := ⟨3, ![128, 8, 32]⟩
abbrev S1x8x32 : Shape := ⟨3, ![1, 8, 32]⟩
abbrev S1x128x8x64 : Shape := ⟨4, ![1, 128, 8, 64]⟩

abbrev nBuf : Space → Nat
  | .hbm => 140
  | .vmem => 0
  | .smem => 0
  | _ => 0

abbrev hbmTy0_0 (i : Nat) : BufTy := match i % 128 with
  | 0 => ⟨S9216x16320, .f32⟩
  | 1 => ⟨S1x1024, .f32⟩
  | 2 => ⟨S1x512, .f32⟩
  | 3 => ⟨S9216x1024, .f32⟩
  | 4 => ⟨S9216x576, .f32⟩
  | 5 => ⟨S1024, .f32⟩
  | 6 => ⟨S9216x1024, .f32⟩
  | 7 => ⟨S_, .f32⟩
  | 8 => ⟨S9216, .f32⟩
  | 9 => ⟨S9216x1, .f32⟩
  | 10 => ⟨S_, .f32⟩
  | 11 => ⟨S9216x1, .f32⟩
  | 12 => ⟨S9216x1, .f32⟩
  | 13 => ⟨S_, .f32⟩
  | 14 => ⟨S9216x1, .f32⟩
  | 15 => ⟨S9216x1, .f32⟩
  | 16 => ⟨S9216x1, .f32⟩
  | 17 => ⟨S9216x1024, .f32⟩
  | 18 => ⟨S9216x1024, .f32⟩
  | 19 => ⟨S1x1024, .f32⟩
  | 20 => ⟨S9216x1024, .f32⟩
  | 21 => ⟨S9216x1024, .f32⟩
  | 22 => ⟨S9216x1024, .bf16⟩
  | 23 => ⟨S8192x576, .f32⟩
  | 24 => ⟨S4x2048x576, .f32⟩
  | 25 => ⟨S2048, .i32⟩
  | 26 => ⟨S4x2048x512, .f32⟩
  | 27 => ⟨S512, .f32⟩
  | 28 => ⟨S4x2048x512, .f32⟩
  | 29 => ⟨S_, .f32⟩
  | 30 => ⟨S4x2048, .f32⟩
  | 31 => ⟨S4x2048x1, .f32⟩
  | 32 => ⟨S_, .f32⟩
  | 33 => ⟨S4x2048x1, .f32⟩
  | 34 => ⟨S4x2048x1, .f32⟩
  | 35 => ⟨S_, .f32⟩
  | 36 => ⟨S4x2048x1, .f32⟩
  | 37 => ⟨S4x2048x1, .f32⟩
  | 38 => ⟨S4x2048x1, .f32⟩
  | 39 => ⟨S4x2048x512, .f32⟩
  | 40 => ⟨S4x2048x512, .f32⟩
  | 41 => ⟨S1x1x512, .f32⟩
  | 42 => ⟨S4x2048x512, .f32⟩
  | 43 => ⟨S4x2048x512, .f32⟩
  | 44 => ⟨S32, .f32⟩
  | 45 => ⟨S32, .f32⟩
  | 46 => ⟨S_, .f32⟩
  | 47 => ⟨S32, .f32⟩
  | 48 => ⟨S32, .f32⟩
  | 49 => ⟨S_, .f32⟩
  | 50 => ⟨S32, .f32⟩
  | 51 => ⟨S32, .f32⟩
  | 52 => ⟨S2048, .f32⟩
  | 53 => ⟨S2048x1, .f32⟩
  | 54 => ⟨S1x32, .f32⟩
  | 55 => ⟨S2048x32, .f32⟩
  | 56 => ⟨S2048x32, .f32⟩
  | 57 => ⟨S2048x32, .f32⟩
  | 58 => ⟨S2048x32, .f32⟩
  | 59 => ⟨S2048x32, .f32⟩
  | 60 => ⟨S1x4x2048x512, .f32⟩
  | 61 => ⟨S4x2048x64, .f32⟩
  | 62 => ⟨S4x2048x32, .f32⟩
  | 63 => ⟨S4x2048x32, .f32⟩
  | 64 => ⟨S1x2048x32, .f32⟩
  | 65 => ⟨S4x2048x32, .f32⟩
  | 66 => ⟨S4x2048x32, .f32⟩
  | 67 => ⟨S1x2048x32, .f32⟩
  | 68 => ⟨S4x2048x32, .f32⟩
  | 69 => ⟨S4x2048x32, .f32⟩
  | 70 => ⟨S4x2048x32, .f32⟩
  | 71 => ⟨S1x2048x32, .f32⟩
  | 72 => ⟨S4x2048x32, .f32⟩
  | 73 => ⟨S4x2048x32, .f32⟩
  | 74 => ⟨S1x2048x32, .f32⟩
  | 75 => ⟨S4x2048x32, .f32⟩
  | 76 => ⟨S4x2048x32, .f32⟩
  | 77 => ⟨S4x2048x32, .f32⟩
  | 78 => ⟨S4x2048x64, .f32⟩
  | 79 => ⟨S1x4x2048x64, .f32⟩
  | 80 => ⟨S1024x576, .f32⟩
  | 81 => ⟨S128x8x576, .f32⟩
  | 82 => ⟨S8, .i32⟩
  | 83 => ⟨S_, .i32⟩
  | 84 => ⟨S8, .i32⟩
  | 85 => ⟨S8, .i32⟩
  | 86 => ⟨S128x8x512, .f32⟩
  | 87 => ⟨S512, .f32⟩
  | 88 => ⟨S128x8x512, .f32⟩
  | 89 => ⟨S_, .f32⟩
  | 90 => ⟨S128x8, .f32⟩
  | 91 => ⟨S128x8x1, .f32⟩
  | 92 => ⟨S_, .f32⟩
  | 93 => ⟨S128x8x1, .f32⟩
  | 94 => ⟨S128x8x1, .f32⟩
  | 95 => ⟨S_, .f32⟩
  | 96 => ⟨S128x8x1, .f32⟩
  | 97 => ⟨S128x8x1, .f32⟩
  | 98 => ⟨S128x8x1, .f32⟩
  | 99 => ⟨S128x8x512, .f32⟩
  | 100 => ⟨S128x8x512, .f32⟩
  | 101 => ⟨S1x1x512, .f32⟩
  | 102 => ⟨S128x8x512, .f32⟩
  | 103 => ⟨S128x8x512, .f32⟩
  | 104 => ⟨S32, .f32⟩
  | 105 => ⟨S32, .f32⟩
  | 106 => ⟨S_, .f32⟩
  | 107 => ⟨S32, .f32⟩
  | 108 => ⟨S32, .f32⟩
  | 109 => ⟨S_, .f32⟩
  | 110 => ⟨S32, .f32⟩
  | 111 => ⟨S32, .f32⟩
  | 112 => ⟨S8, .f32⟩
  | 113 => ⟨S8x1, .f32⟩
  | 114 => ⟨S1x32, .f32⟩
  | 115 => ⟨S8x32, .f32⟩
  | 116 => ⟨S8x32, .f32⟩
  | 117 => ⟨S8x32, .f32⟩
  | 118 => ⟨S8x32, .f32⟩
  | 119 => ⟨S8x32, .f32⟩
  | 120 => ⟨S1x128x8x512, .f32⟩
  | 121 => ⟨S128x8x64, .f32⟩
  | 122 => ⟨S128x8x32, .f32⟩
  | 123 => ⟨S128x8x32, .f32⟩
  | 124 => ⟨S1x8x32, .f32⟩
  | 125 => ⟨S128x8x32, .f32⟩
  | 126 => ⟨S128x8x32, .f32⟩
  | 127 => ⟨S1x8x32, .f32⟩
  | _ => ⟨S9216x16320, .f32⟩

abbrev hbmTy0_1 (i : Nat) : BufTy := match i % 128 with
  | 0 => ⟨S128x8x32, .f32⟩
  | 1 => ⟨S128x8x32, .f32⟩
  | 2 => ⟨S128x8x32, .f32⟩
  | 3 => ⟨S1x8x32, .f32⟩
  | 4 => ⟨S128x8x32, .f32⟩
  | 5 => ⟨S128x8x32, .f32⟩
  | 6 => ⟨S1x8x32, .f32⟩
  | 7 => ⟨S128x8x32, .f32⟩
  | 8 => ⟨S128x8x32, .f32⟩
  | 9 => ⟨S128x8x32, .f32⟩
  | 10 => ⟨S128x8x64, .f32⟩
  | 11 => ⟨S1x128x8x64, .f32⟩
  | _ => ⟨S9216x16320, .f32⟩

abbrev hbmTy (i : Nat) : BufTy := match i / 128 with
  | 0 => hbmTy0_0 i
  | 1 => hbmTy0_1 i
  | _ => ⟨S9216x16320, .f32⟩

abbrev bufTy : (tb : Table) → Fin (tcTables nBuf tb) → BufTy
  | .hbm, ⟨i, _⟩ => hbmTy i
  | _, _ => ⟨S9216x16320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_v38 : Ref sig .tc := ⟨.hbm, 48, rfl⟩
abbrev main_cst_6 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_c : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_cst_7 : Ref sig .tc := ⟨.hbm, 89, rfl⟩
abbrev main_v77 : Ref sig .tc := ⟨.hbm, 90, rfl⟩
abbrev main_v78 : Ref sig .tc := ⟨.hbm, 91, rfl⟩
abbrev main_cst_8 : Ref sig .tc := ⟨.hbm, 92, rfl⟩
abbrev main_v79 : Ref sig .tc := ⟨.hbm, 93, rfl⟩
abbrev main_v80 : Ref sig .tc := ⟨.hbm, 94, rfl⟩
abbrev main_cst_9 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_cst_10 : Ref sig .tc := ⟨.hbm, 106, rfl⟩
abbrev main_v91 : Ref sig .tc := ⟨.hbm, 107, rfl⟩
abbrev main_v92 : Ref sig .tc := ⟨.hbm, 108, rfl⟩
abbrev main_cst_11 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩

abbrev nD : Nat := 1
abbrev τ : Topo := Topo.v7x

variable {F : FTy → Type} [FloatOps F]
-- ==== Kernel7.lean ====
abbrev S9216x1024 : Shape := ⟨2, ![9216, 1024]⟩
abbrev S1x1024x16x192 : Shape := ⟨4, ![1, 1024, 16, 192]⟩
abbrev S1024x16x192 : Shape := ⟨3, ![1024, 16, 192]⟩
abbrev S1024x16x128 : Shape := ⟨3, ![1024, 16, 128]⟩
abbrev S1024x2048 : Shape := ⟨2, ![1024, 2048]⟩
abbrev S1024x16x64 : Shape := ⟨3, ![1024, 16, 64]⟩
abbrev S1024x1024 : Shape := ⟨2, ![1024, 1024]⟩
abbrev S1024x3072 : Shape := ⟨2, ![1024, 3072]⟩
abbrev S9216x3072 : Shape := ⟨2, ![9216, 3072]⟩
abbrev S1024x512 : Shape := ⟨2, ![1024, 512]⟩
abbrev S9216x2048 : Shape := ⟨2, ![9216, 2048]⟩
abbrev S9216x16x128 : Shape := ⟨3, ![9216, 16, 128]⟩
abbrev S9216x16x64 : Shape := ⟨3, ![9216, 16, 64]⟩
abbrev S9216x16x192 : Shape := ⟨3, ![9216, 16, 192]⟩

abbrev nBuf : Space → Nat
  | .hbm => 15
  | .vmem => 6
  | .smem => 0
  | _ => 0

abbrev bufTy : (tb : Table) → Fin (tcTables nBuf tb) → BufTy
  | .hbm, ⟨0, _⟩ => ⟨S9216x1024, .bf16⟩
  | .hbm, ⟨1, _⟩ => ⟨S1x1024x16x192, .f32⟩
  | .hbm, ⟨2, _⟩ => ⟨S1024x16x192, .f32⟩
  | .hbm, ⟨3, _⟩ => ⟨S1024x16x128, .f32⟩
  | .hbm, ⟨4, _⟩ => ⟨S1024x2048, .f32⟩
  | .hbm, ⟨5, _⟩ => ⟨S1024x16x64, .f32⟩
  | .hbm, ⟨6, _⟩ => ⟨S1024x1024, .f32⟩
  | .hbm, ⟨7, _⟩ => ⟨S1024x3072, .f32⟩
  | .hbm, ⟨8, _⟩ => ⟨S1024x3072, .bf16⟩
  | .hbm, ⟨9, _⟩ => ⟨S9216x3072, .f32⟩
  | .hbm, ⟨10, _⟩ => ⟨S9216x2048, .f32⟩
  | .hbm, ⟨11, _⟩ => ⟨S9216x16x128, .f32⟩
  | .hbm, ⟨12, _⟩ => ⟨S9216x1024, .f32⟩
  | .hbm, ⟨13, _⟩ => ⟨S9216x16x64, .f32⟩
  | .hbm, ⟨14, _⟩ => ⟨S9216x16x192, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![9, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S9216x1024 : Shape := ⟨2, ![9216, 1024]⟩
abbrev S1x1024x16x192 : Shape := ⟨4, ![1, 1024, 16, 192]⟩
abbrev S1024x16x192 : Shape := ⟨3, ![1024, 16, 192]⟩
abbrev S9216x16x192 : Shape := ⟨3, ![9216, 16, 192]⟩

abbrev nBuf : Space → Nat
  | .hbm => 5
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S1x1024x16x192, .f32⟩
  | .hbm, ⟨2, _⟩ => ⟨S9216x1024, .f32⟩
  | .hbm, ⟨3, _⟩ => ⟨S1024x16x192, .f32⟩
  | .hbm, ⟨4, _⟩ => ⟨S9216x16x192, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel8.lean ====
abbrev S9216x16x192 : Shape := ⟨3, ![9216, 16, 192]⟩
abbrev S1x512x16x128 : Shape := ⟨4, ![1, 512, 16, 128]⟩
abbrev S2048 : Shape := ⟨1, ![2048]⟩
abbrev S1x2048 : Shape := ⟨2, ![1, 2048]⟩
abbrev S4x2048 : Shape := ⟨2, ![4, 2048]⟩
abbrev S8192 : Shape := ⟨1, ![8192]⟩
abbrev S8 : Shape := ⟨1, ![8]⟩
abbrev S_ : Shape := ⟨0, ![]⟩
abbrev S1x8 : Shape := ⟨2, ![1, 8]⟩
abbrev S128x8 : Shape := ⟨2, ![128, 8]⟩
abbrev S1024 : Shape := ⟨1, ![1024]⟩
abbrev S9216 : Shape := ⟨1, ![9216]⟩
abbrev S32 : Shape := ⟨1, ![32]⟩
abbrev S9216x1 : Shape := ⟨2, ![9216, 1]⟩
abbrev S1x32 : Shape := ⟨2, ![1, 32]⟩
abbrev S9216x32 : Shape := ⟨2, ![9216, 32]⟩
abbrev S9216x64 : Shape := ⟨2, ![9216, 64]⟩
abbrev S1x9216x1x64 : Shape := ⟨4, ![1, 9216, 1, 64]⟩
abbrev S1x9216x2x64 : Shape := ⟨4, ![1, 9216, 2, 64]⟩
abbrev S9216x128 : Shape := ⟨2, ![9216, 128]⟩
abbrev S9216x16x128 : Shape := ⟨3, ![9216, 16, 128]⟩
abbrev S9216x2048 : Shape := ⟨2, ![9216, 2048]⟩
abbrev S9216x16x64 : Shape := ⟨3, ![9216, 16, 64]⟩
abbrev S9216x1024 : Shape := ⟨2, ![9216, 1024]⟩
abbrev S9216x3072 : Shape := ⟨2, ![9216, 3072]⟩
abbrev S512x16x128 : Shape := ⟨3, ![512, 16, 128]⟩
abbrev S16x128x512 : Shape := ⟨3, ![16, 128, 512]⟩
abbrev S16x8192x512 : Shape := ⟨3, ![16, 8192, 512]⟩
abbrev S16x8192x64 : Shape := ⟨3, ![16, 8192, 64]⟩
abbrev S256x256 : Shape := ⟨2, ![256, 256]⟩
abbrev S256x128 : Shape := ⟨2, ![256, 128]⟩
abbrev S2x128x512 : Shape := ⟨3, ![2, 128, 512]⟩
abbrev S2x256x512 : Shape := ⟨3, ![2, 256, 512]⟩
abbrev S2x256x64 : Shape := ⟨3, ![2, 256, 64]⟩
abbrev S1x128x512 : Shape := ⟨3, ![1, 128, 512]⟩
abbrev S128x512 : Shape := ⟨2, ![128, 512]⟩
abbrev S256x512 : Shape := ⟨2, ![256, 512]⟩
abbrev S1x256x512 : Shape := ⟨3, ![1, 256, 512]⟩
abbrev S256x64 : Shape := ⟨2, ![256, 64]⟩
abbrev S1x256x64 : Shape := ⟨3, ![1, 256, 64]⟩
abbrev S8192x16x512 : Shape := ⟨3, ![8192, 16, 512]⟩
abbrev S4x2048x16x512 : Shape := ⟨4, ![4, 2048, 16, 512]⟩
abbrev S8192x16x64 : Shape := ⟨3, ![8192, 16, 64]⟩
abbrev S4x2048x16x64 : Shape := ⟨4, ![4, 2048, 16, 64]⟩

abbrev nBuf : Space → Nat
  | .hbm => 53
  | .vmem => 14
  | .smem => 0
  | _ => 0

abbrev bufTy : (tb : Table) → Fin (tcTables nBuf tb) → BufTy
  | .hbm, ⟨0, _⟩ => ⟨S9216x16x192, .f32⟩
  | .hbm, ⟨1, _⟩ => ⟨S1x512x16x128, .f32⟩
  | .hbm, ⟨2, _⟩ => ⟨S2048, .i32⟩
  | .hbm, ⟨3, _⟩ => ⟨S1x2048, .i32⟩
  | .hbm, ⟨4, _⟩ => ⟨S4x2048, .i32⟩
  | .hbm, ⟨5, _⟩ => ⟨S8192, .i32⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i32⟩
  | .hbm, ⟨10, _⟩ => ⟨S1x8, .i32⟩
  | .hbm, ⟨11, _⟩ => ⟨S128x8, .i32⟩
  | .hbm, ⟨12, _⟩ => ⟨S1024, .i32⟩
  | .hbm, ⟨13, _⟩ => ⟨S9216, .i32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S9216, .f32⟩
  | .hbm, ⟨23, _⟩ => ⟨S9216x1, .f32⟩
  | .hbm, ⟨24, _⟩ => ⟨S1x32, .f32⟩
  | .hbm, ⟨25, _⟩ => ⟨S9216x32, .f32⟩
  | .hbm, ⟨26, _⟩ => ⟨S9216x32, .f32⟩
  | .hbm, ⟨27, _⟩ => ⟨S9216x32, .f32⟩
  | .hbm, ⟨28, _⟩ => ⟨S9216x32, .f32⟩
  | .hbm, ⟨29, _⟩ => ⟨S9216x32, .f32⟩
  | .hbm, ⟨30, _⟩ => ⟨S9216x64, .f32⟩
  | .hbm, ⟨31, _⟩ => ⟨S1x9216x1x64, .f32⟩
  | .hbm, ⟨32, _⟩ => ⟨S1x9216x2x64, .f32⟩
  | .hbm, ⟨33, _⟩ => ⟨S9216x128, .f32⟩
  | .hbm, ⟨34, _⟩ => ⟨S9216x32, .f32⟩
  | .hbm, ⟨35, _⟩ => ⟨S9216x64, .f32⟩
  | .hbm, ⟨36, _⟩ => ⟨S1x9216x1x64, .f32⟩
  | .hbm, ⟨37, _⟩ => ⟨S1x9216x2x64, .f32⟩
  | .hbm, ⟨38, _⟩ => ⟨S9216x128, .f32⟩
  | .hbm, ⟨39, _⟩ => ⟨S9216x16x128, .f32⟩
  | .hbm, ⟨40, _⟩ => ⟨S9216x2048, .f32⟩
  | .hbm, ⟨41, _⟩ => ⟨S9216x16x64, .f32⟩
  | .hbm, ⟨42, _⟩ => ⟨S9216x1024, .f32⟩
  | .hbm, ⟨43, _⟩ => ⟨S9216x3072, .f32⟩
  | .hbm, ⟨44, _⟩ => ⟨S512x16x128, .f32⟩
  | .hbm, ⟨45, _⟩ => ⟨S16x128x512, .f32⟩
  | .hbm, ⟨46, _⟩ => ⟨S16x128x512, .bf16⟩
  | .hbm, ⟨47, _⟩ => ⟨S16x8192x512, .bf16⟩
  | .hbm, ⟨48, _⟩ => ⟨S16x8192x64, .bf16⟩
  | .hbm, ⟨49, _⟩ => ⟨S8192x16x512, .bf16⟩
  | .hbm, ⟨50, _⟩ => ⟨S4x2048x16x512, .bf16⟩
  | .hbm, ⟨51, _⟩ => ⟨S8192x16x64, .bf16⟩
  | .hbm, ⟨52, _⟩ => ⟨S4x2048x16x64, .bf16⟩
  | .local _ .vmem, ⟨0, _⟩ => ⟨S256x256, .f32⟩
  | .local _ .vmem, ⟨1, _⟩ => ⟨S256x256, .f32⟩
  | .local _ .vmem, ⟨2, _⟩ => ⟨S256x128, .f32⟩
  | .local _ .vmem, ⟨3, _⟩ => ⟨S256x128, .f32⟩
  | .local _ .vmem, ⟨4, _⟩ => ⟨S2x128x512, .bf16⟩
  | .local _ .vmem, ⟨5, _⟩ => ⟨S2x128x512, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S2x256x512, .bf16⟩
  | .local _ .vmem, ⟨11, _⟩ => ⟨S2x256x512, .bf16⟩
  | .local _ .vmem, ⟨12, _⟩ => ⟨S2x256x64, .bf16⟩
  | .local _ .vmem, ⟨13, _⟩ => ⟨S2x256x64, .bf16⟩
  | _, _ => ⟨S9216x16x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42_0 : Ref sig .tc := ⟨.hbm, 47, rfl⟩
abbrev main_v42_1 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c16_i32 : BitVec 32 := 16#32
  let v1 : BitVec 32 := Scalar.addi c16_i32 arg1
  let c0_i32_0 : BitVec 32 := 0#32
  ![v0.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x256x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference8Ideal.lean ====
abbrev S9216x16x192 : Shape := ⟨3, ![9216, 16, 192]⟩
abbrev S1x512x16x128 : Shape := ⟨4, ![1, 512, 16, 128]⟩
abbrev S8192x16x192 : Shape := ⟨3, ![8192, 16, 192]⟩
abbrev S4x2048x16x192 : Shape := ⟨4, ![4, 2048, 16, 192]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S4x2048x16x64 : Shape := ⟨4, ![4, 2048, 16, 64]⟩
abbrev S2048x1x32 : Shape := ⟨3, ![2048, 1, 32]⟩
abbrev S4x2048x16x32 : Shape := ⟨4, ![4, 2048, 16, 32]⟩
abbrev S1x2048x1x32 : Shape := ⟨4, ![1, 2048, 1, 32]⟩
abbrev S4x2048x16x128 : Shape := ⟨4, ![4, 2048, 16, 128]⟩
abbrev S512x16x128 : Shape := ⟨3, ![512, 16, 128]⟩
abbrev S16x512x4x2048 : Shape := ⟨4, ![16, 512, 4, 2048]⟩
abbrev S4x2048x16x512 : Shape := ⟨4, ![4, 2048, 16, 512]⟩

abbrev nBuf : Space → Nat
  | .hbm => 53
  | .vmem => 0
  | .smem => 0
  | _ => 0

abbrev bufTy : (tb : Table) → Fin (tcTables nBuf tb) → BufTy
  | .hbm, ⟨0, _⟩ => ⟨S9216x16x192, .f32⟩
  | .hbm, ⟨1, _⟩ => ⟨S1x512x16x128, .f32⟩
  | .hbm, ⟨2, _⟩ => ⟨S8192x16x192, .f32⟩
  | .hbm, ⟨3, _⟩ => ⟨S4x2048x16x192, .f32⟩
  | .hbm, ⟨4, _⟩ => ⟨S2048, .i32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S2048, .f32⟩
  | .hbm, ⟨14, _⟩ => ⟨S2048x1, .f32⟩
  | .hbm, ⟨15, _⟩ => ⟨S1x32, .f32⟩
  | .hbm, ⟨16, _⟩ => ⟨S2048x32, .f32⟩
  | .hbm, ⟨17, _⟩ => ⟨S2048x32, .f32⟩
  | .hbm, ⟨18, _⟩ => ⟨S2048x32, .f32⟩
  | .hbm, ⟨19, _⟩ => ⟨S2048x32, .f32⟩
  | .hbm, ⟨20, _⟩ => ⟨S2048x32, .f32⟩
  | .hbm, ⟨21, _⟩ => ⟨S4x2048x16x64, .f32⟩
  | .hbm, ⟨22, _⟩ => ⟨S2048x1x32, .f32⟩
  | .hbm, ⟨23, _⟩ => ⟨S2048x1x32, .f32⟩
  | .hbm, ⟨24, _⟩ => ⟨S4x2048x16x32, .f32⟩
  | .hbm, ⟨25, _⟩ => ⟨S4x2048x16x32, .f32⟩
  | .hbm, ⟨26, _⟩ => ⟨S1x2048x1x32, .f32⟩
  | .hbm, ⟨27, _⟩ => ⟨S4x2048x16x32, .f32⟩
  | .hbm, ⟨28, _⟩ => ⟨S4x2048x16x32, .f32⟩
  | .hbm, ⟨29, _⟩ => ⟨S1x2048x1x32, .f32⟩
  | .hbm, ⟨30, _⟩ => ⟨S4x2048x16x32, .f32⟩
  | .hbm, ⟨31, _⟩ => ⟨S4x2048x16x32, .f32⟩
  | .hbm, ⟨32, _⟩ => ⟨S4x2048x16x32, .f32⟩
  | .hbm, ⟨33, _⟩ => ⟨S1x2048x1x32, .f32⟩
  | .hbm, ⟨34, _⟩ => ⟨S4x2048x16x32, .f32⟩
  | .hbm, ⟨35, _⟩ => ⟨S4x2048x16x32, .f32⟩
  | .hbm, ⟨36, _⟩ => ⟨S1x2048x1x32, .f32⟩
  | .hbm, ⟨37, _⟩ => ⟨S4x2048x16x32, .f32⟩
  | .hbm, ⟨38, _⟩ => ⟨S4x2048x16x32, .f32⟩
  | .hbm, ⟨39, _⟩ => ⟨S4x2048x16x32, .f32⟩
  | .hbm, ⟨40, _⟩ => ⟨S4x2048x16x64, .f32⟩
  | .hbm, ⟨41, _⟩ => ⟨S4x2048x16x128, .f32⟩
  | .hbm, ⟨42, _⟩ => ⟨S512x16x128, .f32⟩
  | .hbm, ⟨43, _⟩ => ⟨S16x512x4x2048, .f32⟩
  | .hbm, ⟨44, _⟩ => ⟨S4x2048x16x512, .f32⟩
  | .hbm, ⟨45, _⟩ => ⟨S_, .f32⟩
  | .hbm, ⟨46, _⟩ => ⟨S4x2048x16x512, .f32⟩
  | .hbm, ⟨47, _⟩ => ⟨S4x2048x16x512, .f32⟩
  | .hbm, ⟨48, _⟩ => ⟨S4x2048x16x512, .bf16⟩
  | .hbm, ⟨49, _⟩ => ⟨S_, .f32⟩
  | .hbm, ⟨50, _⟩ => ⟨S4x2048x16x64, .f32⟩
  | .hbm, ⟨51, _⟩ => ⟨S4x2048x16x64, .f32⟩
  | .hbm, ⟨52, _⟩ => ⟨S4x2048x16x64, .bf16⟩
  | _, _ => ⟨S9216x16x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_cst_1 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_cst_2 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩

abbrev nD : Nat := 1
abbrev τ : Topo := Topo.v7x

variable {F : FTy → Type} [FloatOps F]
-- ==== Kernel9.lean ====
abbrev S4x2048x4096 : Shape := ⟨3, ![4, 2048, 4096]⟩
abbrev S128x8x4096 : Shape := ⟨3, ![128, 8, 4096]⟩
abbrev S4096 : Shape := ⟨1, ![4096]⟩
abbrev S8192x4096 : Shape := ⟨2, ![8192, 4096]⟩
abbrev S1024x4096 : Shape := ⟨2, ![1024, 4096]⟩
abbrev S9216x4096 : Shape := ⟨2, ![9216, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 11
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S128x8x4096, .f32⟩
  | .hbm, ⟨2, _⟩ => ⟨S4096, .f32⟩
  | .hbm, ⟨3, _⟩ => ⟨S4096, .f32⟩
  | .hbm, ⟨4, _⟩ => ⟨S8192x4096, .f32⟩
  | .hbm, ⟨5, _⟩ => ⟨S1024x4096, .f32⟩
  | .hbm, ⟨6, _⟩ => ⟨S9216x4096, .f32⟩
  | .hbm, ⟨7, _⟩ => ⟨S1x4096, .f32⟩
  | .hbm, ⟨8, _⟩ => ⟨S1x4096, .f32⟩
  | .hbm, ⟨9, _⟩ => ⟨S9216x4096, .f32⟩
  | .hbm, ⟨10, _⟩ => ⟨S9216x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .bf16⟩
  | .local _ .vmem, ⟨7, _⟩ => ⟨S256x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S4x2048x4096 : Shape := ⟨3, ![4, 2048, 4096]⟩
abbrev S128x8x4096 : Shape := ⟨3, ![128, 8, 4096]⟩
abbrev S4096 : Shape := ⟨1, ![4096]⟩
abbrev S8192x4096 : Shape := ⟨2, ![8192, 4096]⟩
abbrev S1024x4096 : Shape := ⟨2, ![1024, 4096]⟩
abbrev S9216x4096 : Shape := ⟨2, ![9216, 4096]⟩
abbrev S_ : Shape := ⟨0, ![]⟩
abbrev S9216 : Shape := ⟨1, ![9216]⟩
abbrev S9216x1 : Shape := ⟨2, ![9216, 1]⟩
abbrev S1x4096 : Shape := ⟨2, ![1, 4096]⟩

abbrev nBuf : Space → Nat
  | .hbm => 37
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S128x8x4096, .f32⟩
  | .hbm, ⟨2, _⟩ => ⟨S4096, .f32⟩
  | .hbm, ⟨3, _⟩ => ⟨S4096, .f32⟩
  | .hbm, ⟨4, _⟩ => ⟨S8192x4096, .f32⟩
  | .hbm, ⟨5, _⟩ => ⟨S1024x4096, .f32⟩
  | .hbm, ⟨6, _⟩ => ⟨S9216x4096, .f32⟩
  | .hbm, ⟨7, _⟩ => ⟨S_, .f32⟩
  | .hbm, ⟨8, _⟩ => ⟨S9216, .f32⟩
  | .hbm, ⟨9, _⟩ => ⟨S9216x1, .f32⟩
  | .hbm, ⟨10, _⟩ => ⟨S_, .f32⟩
  | .hbm, ⟨11, _⟩ => ⟨S9216x1, .f32⟩
  | .hbm, ⟨12, _⟩ => ⟨S9216x1, .f32⟩
  | .hbm, ⟨13, _⟩ => ⟨S9216x4096, .f32⟩
  | .hbm, ⟨14, _⟩ => ⟨S9216x4096, .f32⟩
  | .hbm, ⟨15, _⟩ => ⟨S9216x4096, .f32⟩
  | .hbm, ⟨16, _⟩ => ⟨S_, .f32⟩
  | .hbm, ⟨17, _⟩ => ⟨S9216, .f32⟩
  | .hbm, ⟨18, _⟩ => ⟨S9216x1, .f32⟩
  | .hbm, ⟨19, _⟩ => ⟨S_, .f32⟩
  | .hbm, ⟨20, _⟩ => ⟨S9216x1, .f32⟩
  | .hbm, ⟨21, _⟩ => ⟨S9216x1, .f32⟩
  | .hbm, ⟨22, _⟩ => ⟨S9216x4096, .f32⟩
  | .hbm, ⟨23, _⟩ => ⟨S9216x4096, .f32⟩
  | .hbm, ⟨24, _⟩ => ⟨S_, .f32⟩
  | .hbm, ⟨25, _⟩ => ⟨S9216x1, .f32⟩
  | .hbm, ⟨26, _⟩ => ⟨S9216x1, .f32⟩
  | .hbm, ⟨27, _⟩ => ⟨S9216x1, .f32⟩
  | .hbm, ⟨28, _⟩ => ⟨S9216x4096, .f32⟩
  | .hbm, ⟨29, _⟩ => ⟨S9216x4096, .f32⟩
  | .hbm, ⟨30, _⟩ => ⟨S1x4096, .f32⟩
  | .hbm, ⟨31, _⟩ => ⟨S9216x4096, .f32⟩
  | .hbm, ⟨32, _⟩ => ⟨S9216x4096, .f32⟩
  | .hbm, ⟨33, _⟩ => ⟨S1x4096, .f32⟩
  | .hbm, ⟨34, _⟩ => ⟨S9216x4096, .f32⟩
  | .hbm, ⟨35, _⟩ => ⟨S9216x4096, .f32⟩
  | .hbm, ⟨36, _⟩ => ⟨S9216x4096, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Kernel10.lean ====
abbrev S172032x4096 : Shape := ⟨2, ![172032, 4096]⟩
abbrev S9216x8 : Shape := ⟨2, ![9216, 8]⟩
abbrev S8x9216 : Shape := ⟨2, ![8, 9216]⟩
abbrev S_ : Shape := ⟨0, ![]⟩
abbrev S8x9216x1 : Shape := ⟨3, ![8, 9216, 1]⟩
abbrev S8x9216x4096 : Shape := ⟨3, ![8, 9216, 4096]⟩
abbrev S9216x4096 : Shape := ⟨2, ![9216, 4096]⟩
abbrev S128x8 : Shape := ⟨2, ![128, 8]⟩
abbrev S1x128x4096 : Shape := ⟨3, ![1, 128, 4096]⟩
abbrev S128x4096 : Shape := ⟨2, ![128, 4096]⟩
abbrev S128x1 : Shape := ⟨2, ![128, 1]⟩

abbrev nBuf : Space → Nat
  | .hbm => 14
  | .vmem => 20
  | .smem => 0
  | _ => 0

abbrev bufTy : (tb : Table) → Fin (tcTables nBuf tb) → BufTy
  | .hbm, ⟨0, _⟩ => ⟨S172032x4096, .f32⟩
  | .hbm, ⟨1, _⟩ => ⟨S9216x8, .i32⟩
  | .hbm, ⟨2, _⟩ => ⟨S9216x8, .f32⟩
  | .hbm, ⟨3, _⟩ => ⟨S8x9216, .i32⟩
  | .hbm, ⟨4, _⟩ => ⟨S_, .i32⟩
  | .hbm, ⟨5, _⟩ => ⟨S8x9216, .i32⟩
  | .hbm, ⟨6, _⟩ => ⟨S8x9216, .i1⟩
  | .hbm, ⟨7, _⟩ => ⟨S_, .i32⟩
  | .hbm, ⟨8, _⟩ => ⟨S8x9216, .i32⟩
  | .hbm, ⟨9, _⟩ => ⟨S8x9216, .i32⟩
  | .hbm, ⟨10, _⟩ => ⟨S8x9216, .i32⟩
  | .hbm, ⟨11, _⟩ => ⟨S8x9216x1, .i32⟩
  | .hbm, ⟨12, _⟩ => ⟨S8x9216x4096, .f32⟩
  | .hbm, ⟨13, _⟩ => ⟨S9216x4096, .f32⟩
  | .local _ .vmem, ⟨0, _⟩ => ⟨S128x8, .f32⟩
  | .local _ .vmem, ⟨1, _⟩ => ⟨S128x8, .f32⟩
  | .local _ .vmem, ⟨2, _⟩ => ⟨S1x128x4096, .f32⟩
  | .local _ .vmem, ⟨3, _⟩ => ⟨S1x128x4096, .f32⟩
  | .local _ .vmem, ⟨4, _⟩ => ⟨S1x128x4096, .f32⟩
  | .local _ .vmem, ⟨5, _⟩ => ⟨S1x128x4096, .f32⟩
  | .local _ .vmem, ⟨6, _⟩ => ⟨S1x128x4096, .f32⟩
  | .local _ .vmem, ⟨7, _⟩ => ⟨S1x128x4096, .f32⟩
  | .local _ .vmem, ⟨8, _⟩ => ⟨S1x128x4096, .f32⟩
  | .local _ .vmem, ⟨9, _⟩ => ⟨S1x128x4096, .f32⟩
  | .local _ .vmem, ⟨10, _⟩ => ⟨S1x128x4096, .f32⟩
  | .local _ .vmem, ⟨11, _⟩ => ⟨S1x128x4096, .f32⟩
  | .local _ .vmem, ⟨12, _⟩ => ⟨S1x128x4096, .f32⟩
  | .local _ .vmem, ⟨13, _⟩ => ⟨S1x128x4096, .f32⟩
  | .local _ .vmem, ⟨14, _⟩ => ⟨S1x128x4096, .f32⟩
  | .local _ .vmem, ⟨15, _⟩ => ⟨S1x128x4096, .f32⟩
  | .local _ .vmem, ⟨16, _⟩ => ⟨S1x128x4096, .f32⟩
  | .local _ .vmem, ⟨17, _⟩ => ⟨S1x128x4096, .f32⟩
  | .local _ .vmem, ⟨18, _⟩ => ⟨S128x4096, .f32⟩
  | .local _ .vmem, ⟨19, _⟩ => ⟨S128x4096, .f32⟩
  | _, _ => ⟨S172032x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![72], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_5 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_6 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_7 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_8 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference10Ideal.lean ====
abbrev S172032x4096 : Shape := ⟨2, ![172032, 4096]⟩
abbrev S9216x8 : Shape := ⟨2, ![9216, 8]⟩
abbrev S_ : Shape := ⟨0, ![]⟩
abbrev S9216x8x1 : Shape := ⟨3, ![9216, 8, 1]⟩
abbrev S9216x8x4096 : Shape := ⟨3, ![9216, 8, 4096]⟩
abbrev S9216x4096 : Shape := ⟨2, ![9216, 4096]⟩

abbrev nBuf : Space → Nat
  | .hbm => 17
  | .vmem => 0
  | .smem => 0
  | _ => 0

abbrev bufTy : (tb : Table) → Fin (tcTables nBuf tb) → BufTy
  | .hbm, ⟨0, _⟩ => ⟨S172032x4096, .f32⟩
  | .hbm, ⟨1, _⟩ => ⟨S9216x8, .i32⟩
  | .hbm, ⟨2, _⟩ => ⟨S9216x8, .f32⟩
  | .hbm, ⟨3, _⟩ => ⟨S_, .i32⟩
  | .hbm, ⟨4, _⟩ => ⟨S9216x8, .i32⟩
  | .hbm, ⟨5, _⟩ => ⟨S9216x8, .i1⟩
  | .hbm, ⟨6, _⟩ => ⟨S_, .i32⟩
  | .hbm, ⟨7, _⟩ => ⟨S9216x8, .i32⟩
  | .hbm, ⟨8, _⟩ => ⟨S9216x8, .i32⟩
  | .hbm, ⟨9, _⟩ => ⟨S9216x8, .i32⟩
  | .hbm, ⟨10, _⟩ => ⟨S9216x8x1, .i32⟩
  | .hbm, ⟨11, _⟩ => ⟨S9216x8x4096, .f32⟩
  | .hbm, ⟨12, _⟩ => ⟨S9216x8x1, .f32⟩
  | .hbm, ⟨13, _⟩ => ⟨S9216x8x4096, .f32⟩
  | .hbm, ⟨14, _⟩ => ⟨S9216x8x4096, .f32⟩
  | .hbm, ⟨15, _⟩ => ⟨S_, .f32⟩
  | .hbm, ⟨16, _⟩ => ⟨S9216x4096, .f32⟩
  | _, _ => ⟨S172032x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Proof.InProjRef.lean ====
/- The input projection's reference: its results as functions of its arguments, and the projected rows at an entry. -/
module

public import proofs.«01_k».proof.Proof.Gen.Reference2Ideal.Run
public import Idealize.ShloMosaic.Lib.Pointwise

@[expose] public section

set_option maxRecDepth 16384

noncomputable section

namespace Cert.InProjRef

open Idealize.ShloMosaic Idealize.ShloMosaic.TcCoe
open Cert.Reference2Ideal Cert.Reference2Ideal.Gen

/-- The projected rows. -/
def proj (h : FVec Ideal S9216x4096 .f32) (w : FVec Ideal S1x4096x16320 .f32) : FVec Ideal S9216x16320 .f32 :=
  Host.dotGeneral dot_S9216x4096_S4096x16320_S9216x16320_1_0_0_1_n_n none h (shapeCast _ w shapeCasts_S1x4096x16320_S4096x16320)

theorem proj_at (h : FVec Ideal S9216x4096 .f32) (w : FVec Ideal S1x4096x16320 .f32) (r : Fin 9216) (g : Fin 16320) :
    proj h w (ix2 r g) = ∑ k : Fin 4096, h (ix2 r k) * w (ix3 0 k g) := by
  pointwise [proj]

/-- The mixing rows' columns. -/
def rw (p : FVec Ideal S9216x16320 .f32) : FVec Ideal S9216x6528 .f32 := extractStridedSlice S9216x6528 ![0, 0] p slices_S9216x16320_S9216x6528_0_0
/-- The query columns. -/
def q (p : FVec Ideal S9216x16320 .f32) : FVec Ideal S9216x1024 .f32 := extractStridedSlice S9216x1024 ![0, 6528] p slices_S9216x16320_S9216x1024_0_6528
/-- The columns of the compressed keys. -/
def kv (p : FVec Ideal S9216x16320 .f32) : FVec Ideal S9216x576 .f32 := extractStridedSlice S9216x576 ![0, 7552] p slices_S9216x16320_S9216x576_0_7552
/-- The gates' columns. -/
def gate (p : FVec Ideal S9216x16320 .f32) : FVec Ideal S9216x8192 .f32 := extractStridedSlice S9216x8192 ![0, 8128] p slices_S9216x16320_S9216x8192_0_8128
/-- Each prompt's last mixing row. -/
def lastPrompt (x : FVec Ideal S9216x6528 .f32) : FVec Ideal S1x4x6528 .f32 :=
  broadcastInDim S1x4x6528 ![1, 2] bcast_S4x6528_S1x4x6528_1_2 (shapeCast _ (extractStridedSlice S4x1x6528 ![0, 2047, 0] (shapeCast _ (extractStridedSlice S8192x6528 ![0, 0] x slices_S9216x6528_S8192x6528_0_0) shapeCasts_S8192x6528_S4x2048x6528) slices_S4x2048x6528_S4x1x6528_0_2047_0) shapeCasts_S4x1x6528_S4x6528)
/-- Each sample's last mixing row. -/
def lastSample (x : FVec Ideal S9216x6528 .f32) : FVec Ideal S1x128x6528 .f32 :=
  broadcastInDim S1x128x6528 ![1, 2] bcast_S128x6528_S1x128x6528_1_2 (shapeCast _ (extractStridedSlice S128x1x6528 ![0, 7, 0] (shapeCast _ (extractStridedSlice S1024x6528 ![8192, 0] x slices_S9216x6528_S1024x6528_8192_0) shapeCasts_S1024x6528_S128x8x6528) slices_S128x8x6528_S128x1x6528_0_7_0) shapeCasts_S128x1x6528_S128x6528)

theorem rw_at (p : FVec Ideal S9216x16320 .f32) (r : Fin 9216) (j : Fin 6528) (g : Fin 16320) (hg : g.val = j.val) : rw p (ix2 r j) = p (ix2 r g) := by
  pointwise [rw]
  refine congrArg p ((ix2_inj ..).2 ⟨rfl, Fin.ext ?_⟩); simp; omega
theorem q_at (p : FVec Ideal S9216x16320 .f32) (r : Fin 9216) (j : Fin 1024) (g : Fin 16320) (hg : g.val = 6528 + j.val) : q p (ix2 r j) = p (ix2 r g) := by
  pointwise [q]
  refine congrArg p ((ix2_inj ..).2 ⟨rfl, Fin.ext ?_⟩); simp; omega
theorem kv_at (p : FVec Ideal S9216x16320 .f32) (r : Fin 9216) (j : Fin 576) (g : Fin 16320) (hg : g.val = 7552 + j.val) : kv p (ix2 r j) = p (ix2 r g) := by
  pointwise [kv]
  refine congrArg p ((ix2_inj ..).2 ⟨rfl, Fin.ext ?_⟩); simp; omega
theorem gate_at (p : FVec Ideal S9216x16320 .f32) (r : Fin 9216) (j : Fin 8192) (g : Fin 16320) (hg : g.val = 8128 + j.val) : gate p (ix2 r j) = p (ix2 r g) := by
  pointwise [gate]
  refine congrArg p ((ix2_inj ..).2 ⟨rfl, Fin.ext ?_⟩); simp; omega
theorem lastPrompt_at (x : FVec Ideal S9216x6528 .f32) (b : Fin 4) (j : Fin 6528) (r : Fin 9216) (hr : r.val = b.val * 2048 + 2047) :
    lastPrompt x (ix3 0 b j) = x (ix2 r j) := by
  pointwise [lastPrompt]
  refine congrArg x ((ix2_inj ..).2 ⟨Fin.ext ?_, Fin.ext ?_⟩) <;> simp <;> omega
theorem lastSample_at (x : FVec Ideal S9216x6528 .f32) (b : Fin 128) (j : Fin 6528) (r : Fin 9216) (hr : r.val = 8192 + b.val * 8 + 7) :
    lastSample x (ix3 0 b j) = x (ix2 r j) := by
  pointwise [lastSample]
  refine congrArg x ((ix2_inj ..).2 ⟨Fin.ext ?_, Fin.ext ?_⟩) <;> simp <;> omega

end Cert.InProjRef

end
-- ==== Proof.InProj.lean ====
/- The input projection: the kernel's array is the projected rows with their columns in the version's own order, and the
   operations after it put the columns back and take each sequence's last row. -/
module

public import proofs.«01_k».proof.Proof.Gen.Kernel2Ideal.Frame
public import proofs.«01_k».proof.Proof.InProjRef
public import Idealize.ShloMosaic.Lib.Pipeline.ValueKit
public import Idealize.ShloMosaic.Lib.Pointwise
public import Idealize.ShloMosaic.Lib.Claim
public import Idealize.ShloMosaic.Lib.Routing.Ops
public import Idealize.ShloMosaic.Lib.StableHlo.RunRead

@[expose] public section

set_option maxRecDepth 16384

noncomputable section

namespace Cert.InProj

open Idealize.ShloMosaic Idealize.ShloMosaic.TcCoe Idealize.SL Idealize.SL.Sem
open Cert.Kernel2Ideal Cert.Kernel2Ideal.Gen

variable (m : (ℓ : Loc nD τ sig) → Buf (Elt Ideal) ℓ) (c : Dev nD)

/-- Where each window's block lies. -/
theorem idx : ∀ t : Fin cfg0.N,
    (win0_0.index t (0 : Fin 2) = t.val / 32 ∧ win0_0.index t (1 : Fin 2) = 0) ∧
    (win0_1.index t (0 : Fin 2) = 0 ∧ win0_1.index t (1 : Fin 2) = t.val % 32) ∧
    (win0_2.index t (0 : Fin 2) = t.val / 32 ∧ win0_2.index t (1 : Fin 2) = t.val % 32) :=
  (by decide +kernel : ∀ t : Fin grid0.N, _)

/-- The weight, its columns in the kernel's order. -/
@[irreducible] def cols (w : FVec Ideal S1x4096x16320 .f32) : FVec Ideal S4096x16384 .bf16 :=
  let v : FVec Ideal S4096x16320 .f32 := shapeCast S4096x16320 w shapeCasts_S1x4096x16320_S4096x16320
  truncf .bf16 (concatenate S4096x16384 1 [⟨S4096x6144, extractStridedSlice S4096x6144 ![0, 0] v slices_S4096x16320_S4096x6144_0_0⟩,
    ⟨S4096x8192, extractStridedSlice S4096x8192 ![0, 8128] v slices_S4096x16320_S4096x8192_0_8128⟩,
    ⟨S4096x1024, extractStridedSlice S4096x1024 ![0, 6528] v slices_S4096x16320_S4096x1024_0_6528⟩,
    ⟨S4096x512, extractStridedSlice S4096x512 ![0, 7552] v slices_S4096x16320_S4096x512_0_7552⟩,
    ⟨S4096x256, extractStridedSlice S4096x256 ![0, 6272] v slices_S4096x16320_S4096x256_0_6272⟩,
    ⟨S4096x64, extractStridedSlice S4096x64 ![0, 6144] v slices_S4096x16320_S4096x64_0_6144⟩,
    ⟨S4096x64, extractStridedSlice S4096x64 ![0, 6208] v slices_S4096x16320_S4096x64_0_6208⟩,
    ⟨S4096x64, extractStridedSlice S4096x64 ![0, 8064] v slices_S4096x16320_S4096x64_0_8064⟩,
    ⟨S4096x64, broadcastInDim S4096x64 ![] bcast_S_S4096x64 (constant S_ .f32 0x00000000#32)⟩]
    concatenates_S4096x6144_S4096x8192_S4096x1024_S4096x512_S4096x256_S4096x64_S4096x64_S4096x64_S4096x64_S4096x16384_d1 : FVec Ideal S4096x16384 .f32) bitsLt_bf16_f32

/-- The kernel's column `j` holds the weight's column `g`. -/
def At (j g : ℕ) : Prop :=
  (j < 6144 ∧ g = j) ∨ (6144 ≤ j ∧ j < 14336 ∧ g = j + 1984) ∨ (14336 ≤ j ∧ j < 15360 ∧ g + 7808 = j) ∨ (15360 ≤ j ∧ j < 15872 ∧ g + 7808 = j)
    ∨ (15872 ≤ j ∧ j < 16128 ∧ g + 9600 = j) ∨ (16128 ≤ j ∧ j < 16256 ∧ g + 9984 = j) ∨ (16256 ≤ j ∧ j < 16320 ∧ g + 8192 = j)

theorem cols_at (w : FVec Ideal S1x4096x16320 .f32) (k : Fin 4096) (j : Fin 16384) (g : Fin 16320) (h : At j.val g.val) :
    cols w (ix2 k j) = w (ix3 0 k g) := by
  unfold cols
  have hj := j.isLt
  unfold At at h
  pointwise
  split_ifs <;> first | omega | (refine congrArg w ((ix3_inj ..).2 ⟨rfl, rfl, Fin.ext ?_⟩); simp; omega)

/-- The rows as the product reads them. -/
theorem V12 : V m c main_v12 = (truncf .bf16 (m ((c : Thread nD τ).loc main_arg0) : FVec Ideal S9216x4096 .f32) bitsLt_bf16_f32 : FVec Ideal S9216x4096 .bf16) := by entry_read; rfl
/-- The weight as the product reads it. -/
theorem V11 : V m c main_v11 = cols (m ((c : Thread nD τ).loc main_arg1)) := by
  unfold V cols; rfl

/-- The product. -/
def prod (h : FVec Ideal S9216x4096 .f32) (w : FVec Ideal S4096x16384 .bf16) : FVec Ideal S9216x16384 .f32 :=
  fun i => ∑ k : Fin 4096, h (ix2 (i 0) k) * w (ix2 k (i 1))

/-- What the body stores at an entry of its block is the product's entry there. -/
theorem point (t : Fin cfg0.N) (y) : k0_pay1 (F := Ideal) (iblk m c 0 t) (iblk m c 1 t) y
    = prod (m ((c : Thread nD τ).loc main_arg0)) (cols (m ((c : Thread nD τ).loc main_arg1))) (((cfg0.win 2).blk t).view.emb y) := by
  have hP := V11 m c
  generalize cols (m ((c : Thread nD τ).loc main_arg1)) = P at hP ⊢
  pointwise [k0_pay1, prod]
  blk_point [iblk, V12 m c, hP, idx t]

/-- The kernel's array after the region. -/
theorem final : (dats m 0 c).arrAt 2 cfg0.N
    = prod (m ((c : Thread nD τ).loc main_arg0)) (cols (m ((c : Thread nD τ).loc main_arg1))) := by
  refine (dats m 0 c).arrAt_eq_of_covers 2 _ (by decide +kernel) fun t _ y => ?_
  blk_simp
  rw [after0_2]; frame_out
  exact point m c t y

theorem prod_at (h : FVec Ideal S9216x4096 .f32) (w : FVec Ideal S1x4096x16320 .f32) (r : Fin 9216) (j : Fin 16384) (g : Fin 16320) (hg : At j.val g.val) :
    prod h (cols w) (ix2 r j) = InProjRef.proj h w (ix2 r g) := by
  rw [InProjRef.proj_at]
  exact Finset.sum_congr rfl fun k _ => congrArg (h (ix2 r k) * ·) (cols_at w k j g hg)

/-! ## The operations after the kernel -/

variable (A : FVec Ideal S9216x16384 .f32)

def tRw : FVec Ideal S9216x6528 .f32 := concatenate S9216x6528 1 [⟨S9216x6144, extractStridedSlice S9216x6144 ![0, 0] A slices_S9216x16384_S9216x6144_0_0⟩, ⟨S9216x128, extractStridedSlice S9216x128 ![0, 16128] A slices_S9216x16384_S9216x128_0_16128⟩, ⟨S9216x256, extractStridedSlice S9216x256 ![0, 15872] A slices_S9216x16384_S9216x256_0_15872⟩] concatenates_S9216x6144_S9216x128_S9216x256_S9216x6528_d1
def tQ : FVec Ideal S9216x1024 .f32 := extractStridedSlice S9216x1024 ![0, 14336] A slices_S9216x16384_S9216x1024_0_14336
def tKv : FVec Ideal S9216x576 .f32 := concatenate S9216x576 1 [⟨S9216x512, extractStridedSlice S9216x512 ![0, 15360] A slices_S9216x16384_S9216x512_0_15360⟩, ⟨S9216x64, extractStridedSlice S9216x64 ![0, 16256] A slices_S9216x16384_S9216x64_0_16256⟩] concatenates_S9216x512_S9216x64_S9216x576_d1
def tGate : FVec Ideal S9216x8192 .f32 := extractStridedSlice S9216x8192 ![0, 6144] A slices_S9216x16384_S9216x8192_0_6144

/-- The prompts' last rows' numbers. -/
def rows4 : IVec S4x1 32 :=
  let n := addi (addi (broadcastInDim S4 ![] bcast_S_S4 (constantI S_ 32 0#32)) (muli (iotaInDim S4 32 0) (broadcastInDim S4 ![] bcast_S_S4 (constantI S_ 32 2048#32)))) (broadcastInDim S4 ![] bcast_S_S4 (constantI S_ 32 2047#32))
  broadcastInDim S4x1 ![0] bcast_S4_S4x1_0 (select (cmpi .slt n (broadcastInDim S4 ![] bcast_S_S4 (constantI S_ 32 0#32))) (addi n (broadcastInDim S4 ![] bcast_S_S4 (constantI S_ 32 9216#32))) n)
/-- The samples' last rows' numbers. -/
def rows128 : IVec S128x1 32 :=
  let n := addi (addi (broadcastInDim S128 ![] bcast_S_S128 (constantI S_ 32 8192#32)) (muli (iotaInDim S128 32 0) (broadcastInDim S128 ![] bcast_S_S128 (constantI S_ 32 8#32)))) (broadcastInDim S128 ![] bcast_S_S128 (constantI S_ 32 7#32))
  broadcastInDim S128x1 ![0] bcast_S128_S128x1_0 (select (cmpi .slt n (broadcastInDim S128 ![] bcast_S_S128 (constantI S_ 32 0#32))) (addi n (broadcastInDim S128 ![] bcast_S_S128 (constantI S_ 32 9216#32))) n)

def tPrompt : FVec Ideal S1x4x6528 .f32 :=
  let g : FVec Ideal S4x16384 .f32 := Host.gather gather_S9216x16384_S4x1_S4x16384_1_0_n_n_0_1_116384 A rows4
  broadcastInDim S1x4x6528 ![1, 2] bcast_S4x6528_S1x4x6528_1_2 (concatenate S4x6528 1 [⟨S4x6144, extractStridedSlice S4x6144 ![0, 0] g slices_S4x16384_S4x6144_0_0⟩, ⟨S4x128, extractStridedSlice S4x128 ![0, 16128] g slices_S4x16384_S4x128_0_16128⟩, ⟨S4x256, extractStridedSlice S4x256 ![0, 15872] g slices_S4x16384_S4x256_0_15872⟩] concatenates_S4x6144_S4x128_S4x256_S4x6528_d1)
def tSample : FVec Ideal S1x128x6528 .f32 :=
  let g : FVec Ideal S128x16384 .f32 := Host.gather gather_S9216x16384_S128x1_S128x16384_1_0_n_n_0_1_116384 A rows128
  broadcastInDim S1x128x6528 ![1, 2] bcast_S128x6528_S1x128x6528_1_2 (concatenate S128x6528 1 [⟨S128x6144, extractStridedSlice S128x6144 ![0, 0] g slices_S128x16384_S128x6144_0_0⟩, ⟨S128x128, extractStridedSlice S128x128 ![0, 16128] g slices_S128x16384_S128x128_0_16128⟩, ⟨S128x256, extractStridedSlice S128x256 ![0, 15872] g slices_S128x16384_S128x256_0_15872⟩] concatenates_S128x6144_S128x128_S128x256_S128x6528_d1)

theorem rows4_at : ∀ b : Fin 4, rows4 (ix2 b 0) = BitVec.ofNat 32 (b.val * 2048 + 2047) := by decide +kernel
theorem rows128_at : ∀ b : Fin 128, rows128 (ix2 b 0) = BitVec.ofNat 32 (8192 + b.val * 8 + 7) := by decide +kernel

variable (W : Valuation τ sig (Elt Ideal))

theorem after_Rw : StableHlo.after hostOps1 W (Proc.devRef .tc main_v17) = tRw (W (Proc.devRef .tc main_v13)) := by unfold tRw; rfl
theorem after_Q : StableHlo.after hostOps1 W (Proc.devRef .tc main_v18) = tQ (W (Proc.devRef .tc main_v13)) := by unfold tQ; rfl
theorem after_Kv : StableHlo.after hostOps1 W (Proc.devRef .tc main_v21) = tKv (W (Proc.devRef .tc main_v13)) := by unfold tKv; rfl
theorem after_Gate : StableHlo.after hostOps1 W (Proc.devRef .tc main_v22) = tGate (W (Proc.devRef .tc main_v13)) := by unfold tGate; rfl
set_option maxHeartbeats 4000000 in
theorem after_Prompt : StableHlo.after hostOps1 W (Proc.devRef .tc main_v41) = tPrompt (W (Proc.devRef .tc main_v13)) := by after_reads_simp; unfold tPrompt rows4; rfl
theorem after_Sample : StableHlo.after hostOps1 W (Proc.devRef .tc main_v60) = tSample (W (Proc.devRef .tc main_v13)) := by after_reads_simp; unfold tSample rows128; rfl

/-! ## The results -/

variable (h : FVec Ideal S9216x4096 .f32) (w : FVec Ideal S1x4096x16320 .f32)

theorem tRw_at (r : Fin 9216) (j : Fin 6528) : tRw (prod h (cols w)) (ix2 r j) = InProjRef.rw (InProjRef.proj h w) (ix2 r j) := by
  have hj := j.isLt
  rw [InProjRef.rw_at _ r j ⟨j.val, by omega⟩ rfl]
  have hP := prod_at h w
  generalize prod h (cols w) = P at hP ⊢
  generalize InProjRef.proj h w = Q at hP ⊢
  pointwise [tRw]
  split_ifs <;> exact hP _ _ _ (by unfold At; simp; omega)

theorem tQ_at (r : Fin 9216) (j : Fin 1024) : tQ (prod h (cols w)) (ix2 r j) = InProjRef.q (InProjRef.proj h w) (ix2 r j) := by
  have hj := j.isLt
  rw [InProjRef.q_at _ r j ⟨6528 + j.val, by omega⟩ rfl]
  have hP := prod_at h w
  generalize prod h (cols w) = P at hP ⊢
  generalize InProjRef.proj h w = Q at hP ⊢
  pointwise [tQ]
  exact hP _ _ _ (by unfold At; simp; omega)

theorem tKv_at (r : Fin 9216) (j : Fin 576) : tKv (prod h (cols w)) (ix2 r j) = InProjRef.kv (InProjRef.proj h w) (ix2 r j) := by
  have hj := j.isLt
  rw [InProjRef.kv_at _ r j ⟨7552 + j.val, by omega⟩ rfl]
  have hP := prod_at h w
  generalize prod h (cols w) = P at hP ⊢
  generalize InProjRef.proj h w = Q at hP ⊢
  pointwise [tKv]
  split_ifs <;> exact hP _ _ _ (by unfold At; simp; omega)

theorem tGate_at (r : Fin 9216) (j : Fin 8192) : tGate (prod h (cols w)) (ix2 r j) = InProjRef.gate (InProjRef.proj h w) (ix2 r j) := by
  have hj := j.isLt
  rw [InProjRef.gate_at _ r j ⟨8128 + j.val, by omega⟩ rfl]
  have hP := prod_at h w
  generalize prod h (cols w) = P at hP ⊢
  generalize InProjRef.proj h w = Q at hP ⊢
  pointwise [tGate]
  exact hP _ _ _ (by unfold At; simp; omega)

theorem tPrompt_at (b : Fin 4) (j : Fin 6528) :
    tPrompt (prod h (cols w)) (ix3 0 b j) = InProjRef.lastPrompt (InProjRef.rw (InProjRef.proj h w)) (ix3 0 b j) := by
  have hb := b.isLt
  have hj := j.isLt
  have hr : b.val * 2048 + 2047 < 9216 := by omega
  rw [InProjRef.lastPrompt_at _ b j ⟨b.val * 2048 + 2047, hr⟩ rfl, InProjRef.rw_at _ _ j ⟨j.val, by omega⟩ rfl]
  have hP := prod_at h w
  generalize prod h (cols w) = P at hP ⊢
  generalize InProjRef.proj h w = Q at hP ⊢
  have hg : ∀ y : Fin 16384, Host.gather gather_S9216x16384_S4x1_S4x16384_1_0_n_n_0_1_116384 P rows4 (ix2 b y) = P (ix2 ⟨b.val * 2048 + 2047, hr⟩ y) :=
    fun y => Routing.gather_row _ rfl rfl rfl rfl rfl P rows4 b y ⟨b.val * 2048 + 2047, hr⟩ (rows4_at b) (by norm_num)
  unfold tPrompt
  generalize Host.gather gather_S9216x16384_S4x1_S4x16384_1_0_n_n_0_1_116384 P rows4 = G at hg ⊢
  pointwise
  split_ifs <;> (refine (hg _).trans (hP _ _ _ ?_); unfold At; simp; omega)

theorem tSample_at (b : Fin 128) (j : Fin 6528) :
    tSample (prod h (cols w)) (ix3 0 b j) = InProjRef.lastSample (InProjRef.rw (InProjRef.proj h w)) (ix3 0 b j) := by
  have hb := b.isLt
  have hj := j.isLt
  have hr : 8192 + b.val * 8 + 7 < 9216 := by omega
  rw [InProjRef.lastSample_at _ b j ⟨8192 + b.val * 8 + 7, hr⟩ rfl, InProjRef.rw_at _ _ j ⟨j.val, by omega⟩ rfl]
  have hP := prod_at h w
  generalize prod h (cols w) = P at hP ⊢
  generalize InProjRef.proj h w = Q at hP ⊢
  have hg : ∀ y : Fin 16384, Host.gather gather_S9216x16384_S128x1_S128x16384_1_0_n_n_0_1_116384 P rows128 (ix2 b y) = P (ix2 ⟨8192 + b.val * 8 + 7, hr⟩ y) :=
    fun y => Routing.gather_row _ rfl rfl rfl rfl rfl P rows128 b y ⟨8192 + b.val * 8 + 7, hr⟩ (rows128_at b) (by norm_num)
  unfold tSample
  generalize Host.gather gather_S9216x16384_S128x1_S128x16384_1_0_n_n_0_1_116384 P rows128 = G at hg ⊢
  pointwise
  split_ifs <;> (refine (hg _).trans (hP _ _ _ ?_); unfold At; simp; omega)

theorem eRw : tRw (prod h (cols w)) = InProjRef.rw (InProjRef.proj h w) := by
  funext i; rw [ValueIdx.eq_ix2 i]; exact tRw_at h w (i 0) (i 1)
theorem eQ : tQ (prod h (cols w)) = InProjRef.q (InProjRef.proj h w) := by
  funext i; rw [ValueIdx.eq_ix2 i]; exact tQ_at h w (i 0) (i 1)
theorem eKv : tKv (prod h (cols w)) = InProjRef.kv (InProjRef.proj h w) := by
  funext i; rw [ValueIdx.eq_ix2 i]; exact tKv_at h w (i 0) (i 1)
theorem eGate : tGate (prod h (cols w)) = InProjRef.gate (InProjRef.proj h w) := by
  funext i; rw [ValueIdx.eq_ix2 i]; exact tGate_at h w (i 0) (i 1)
theorem ePrompt : tPrompt (prod h (cols w)) = InProjRef.lastPrompt (InProjRef.rw (InProjRef.proj h w)) := by
  funext i; rw [ValueIdx.eq_ix3 i, Fin.fin_one_eq_zero (i 0)]; exact tPrompt_at h w (i 1) (i 2)
theorem eSample : tSample (prod h (cols w)) = InProjRef.lastSample (InProjRef.rw (InProjRef.proj h w)) := by
  funext i; rw [ValueIdx.eq_ix3 i, Fin.fin_one_eq_zero (i 0)]; exact tSample_at h w (i 1) (i 2)

/-- What the operations after the kernel leave at a buffer. -/
theorem tail (b : Ref sig .tc) (T : FVec Ideal S9216x16384 .f32 → b.ty.Contents (Elt Ideal))
    (hT : ∀ W : Valuation τ sig (Elt Ideal), StableHlo.after hostOps1 W (Proc.devRef .tc b) = T (W (Proc.devRef .tc main_v13))) :
    Pipeline.afterTail₀ cfgs (dats m) 0 (V0 m) [hostOps1] c b = T (prod (m ((c : Thread nD τ).loc main_arg0)) (cols (m ((c : Thread nD τ).loc main_arg1)))) := by
  unfold Pipeline.afterTail₀
  rw [List.flatten_singleton]
  refine (hT _).trans (congrArg T ?_)
  exact (Pipeline.withArrays_arr spec0 winFacts0.arr_inj c (V0 m c) _ 2).trans (final m c)

/-- The run. -/
theorem run (ρ : Dev nD → PrngReg) :
    θ_run (defs (F := Ideal)) (onTc (τ := τ) (main (F := Ideal))) ⟨m, fun _ => 0, ρ⟩ fun r => ∀ c : Dev nD,
      r.2.mem ((c : Thread nD τ).loc main_v17) = InProjRef.rw (InProjRef.proj (m ((c : Thread nD τ).loc main_arg0)) (m ((c : Thread nD τ).loc main_arg1)))
      ∧ r.2.mem ((c : Thread nD τ).loc main_v18) = InProjRef.q (InProjRef.proj (m ((c : Thread nD τ).loc main_arg0)) (m ((c : Thread nD τ).loc main_arg1)))
      ∧ r.2.mem ((c : Thread nD τ).loc main_v21) = InProjRef.kv (InProjRef.proj (m ((c : Thread nD τ).loc main_arg0)) (m ((c : Thread nD τ).loc main_arg1)))
      ∧ r.2.mem ((c : Thread nD τ).loc main_v22) = InProjRef.gate (InProjRef.proj (m ((c : Thread nD τ).loc main_arg0)) (m ((c : Thread nD τ).loc main_arg1)))
      ∧ r.2.mem ((c : Thread nD τ).loc main_v41) = InProjRef.lastPrompt (InProjRef.rw (InProjRef.proj (m ((c : Thread nD τ).loc main_arg0)) (m ((c : Thread nD τ).loc main_arg1))))
      ∧ r.2.mem ((c : Thread nD τ).loc main_v60) = InProjRef.lastSample (InProjRef.rw (InProjRef.proj (m ((c : Thread nD τ).loc main_arg0)) (m ((c : Thread nD τ).loc main_arg1))))
      ∧ r.2.mem ((c : Thread nD τ).loc main_arg0) = m ((c : Thread nD τ).loc main_arg0)
      ∧ r.2.mem ((c : Thread nD τ).loc main_arg1) = m ((c : Thread nD τ).loc main_arg1) :=
  (θ_run (defs (F := Ideal)) _ _).mono (fun r h c =>
    ⟨((h c).2 main_v17 (Pipeline.mem_restRefs_of main_v17 (by decide) (by decide))).trans ((tail m c main_v17 tRw after_Rw).trans (eRw _ _)),
     ((h c).2 main_v18 (Pipeline.mem_restRefs_of main_v18 (by decide) (by decide))).trans ((tail m c main_v18 tQ after_Q).trans (eQ _ _)),
     ((h c).2 main_v21 (Pipeline.mem_restRefs_of main_v21 (by decide) (by decide))).trans ((tail m c main_v21 tKv after_Kv).trans (eKv _ _)),
     ((h c).2 main_v22 (Pipeline.mem_restRefs_of main_v22 (by decide) (by decide))).trans ((tail m c main_v22 tGate after_Gate).trans (eGate _ _)),
     ((h c).2 main_v41 (Pipeline.mem_restRefs_of main_v41 (by decide) (by decide))).trans ((tail m c main_v41 tPrompt after_Prompt).trans (ePrompt _ _)),
     ((h c).2 main_v60 (Pipeline.mem_restRefs_of main_v60 (by decide) (by decide))).trans ((tail m c main_v60 tSample after_Sample).trans (eSample _ _)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.InProj

end
-- ==== Proof.MergeRef.lean ====
/- The gated merge's reference, entry by entry: the sum over the two branches of the gate times the branch's projection. -/
module

public import proofs.«01_k».proof.Proof.Gen.Reference3Ideal.Run
public import Idealize.ShloMosaic.Lib.Pipeline.ValueKit
public import Idealize.ShloMosaic.Lib.Pointwise
public import Idealize.ShloMosaic.Lib.Claim

@[expose] public section

set_option maxRecDepth 16384

noncomputable section

namespace Cert.MergeRef

open Idealize.ShloMosaic Idealize.ShloMosaic.TcCoe Idealize.SL Idealize.SL.Sem
open Cert.Reference3Ideal Cert.Reference3Ideal.Gen

/-- The reference's result, as a function of its arguments. -/
abbrev ref (a b : FVec Ideal S9216x2048 .f32) (p : FVec Ideal S9216x16320 .f32) (w : FVec Ideal S1x2x2048x4096 .f32) : FVec Ideal S9216x4096 .bf16 :=
  truncf .bf16 (Host.reduceAdd (mulf (Host.divf (broadcastInDim S9216x2x4096 ![] bcast_S_S9216x2x4096 (constant S_ .f32 0x3F800000#32)) (addf (broadcastInDim S9216x2x4096 ![] bcast_S_S9216x2x4096 (constant S_ .f32 0x3F800000#32)) (Host.exp (Host.negf (shapeCast _ (extractStridedSlice S9216x8192 ![0, 8128] p slices_S9216x16320_S9216x8192_0_8128) shapeCasts_S9216x8192_S9216x2x4096))))) (transpose S9216x2x4096 [2, 0, 1] (Host.dotGeneral dot_S2x2048x4096_S9216x2x2048_S2x4096x9216_1_2_2_0_0_1 none (shapeCast _ w shapeCasts_S1x2x2048x4096_S2x2048x4096) (concatenate S9216x2x2048 1 [⟨S9216x1x2048, (broadcastInDim S9216x1x2048 ![0, 2] bcast_S9216x2048_S9216x1x2048_0_2 a)⟩, ⟨S9216x1x2048, (broadcastInDim S9216x1x2048 ![0, 2] bcast_S9216x2048_S9216x1x2048_0_2 b)⟩] concatenates_S9216x1x2048_S9216x1x2048_S9216x2x2048_d1)) transposes_S2x4096x9216_S9216x2x4096_2_0_1)) (constant S_ .f32 0x00000000#32) reducesTo_S9216x2x4096_S9216x4096_d1 h_S_) bitsLt_bf16_f32

/-- The reference's entry: each branch's product with its projection, times the logistic of its gate, added up. -/
theorem ref_at (a b : FVec Ideal S9216x2048 .f32) (p : FVec Ideal S9216x16320 .f32) (w : FVec Ideal S1x2x2048x4096 .f32) (r : Fin 9216) (d : Fin 4096)
    (g0 g1 : Fin 16320) (h0 : g0.val = 8128 + d.val) (h1 : g1.val = 8128 + (4096 + d.val)) :
    ref a b p w (ix2 r d) = Ideal.logistic (p (ix2 r g0)) * (∑ k : Fin 2048, a (ix2 r k) * w (ix4 0 0 k d))
      + Ideal.logistic (p (ix2 r g1)) * ∑ k : Fin 2048, b (ix2 r k) * w (ix4 0 1 k d) := by
  have k0 : ∀ d : Fin 4096, 8128 + d.val < 16320 := fun d => by omega
  have k1 : ∀ d : Fin 4096, 8128 + (4096 + d.val) < 16320 := fun d => by omega
  rw [show g0 = ⟨8128 + d.val, k0 d⟩ from Fin.ext h0, show g1 = ⟨8128 + (4096 + d.val), k1 d⟩ from Fin.ext h1]
  pointwise [ref]
  simp only [Fin.sum_univ_one, mul_comm (w _), Ideal.logistic]

end Cert.MergeRef

end
-- ==== Proof.Merge.lean ====
/- The gated merge: the kernel's array is the sum over the two branches of the gate times the branch's projection. -/
module

public import proofs.«01_k».proof.Proof.Gen.Kernel3Ideal.Value
public import proofs.«01_k».proof.Proof.MergeRef
public import Idealize.ShloMosaic.Lib.Pipeline.ValueKit
public import Idealize.ShloMosaic.Lib.Pointwise
public import Idealize.ShloMosaic.Lib.Claim

@[expose] public section

set_option maxRecDepth 16384

noncomputable section

namespace Cert.Merge

open Idealize.ShloMosaic Idealize.ShloMosaic.TcCoe Idealize.SL Idealize.SL.Sem
open Cert.Kernel3Ideal Cert.Kernel3Ideal.Gen

variable (m : (ℓ : Loc nD τ sig) → Buf (Elt Ideal) ℓ) (c : Dev nD)

/-- Where each window's block lies. -/
theorem idx : ∀ t : Fin cfg0.N,
    (win0_0.index t (0 : Fin 2) = t.val / 8 ∧ win0_0.index t (1 : Fin 2) = 0) ∧
    (win0_1.index t (0 : Fin 2) = t.val / 8 ∧ win0_1.index t (1 : Fin 2) = 0) ∧
    (win0_2.index t (0 : Fin 3) = 0 ∧ win0_2.index t (1 : Fin 3) = 0 ∧ win0_2.index t (2 : Fin 3) = t.val % 8) ∧
    (win0_3.index t (0 : Fin 3) = 1 ∧ win0_3.index t (1 : Fin 3) = 0 ∧ win0_3.index t (2 : Fin 3) = t.val % 8) ∧
    (win0_4.index t (0 : Fin 2) = t.val / 8 ∧ win0_4.index t (1 : Fin 2) = 12 + t.val % 8) ∧
    (win0_5.index t (0 : Fin 2) = t.val / 8 ∧ win0_5.index t (1 : Fin 2) = 20 + t.val % 8) ∧
    (win0_6.index t (0 : Fin 2) = t.val / 8 ∧ win0_6.index t (1 : Fin 2) = t.val % 8) :=
  (by decide +kernel : ∀ t : Fin grid0.N, _)

/-- The branches' projections, one matrix each. -/
def weight (w : FVec Ideal S1x2x2048x4096 .f32) : FVec Ideal S2x2048x4096 .bf16 := fun j => w (ix4 0 (j 0) (j 1) (j 2))

theorem weight_eq (w : FVec Ideal S1x2x2048x4096 .f32) :
    (truncf .bf16 (shapeCast S2x2048x4096 w shapeCasts_S1x2x2048x4096_S2x2048x4096) bitsLt_bf16_f32 : FVec Ideal S2x2048x4096 .bf16) = weight w := by
  funext j
  pointwise [weight]

/-- The projected rows, their columns in the kernel's order. -/
@[irreducible] def cols (p : FVec Ideal S9216x16320 .f32) : FVec Ideal S9216x16384 .f32 :=
  concatenate S9216x16384 1 [⟨S9216x6144, extractStridedSlice S9216x6144 ![0, 0] p slices_S9216x16320_S9216x6144_0_0⟩,
    ⟨S9216x8192, extractStridedSlice S9216x8192 ![0, 8128] p slices_S9216x16320_S9216x8192_0_8128⟩,
    ⟨S9216x1024, extractStridedSlice S9216x1024 ![0, 6528] p slices_S9216x16320_S9216x1024_0_6528⟩,
    ⟨S9216x512, extractStridedSlice S9216x512 ![0, 7552] p slices_S9216x16320_S9216x512_0_7552⟩,
    ⟨S9216x256, extractStridedSlice S9216x256 ![0, 6272] p slices_S9216x16320_S9216x256_0_6272⟩,
    ⟨S9216x64, extractStridedSlice S9216x64 ![0, 6144] p slices_S9216x16320_S9216x64_0_6144⟩,
    ⟨S9216x64, extractStridedSlice S9216x64 ![0, 6208] p slices_S9216x16320_S9216x64_0_6208⟩,
    ⟨S9216x64, extractStridedSlice S9216x64 ![0, 8064] p slices_S9216x16320_S9216x64_0_8064⟩,
    ⟨S9216x64, broadcastInDim S9216x64 ![] bcast_S_S9216x64 (constant S_ .f32 0x00000000#32)⟩]
    concatenates_S9216x6144_S9216x8192_S9216x1024_S9216x512_S9216x256_S9216x64_S9216x64_S9216x64_S9216x64_S9216x16384_d1

/-- A gate's column, in the kernel's order and in the projection's. -/
theorem cols_at (p : FVec Ideal S9216x16320 .f32) (r : Fin 9216) (j : Fin 16384) (g : Fin 16320) (d : ℕ) (hd : d < 8192) (hj : j.val = 6144 + d) (hg : g.val = 8128 + d) :
    cols p (ix2 r j) = p (ix2 r g) := by
  have k0 : 6144 + d < 16384 := by clear hj hg; omega
  have k1 : 8128 + d < 16320 := by clear hj hg; omega
  rw [show j = ⟨6144 + d, k0⟩ from Fin.ext hj, show g = ⟨8128 + d, k1⟩ from Fin.ext hg]
  unfold cols
  pointwise
  rw [dif_pos hd]

/-- The first branch's rows as the product reads them. -/
theorem V0 : V m c main_v0 = (truncf .bf16 (m ((c : Thread nD τ).loc main_arg0) : FVec Ideal S9216x2048 .f32) bitsLt_bf16_f32 : FVec Ideal S9216x2048 .bf16) := by entry_read; rfl
/-- The second branch's rows as the product reads them. -/
theorem V1 : V m c main_v1 = (truncf .bf16 (m ((c : Thread nD τ).loc main_arg1) : FVec Ideal S9216x2048 .f32) bitsLt_bf16_f32 : FVec Ideal S9216x2048 .bf16) := by entry_read; rfl
/-- The weights as the products read them. -/
theorem V3 : V m c main_v3 = weight (m ((c : Thread nD τ).loc main_arg3)) := by
  rw [← weight_eq]; entry_read; rfl
/-- The projected rows as the gates read them. -/
theorem V13 : V m c main_v13 = cols (m ((c : Thread nD τ).loc main_arg2)) := by
  unfold V cols; rfl

/-- What the body stores at an entry of its block is the reference's entry there. -/
theorem point (t : Fin cfg0.N) (y) : k0_pay1 (F := Ideal) (iblk m c 0 t) (iblk m c 2 t) (iblk m c 1 t) (iblk m c 3 t) (iblk m c 4 t) (iblk m c 5 t) y
    = MergeRef.ref (m ((c : Thread nD τ).loc main_arg0)) (m ((c : Thread nD τ).loc main_arg1)) (m ((c : Thread nD τ).loc main_arg2)) (m ((c : Thread nD τ).loc main_arg3)) (((cfg0.win 6).blk t).view.emb y) := by
  have e := idx t
  have ht : t.val < 72 := t.isLt
  have y0 : (y 0 : ℕ) < 1024 := (y 0).isLt
  have y1 : (y 1 : ℕ) < 512 := (y 1).isLt
  have hR : t.val / 8 * 1024 + (y 0 : ℕ) < 9216 := by omega
  have hC : t.val % 8 * 512 + (y 1 : ℕ) < 4096 := by omega
  have hE : ((cfg0.win 6).blk t).view.emb y = ix2 (⟨t.val / 8 * 1024 + (y 0 : ℕ), hR⟩ : Fin 9216) (⟨t.val % 8 * 512 + (y 1 : ℕ), hC⟩ : Fin 4096) := by
    blk_ext [e]
  rw [hE, MergeRef.ref_at _ _ _ _ _ _ ⟨8128 + (t.val % 8 * 512 + (y 1 : ℕ)), by omega⟩ ⟨8128 + (4096 + (t.val % 8 * 512 + (y 1 : ℕ))), by omega⟩ rfl rfl,
    ← cols_at (m ((c : Thread nD τ).loc main_arg2)) _ ⟨6144 + (t.val % 8 * 512 + (y 1 : ℕ)), by omega⟩ _ _ (by omega) rfl rfl,
    ← cols_at (m ((c : Thread nD τ).loc main_arg2)) _ ⟨6144 + (4096 + (t.val % 8 * 512 + (y 1 : ℕ))), by omega⟩ _ _ (by omega) rfl rfl]
  have hP := V13 m c
  generalize cols (m ((c : Thread nD τ).loc main_arg2)) = P at hP ⊢
  pointwise [k0_pay1]
  blk_point [iblk, V0 m c, V1 m c, V3 m c, hP, weight, e]

/-- The result array after the run. -/
theorem final : (dats m 0 c).arrAt 6 cfg0.N
    = MergeRef.ref (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]; frame_out
  exact point m c t y

end Cert.Merge

end
-- ==== Proof.Resid.lean ====
/- The output projection with the residual: the kernel's array is `α · h + mixin · w_out`. -/
module

public import proofs.«01_k».proof.Proof.Gen.Kernel4Ideal.Value
public import proofs.«01_k».proof.Proof.Gen.Reference4Ideal.Run
public import Idealize.ShloMosaic.Lib.Pipeline.ValueKit
public import Idealize.ShloMosaic.Lib.Pointwise
public import Idealize.ShloMosaic.Lib.Claim

@[expose] public section

set_option maxRecDepth 16384

noncomputable section

namespace Cert.Resid

open Idealize.ShloMosaic Idealize.ShloMosaic.TcCoe Idealize.SL Idealize.SL.Sem
open Cert.Kernel4Ideal Cert.Kernel4Ideal.Gen

variable (m : (ℓ : Loc nD τ sig) → Buf (Elt Ideal) ℓ) (c : Dev nD)

/-- The reference's result, as a function of its arguments. -/
abbrev ref (x h : FVec Ideal S9216x4096 .f32) (w : FVec Ideal S1x4096x4096 .f32) : FVec Ideal S9216x4096 .f32 :=
  addf (mulf (broadcastInDim Cert.Reference4Ideal.S9216x4096 ![] Cert.Reference4Ideal.Gen.bcast_S_S9216x4096 (constant Cert.Reference4Ideal.S_ .f32 0x3F9837F0#32)) h)
    (Host.dotGeneral Cert.Reference4Ideal.dot_S9216x4096_S4096x4096_S9216x4096_1_0_0_1_n_n none x
      (shapeCast _ w Cert.Reference4Ideal.Gen.shapeCasts_S1x4096x4096_S4096x4096))

/-- Where each window's block lies. -/
theorem idx : ∀ t : Fin cfg0.N,
    (win0_0.index t (0 : Fin 2) = t.val / 8 ∧ win0_0.index t (1 : Fin 2) = 0) ∧
    (win0_1.index t (0 : Fin 2) = 0 ∧ win0_1.index t (1 : Fin 2) = t.val % 8) ∧
    (win0_2.index t (0 : Fin 2) = t.val / 8 ∧ win0_2.index t (1 : Fin 2) = t.val % 8) ∧
    (win0_3.index t (0 : Fin 2) = t.val / 8 ∧ win0_3.index t (1 : Fin 2) = t.val % 8) :=
  (by decide +kernel : ∀ t : Fin grid0.N, _)

/-- The rows as the product reads them. -/
theorem V0 : V m c main_v0 = (truncf .bf16 (m ((c : Thread nD τ).loc main_arg0) : FVec Ideal S9216x4096 .f32) bitsLt_bf16_f32 : FVec Ideal S9216x4096 .bf16) := by entry_read; rfl
/-- The weight as a matrix. -/
def weight (w : FVec Ideal S1x4096x4096 .f32) : FVec Ideal S4096x4096 .bf16 := fun j => w (ix3 0 (j 0) (j 1))

theorem weight_eq (w : FVec Ideal S1x4096x4096 .f32) :
    (truncf .bf16 (shapeCast S4096x4096 w shapeCasts_S1x4096x4096_S4096x4096) bitsLt_bf16_f32 : FVec Ideal S4096x4096 .bf16) = weight w := by
  funext j
  pointwise [weight]

/-- The weight as the product reads it. -/
theorem V2 : V m c main_v2 = weight (m ((c : Thread nD τ).loc main_arg2)) := by
  rw [← weight_eq]; entry_read; rfl

/-- What the body stores at an entry of its block is the reference's entry there. -/
theorem point (t : Fin cfg0.N) (y) : k0_pay1 (F := Ideal) (iblk m c 2 t) (iblk m c 0 t) (iblk m c 1 t) y
    = ref (m ((c : Thread nD τ).loc main_arg0)) (m ((c : Thread nD τ).loc main_arg1)) (m ((c : Thread nD τ).loc main_arg2)) (((cfg0.win 3).blk t).view.emb y) := by
  pointwise [k0_pay1, ref]
  blk_point [iblk, V0 m c, V2 m c, weight, V_main_arg1 m c, idx t]

/-- The result array after the run. -/
theorem final : (dats m 0 c).arrAt 3 cfg0.N
    = ref (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.Resid

end
-- ==== Proof.SharedRef.lean ====
/- The shared experts' reference: its results as functions of its arguments, and the layer norm's row at an entry. -/
module

public import proofs.«01_k».proof.Proof.Gen.Reference5Ideal.Run
public import Idealize.ShloMosaic.Lib.Pointwise

@[expose] public section

set_option maxRecDepth 16384

noncomputable section

namespace Cert.SharedRef

open Idealize.ShloMosaic Idealize.ShloMosaic.TcCoe
open Cert.Reference5Ideal Cert.Reference5Ideal.Gen

/-- The up projection. -/
def hs (x : FVec Ideal S9216x4096 .f32) (wu : FVec Ideal S1x4096x1024 .f32) : FVec Ideal S9216x1024 .f32 :=
  Host.dotGeneral dot_S9216x4096_S4096x1024_S9216x1024_1_0_0_1_n_n none x (shapeCast _ wu shapeCasts_S1x4096x1024_S4096x1024)

/-- The gated activations. -/
def act (u : FVec Ideal S9216x1024 .f32) : FVec Ideal S9216x512 .f32 :=
  mulf (mulf (extractStridedSlice S9216x512 ![0, 0] u slices_S9216x1024_S9216x512_0_0) (Host.divf (broadcastInDim S9216x512 ![] bcast_S_S9216x512 (constant S_ .f32 0x3F800000#32)) (addf (broadcastInDim S9216x512 ![] bcast_S_S9216x512 (constant S_ .f32 0x3F800000#32)) (Host.exp (Host.negf (extractStridedSlice S9216x512 ![0, 0] u slices_S9216x1024_S9216x512_0_0)))))) (extractStridedSlice S9216x512 ![0, 512] u slices_S9216x1024_S9216x512_0_512)

/-- The rows the layer norm takes. -/
def z (x ro : FVec Ideal S9216x4096 .f32) (a : FVec Ideal S9216x512 .f32) (wd : FVec Ideal S1x512x4096 .f32) : FVec Ideal S9216x4096 .f32 :=
  addf (mulf (broadcastInDim S9216x4096 ![] bcast_S_S9216x4096 (constant S_ .f32 0x3F9837F0#32)) x) (addf ro (Host.dotGeneral dot_S9216x512_S512x4096_S9216x4096_1_0_0_1_n_n none a (shapeCast _ wd shapeCasts_S1x512x4096_S512x4096)))

/-- A row less its mean. -/
def cen (y : FVec Ideal S9216x4096 .f32) : FVec Ideal S9216x4096 .f32 :=
  subf y (broadcastInDim S9216x4096 ![0, 1] bcast_S9216x1_S9216x4096_0_1 (Host.divf (broadcastInDim S9216x1 ![0] bcast_S9216_S9216x1_0 (Host.reduceAdd y (constant S_ .f32 0x00000000#32) reducesTo_S9216x4096_S9216_d1 h_S_)) (broadcastInDim S9216x1 ![] bcast_S_S9216x1 (constant S_ .f32 0x45800000#32))))

/-- The layer norm. -/
def norm (e : FVec Ideal S9216x4096 .f32) (g b : FVec Ideal S1x4096 .f32) : FVec Ideal S9216x4096 .f32 :=
  addf (mulf (mulf e (broadcastInDim S9216x4096 ![0, 1] bcast_S9216x1_S9216x4096_0_1 (Host.rsqrt (addf (Host.divf (broadcastInDim S9216x1 ![0] bcast_S9216_S9216x1_0 (Host.reduceAdd (mulf e e) (constant S_ .f32 0x00000000#32) reducesTo_S9216x4096_S9216_d1 h_S_)) (broadcastInDim S9216x1 ![] bcast_S_S9216x1 (constant S_ .f32 0x45800000#32))) (broadcastInDim S9216x1 ![] bcast_S_S9216x1 (constant S_ .f32 0x3727C5AC#32))))))
    (broadcastInDim S9216x4096 ![0, 1] bcast_S1x4096_S9216x4096_0_1 (broadcastInDim S1x4096 ![1] bcast_S4096_S1x4096_1 (shapeCast _ g shapeCasts_S1x4096_S4096))))
    (broadcastInDim S9216x4096 ![0, 1] bcast_S1x4096_S9216x4096_0_1 (broadcastInDim S1x4096 ![1] bcast_S4096_S1x4096_1 (shapeCast _ b shapeCasts_S1x4096_S4096)))

/-- The layer's output rows. -/
def out (x ro : FVec Ideal S9216x4096 .f32) (wu : FVec Ideal S1x4096x1024 .f32) (wd : FVec Ideal S1x512x4096 .f32) (g b : FVec Ideal S1x4096 .f32) : FVec Ideal S9216x4096 .f32 :=
  norm (cen (z x ro (act (hs x wu)) wd)) g b

/-- The prompts' rows. -/
def prompt (y : FVec Ideal S9216x4096 .f32) : FVec Ideal S4x2048x4096 .f32 :=
  shapeCast _ (extractStridedSlice S8192x4096 ![0, 0] y slices_S9216x4096_S8192x4096_0_0) shapeCasts_S8192x4096_S4x2048x4096
/-- The samples' rows. -/
def sample (y : FVec Ideal S9216x4096 .f32) : FVec Ideal S128x8x4096 .f32 :=
  shapeCast _ (extractStridedSlice S1024x4096 ![8192, 0] y slices_S9216x4096_S1024x4096_8192_0) shapeCasts_S1024x4096_S128x8x4096

variable (m : (ℓ : Loc nD τ sig) → Buf (Elt Ideal) ℓ) (c : Dev nD)

theorem res_prompt : Value.res_main_v39 (F := Ideal) m c = prompt (out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  unfold Value.res_main_v39 prompt out norm cen z act hs; rfl
theorem res_sample : Value.res_main_v41 (F := Ideal) m c = sample (out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  unfold Value.res_main_v41 sample out norm cen z act hs; rfl

/-! ## A row of the output -/

/-- The up projection's entries. -/
def rHs (x : Fin 4096 → EReal) (w : Fin 4096 → Fin 1024 → EReal) : Fin 1024 → EReal := fun j => ∑ k, x k * w k j
/-- The gated activations. -/
def rAct (u : Fin 1024 → EReal) : Fin 512 → EReal := fun j => u ⟨j.val, by omega⟩ * Ideal.logistic (u ⟨j.val, by omega⟩) * u ⟨512 + j.val, by omega⟩
/-- The row the layer norm takes. -/
def rZ (x ro : Fin 4096 → EReal) (a : Fin 512 → EReal) (w : Fin 512 → Fin 4096 → EReal) : Fin 4096 → EReal :=
  fun d => Ideal.ofBits FTy.f32 1066940400#32 * x d + (ro d + ∑ k, a k * w k d)
/-- The row less its mean. -/
def rCen (z : Fin 4096 → EReal) : Fin 4096 → EReal := fun d => z d - Ideal.div (∑ k, z k) (Ideal.ofBits FTy.f32 1166016512#32)
/-- Its variance, and the small constant. -/
def rVar (e : Fin 4096 → EReal) : EReal := Ideal.div (∑ k, e k * e k) (Ideal.ofBits FTy.f32 1166016512#32) + Ideal.ofBits FTy.f32 925353388#32
/-- The normalised row. -/
def rNorm (e g b : Fin 4096 → EReal) : Fin 4096 → EReal := fun d => e d * Ideal.rsqrt (rVar e) * g d + b d

variable (x ro : FVec Ideal S9216x4096 .f32) (wu : FVec Ideal S1x4096x1024 .f32) (wd : FVec Ideal S1x512x4096 .f32) (g b : FVec Ideal S1x4096 .f32)

theorem hs_at (r : Fin 9216) : (fun j => hs x wu (ix2 r j)) = rHs (fun k => x (ix2 r k)) fun k j => wu (ix3 0 k j) := by
  funext j; pointwise [hs, rHs]
theorem act_at (u : FVec Ideal S9216x1024 .f32) (r : Fin 9216) : (fun j => act u (ix2 r j)) = rAct fun j => u (ix2 r j) := by
  funext j; pointwise [act, rAct]; rfl
theorem z_at (a : FVec Ideal S9216x512 .f32) (r : Fin 9216) :
    (fun d => z x ro a wd (ix2 r d)) = rZ (fun d => x (ix2 r d)) (fun d => ro (ix2 r d)) (fun k => a (ix2 r k)) fun k d => wd (ix3 0 k d) := by
  funext d; pointwise [z, rZ]
theorem cen_at (y : FVec Ideal S9216x4096 .f32) (r : Fin 9216) : (fun d => cen y (ix2 r d)) = rCen fun d => y (ix2 r d) := by
  funext d; pointwise [cen, rCen]
theorem norm_at (e : FVec Ideal S9216x4096 .f32) (r : Fin 9216) :
    (fun d => norm e g b (ix2 r d)) = rNorm (fun d => e (ix2 r d)) (fun d => g (ix2 0 d)) fun d => b (ix2 0 d) := by
  funext d; pointwise [norm, rNorm, rVar]

theorem out_at (r : Fin 9216) (d : Fin 4096) : out x ro wu wd g b (ix2 r d)
    = rNorm (rCen (rZ (fun d => x (ix2 r d)) (fun d => ro (ix2 r d)) (rAct (rHs (fun k => x (ix2 r k)) fun k j => wu (ix3 0 k j))) fun k d => wd (ix3 0 k d)))
      (fun d => g (ix2 0 d)) (fun d => b (ix2 0 d)) d := by
  rw [← hs_at, ← act_at, ← z_at, ← cen_at, ← norm_at]; rfl

end Cert.SharedRef

end
-- ==== Proof.Shared.lean ====
/- The shared experts and the final layer norm: the kernel's array is the layer's output rows. -/
module

public import proofs.«01_k».proof.Proof.Gen.Kernel5Ideal.Frame
public import proofs.«01_k».proof.Proof.SharedRef
public import Idealize.ShloMosaic.Lib.Pipeline.ValueKit
public import Idealize.ShloMosaic.Lib.Pointwise
public import Idealize.ShloMosaic.Lib.Claim

@[expose] public section

set_option maxRecDepth 16384

noncomputable section

namespace Cert.Shared

open Idealize.ShloMosaic Idealize.ShloMosaic.TcCoe Idealize.SL Idealize.SL.Sem
open Cert.Kernel5Ideal Cert.Kernel5Ideal.Gen

variable (m : (ℓ : Loc nD τ sig) → Buf (Elt Ideal) ℓ) (c : Dev nD)

open SharedRef (rHs rAct rZ rCen rVar rNorm)

/-! ## The body's values -/

section
variable (x : Vec Ideal S128x4096 .bf16) (wu : Vec Ideal S4096x1024 .bf16) (wd : Vec Ideal S512x4096 .bf16) (y ro : Vec Ideal S128x4096 .f32)

theorem pay1_at (g b : Vec Ideal S1x4096 .f32) (e : FVec Ideal S128x4096 .f32) (v : FVec Ideal S128x1 .f32) (r : Fin 128) (d : Fin 4096) :
    k0_pay1 (F := Ideal) (k0_pay2 g) (k0_pay3 b) e v (ix2 r d) = e (ix2 r d) * Ideal.rsqrt (v (ix2 r 0)) * g (ix2 0 d) + b (ix2 0 d) := by
  pointwise [k0_pay1, k0_pay2, k0_pay3]

theorem pay4_at (r : Fin 128) :
    (fun d => k0_pay4 (F := Ideal) x wu wd y ro (ix2 r d)) = rCen (rZ (fun d => y (ix2 r d)) (fun d => ro (ix2 r d)) (rAct (rHs (fun k => x (ix2 r k)) fun k j => wu (ix2 k j))) fun k d => wd (ix2 k d)) := by
  funext d
  pointwise [k0_pay4, rCen, rZ, rAct, rHs]

theorem pay5_at (r : Fin 128) :
    k0_pay5 (F := Ideal) x wu wd y ro (ix2 r 0) = rVar fun d => k0_pay4 (F := Ideal) x wu wd y ro (ix2 r d) := by
  unfold k0_pay5
  generalize k0_pay4 (F := Ideal) x wu wd y ro = e
  pointwise [rVar]
end

/-! ## The array -/

/-- Where each window's block lies. -/
theorem idx : ∀ t : Fin cfg0.N,
    (win0_0.index t (0 : Fin 2) = t.val ∧ win0_0.index t (1 : Fin 2) = 0) ∧
    (win0_1.index t (0 : Fin 2) = t.val ∧ win0_1.index t (1 : Fin 2) = 0) ∧
    (win0_2.index t (0 : Fin 2) = t.val ∧ win0_2.index t (1 : Fin 2) = 0) ∧
    (win0_3.index t (0 : Fin 2) = 0 ∧ win0_3.index t (1 : Fin 2) = 0) ∧
    (win0_4.index t (0 : Fin 2) = 0 ∧ win0_4.index t (1 : Fin 2) = 0) ∧
    (win0_5.index t (0 : Fin 2) = 0 ∧ win0_5.index t (1 : Fin 2) = 0) ∧
    (win0_6.index t (0 : Fin 2) = 0 ∧ win0_6.index t (1 : Fin 2) = 0) ∧
    (win0_7.index t (0 : Fin 2) = t.val ∧ win0_7.index t (1 : Fin 2) = 0) :=
  (by decide +kernel : ∀ t : Fin grid0.N, _)

/-- The up projection's weight as a matrix. -/
def up (w : FVec Ideal S1x4096x1024 .f32) : FVec Ideal S4096x1024 .bf16 := fun j => w (ix3 0 (j 0) (j 1))
theorem up_eq (w : FVec Ideal S1x4096x1024 .f32) : (truncf .bf16 (shapeCast S4096x1024 w shapeCasts_S1x4096x1024_S4096x1024) bitsLt_bf16_f32 : FVec Ideal S4096x1024 .bf16) = up w := by
  funext j
  pointwise [up]
/-- The down projection's weight as a matrix. -/
def down (w : FVec Ideal S1x512x4096 .f32) : FVec Ideal S512x4096 .bf16 := fun j => w (ix3 0 (j 0) (j 1))
theorem down_eq (w : FVec Ideal S1x512x4096 .f32) : (truncf .bf16 (shapeCast S512x4096 w shapeCasts_S1x512x4096_S512x4096) bitsLt_bf16_f32 : FVec Ideal S512x4096 .bf16) = down w := by
  funext j
  pointwise [down]
theorem vec_eq (g : FVec Ideal S1x4096 .f32) : (shapeCast S1x4096 (shapeCast S4096 g shapeCasts_S1x4096_S4096) shapeCasts_S4096_S1x4096 : FVec Ideal S1x4096 .f32) = g := by
  funext j
  pointwise

theorem Vx : V m c main_v0 = (truncf .bf16 (m ((c : Thread nD τ).loc main_arg0) : FVec Ideal S9216x4096 .f32) bitsLt_bf16_f32 : FVec Ideal S9216x4096 .bf16) := by entry_read; rfl
theorem V2 : V m c main_v2 = up (m ((c : Thread nD τ).loc main_arg2)) := by rw [← up_eq]; entry_read; rfl
theorem V4 : V m c main_v4 = down (m ((c : Thread nD τ).loc main_arg3)) := by rw [← down_eq]; entry_read; rfl
theorem V7 : V m c main_v7 = m ((c : Thread nD τ).loc main_arg4) := (by entry_read; rfl : V m c main_v7 = shapeCast S1x4096 (shapeCast S4096 (m ((c : Thread nD τ).loc main_arg4)) shapeCasts_S1x4096_S4096) shapeCasts_S4096_S1x4096).trans (vec_eq _)
theorem V8 : V m c main_v8 = m ((c : Thread nD τ).loc main_arg5) := (by entry_read; rfl : V m c main_v8 = shapeCast S1x4096 (shapeCast S4096 (m ((c : Thread nD τ).loc main_arg5)) shapeCasts_S1x4096_S4096) shapeCasts_S4096_S1x4096).trans (vec_eq _)

section
variable (t : Fin cfg0.N)
theorem blk0 (r : Fin 128) (k : Fin 4096) (R : Fin 9216) (hR : R.val = t.val * 128 + r.val) : iblk m c 0 t (ix2 r k) = m ((c : Thread nD τ).loc main_arg0) (ix2 R k) := by
  have e := idx t
  blk_ext [iblk, Vx m c, e]
theorem blk1 (r : Fin 128) (k : Fin 4096) (R : Fin 9216) (hR : R.val = t.val * 128 + r.val) : iblk m c 1 t (ix2 r k) = m ((c : Thread nD τ).loc main_arg0) (ix2 R k) := by
  have e := idx t
  blk_ext [iblk, V_main_arg0 m c, e]
theorem blk2 (r : Fin 128) (k : Fin 4096) (R : Fin 9216) (hR : R.val = t.val * 128 + r.val) : iblk m c 2 t (ix2 r k) = m ((c : Thread nD τ).loc main_arg1) (ix2 R k) := by
  have e := idx t
  blk_ext [iblk, V_main_arg1 m c, e]
theorem blk3 (k : Fin 4096) (j : Fin 1024) : iblk m c 3 t (ix2 k j) = m ((c : Thread nD τ).loc main_arg2) (ix3 0 k j) := by
  have e := idx t
  blk_ext [iblk, V2 m c, up, e]
theorem blk4 (k : Fin 512) (j : Fin 4096) : iblk m c 4 t (ix2 k j) = m ((c : Thread nD τ).loc main_arg3) (ix3 0 k j) := by
  have e := idx t
  blk_ext [iblk, V4 m c, down, e]
theorem blk5 (j : Fin 4096) : iblk m c 5 t (ix2 0 j) = m ((c : Thread nD τ).loc main_arg4) (ix2 0 j) := by
  have e := idx t
  blk_ext [iblk, V7 m c, e]
theorem blk6 (j : Fin 4096) : iblk m c 6 t (ix2 0 j) = m ((c : Thread nD τ).loc main_arg5) (ix2 0 j) := by
  have e := idx t
  blk_ext [iblk, V8 m c, e]
end

/-- The layer's output rows, of the program's arguments. -/
abbrev ref : FVec Ideal S9216x4096 .f32 := SharedRef.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- What the body stores at an entry of its block is the output row's entry. -/
theorem point (t : Fin cfg0.N) (r : Fin 128) (d : Fin 4096) (R : Fin 9216) (hR : R.val = t.val * 128 + r.val) :
    k0_pay1 (F := Ideal) (k0_pay2 (iblk m c 5 t)) (k0_pay3 (iblk m c 6 t)) (k0_pay4 (iblk m c 0 t) (iblk m c 3 t) (iblk m c 4 t) (iblk m c 1 t) (iblk m c 2 t)) (k0_pay5 (iblk m c 0 t) (iblk m c 3 t) (iblk m c 4 t) (iblk m c 1 t) (iblk m c 2 t)) (ix2 r d)
      = ref m c (ix2 R d) := by
  have h := pay4_at (iblk m c 0 t) (iblk m c 3 t) (iblk m c 4 t) (iblk m c 1 t) (iblk m c 2 t) r
  simp only [blk0 m c t r _ R hR, blk1 m c t r _ R hR, blk2 m c t r _ R hR, blk3 m c t, blk4 m c t] at h
  rw [pay1_at, pay5_at, h, congrFun h d, blk5 m c t, blk6 m c t]
  exact (SharedRef.out_at _ _ _ _ _ _ R d).symm

/-- The kernel's array after the region. -/
theorem final : (dats m 0 c).arrAt 7 cfg0.N = ref m c := by
  refine (dats m 0 c).arrAt_eq_of_covers 7 _ (by decide +kernel) fun t _ y => ?_
  have ht : t.val < 72 := t.isLt
  have y0 : (y 0 : ℕ) < 128 := (y 0).isLt
  have hR : t.val * 128 + (y 0 : ℕ) < 9216 := by omega
  have e := idx t
  have hE : ((cfg0.win 7).blk t).view.emb y = ix2 (⟨t.val * 128 + (y 0 : ℕ), hR⟩ : Fin 9216) (⟨(y 1 : ℕ), (y 1).isLt⟩ : Fin 4096) := by
    blk_ext [e]
  have hy : y = ix2 (⟨(y 0 : ℕ), y0⟩ : Fin 128) (⟨(y 1 : ℕ), (y 1).isLt⟩ : Fin 4096) := ValueIdx.eq_ix2 y
  have hp := point m c t ⟨(y 0 : ℕ), y0⟩ ⟨(y 1 : ℕ), (y 1).isLt⟩ ⟨t.val * 128 + (y 0 : ℕ), hR⟩ rfl
  rw [← hy, ← hE] at hp
  blk_simp
  rw [after0_7]; frame_out
  exact hp

/-! ## The results -/

theorem after_prompt (W : Valuation τ sig (Elt Ideal)) : StableHlo.after hostOps1 W (Proc.devRef .tc main_v11) = SharedRef.prompt (W (Proc.devRef .tc main_v9)) := rfl
theorem after_sample (W : Valuation τ sig (Elt Ideal)) : StableHlo.after hostOps1 W (Proc.devRef .tc main_v13) = SharedRef.sample (W (Proc.devRef .tc main_v9)) := rfl

/-- What the operations after the kernel leave at a buffer. -/
theorem tail (b : Ref sig .tc) (T : FVec Ideal S9216x4096 .f32 → b.ty.Contents (Elt Ideal))
    (hT : ∀ W : Valuation τ sig (Elt Ideal), StableHlo.after hostOps1 W (Proc.devRef .tc b) = T (W (Proc.devRef .tc main_v9))) :
    Pipeline.afterTail₀ cfgs (dats m) 0 (V0 m) [hostOps1] c b = T (ref m c) := by
  unfold Pipeline.afterTail₀
  rw [List.flatten_singleton]
  refine (hT _).trans (congrArg T ?_)
  exact (Pipeline.withArrays_arr spec0 winFacts0.arr_inj c (V0 m c) _ 7).trans (final m c)

set_option maxHeartbeats 1000000 in
/-- The run. -/
theorem run (ρ : Dev nD → PrngReg) :
    θ_run (defs (F := Ideal)) (onTc (τ := τ) (main (F := Ideal))) ⟨m, fun _ => 0, ρ⟩ fun r => ∀ c : Dev nD,
      r.2.mem ((c : Thread nD τ).loc main_v11) = SharedRef.prompt (ref m c)
      ∧ r.2.mem ((c : Thread nD τ).loc main_v13) = SharedRef.sample (ref m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run (defs (F := Ideal)) _ _).mono (fun r h c =>
    ⟨((h.1 c).2 main_v11 (Pipeline.mem_restRefs_of main_v11 (by decide) (by decide))).trans (tail m c main_v11 SharedRef.prompt after_prompt),
     ((h.1 c).2 main_v13 (Pipeline.mem_restRefs_of main_v13 (by decide) (by decide))).trans (tail m c main_v13 SharedRef.sample after_sample), (h.2 c)⟩)
    (θ_run_and (run_main m ρ) (unchanged m ρ))

end Cert.Shared

end
-- ==== Proof.MlaRef.lean ====
/- The latent attention's preparation: the reference's results as functions of its arguments, read row by row. -/
module

public import proofs.«01_k».proof.Proof.Gen.Reference6Ideal.Run
public import Idealize.ShloMosaic.Lib.Pointwise

@[expose] public section

set_option maxRecDepth 16384

noncomputable section

namespace Cert.MlaRef

open Idealize.ShloMosaic Idealize.ShloMosaic.TcCoe
open Cert.Reference6Ideal Cert.Reference6Ideal.Gen

/-! ## A row of the results -/

/-- The root-mean-square norm of a row of `n` entries, `N` being the count as the programs hold it. -/
def rRms {n : ℕ} (N : EReal) (x g : Fin n → EReal) : Fin n → EReal :=
  fun d => x d * Ideal.rsqrt (Ideal.div (∑ k, x k * x k) N + Ideal.ofBits FTy.f32 0x358637BD#32) * g d

/-- The rotation of a row of 64 by 32 angles, the two halves paired. -/
def rRope (x : Fin 64 → EReal) (a : Fin 32 → EReal) : Fin 64 → EReal := fun j =>
  if h : j.val < 32 then x j * Ideal.cos (a ⟨j.val, h⟩) - x ⟨32 + j.val, by omega⟩ * Ideal.sin (a ⟨j.val, h⟩)
  else x ⟨32 + (j.val - 32), by omega⟩ * Ideal.cos (a ⟨j.val - 32, by omega⟩) + x ⟨j.val - 32, by omega⟩ * Ideal.sin (a ⟨j.val - 32, by omega⟩)

/-! ## The reference's steps -/

/-- The rotation's frequencies. -/
@[irreducible] def freq : FVec Ideal S32 .f32 :=
  Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))

/-- The angles of the prompt's positions. -/
def angP (f : FVec Ideal S32 .f32) : FVec Ideal S2048x32 .f32 :=
  mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 f))
/-- The angles of the sample's positions. -/
def angS (f : FVec Ideal S32 .f32) : FVec Ideal S8x32 .f32 :=
  mulf (broadcastInDim S8x32 ![0, 1] bcast_S8x1_S8x32_0_1 (broadcastInDim S8x1 ![0] bcast_S8_S8x1_0 (sitofp .f32 (addi (broadcastInDim S8 ![] bcast_S_S8 (constantI S_ 32 16384#32)) (iotaInDim S8 32 0))))) (broadcastInDim S8x32 ![0, 1] bcast_S1x32_S8x32_0_1 (broadcastInDim S1x32 ![1] bcast_S32_S1x32_1 f))

/-- The prompt's projected keys. -/
def keyP (p : FVec Ideal S9216x16320 .f32) : FVec Ideal S4x2048x576 .f32 :=
  shapeCast _ (extractStridedSlice S8192x576 ![0, 0] (extractStridedSlice S9216x576 ![0, 7552] p slices_S9216x16320_S9216x576_0_7552) slices_S9216x576_S8192x576_0_0) shapeCasts_S8192x576_S4x2048x576
/-- The sample's projected keys. -/
def keyS (p : FVec Ideal S9216x16320 .f32) : FVec Ideal S128x8x576 .f32 :=
  shapeCast _ (extractStridedSlice S1024x576 ![8192, 0] (extractStridedSlice S9216x576 ![0, 7552] p slices_S9216x16320_S9216x576_0_7552) slices_S9216x576_S1024x576_8192_0) shapeCasts_S1024x576_S128x8x576

/-- The prompt's rotation. -/
def ropeP (k : FVec Ideal S4x2048x576 .f32) (a : FVec Ideal S2048x32 .f32) : FVec Ideal S1x4x2048x64 .f32 :=
  broadcastInDim S1x4x2048x64 ![1, 2, 3] bcast_S4x2048x64_S1x4x2048x64_1_2_3 (concatenate S4x2048x64 2 [⟨S4x2048x32, (subf (mulf (extractStridedSlice S4x2048x32 ![0, 0, 0] (extractStridedSlice S4x2048x64 ![0, 0, 512] k slices_S4x2048x576_S4x2048x64_0_0_512) slices_S4x2048x64_S4x2048x32_0_0_0) (broadcastInDim S4x2048x32 ![0, 1, 2] bcast_S1x2048x32_S4x2048x32_0_1_2 (broadcastInDim S1x2048x32 ![1, 2] bcast_S2048x32_S1x2048x32_1_2 (Host.cos a)))) (mulf (extractStridedSlice S4x2048x32 ![0, 0, 32] (extractStridedSlice S4x2048x64 ![0, 0, 512] k slices_S4x2048x576_S4x2048x64_0_0_512) slices_S4x2048x64_S4x2048x32_0_0_32) (broadcastInDim S4x2048x32 ![0, 1, 2] bcast_S1x2048x32_S4x2048x32_0_1_2 (broadcastInDim S1x2048x32 ![1, 2] bcast_S2048x32_S1x2048x32_1_2 (Host.sin a)))))⟩, ⟨S4x2048x32, (addf (mulf (extractStridedSlice S4x2048x32 ![0, 0, 32] (extractStridedSlice S4x2048x64 ![0, 0, 512] k slices_S4x2048x576_S4x2048x64_0_0_512) slices_S4x2048x64_S4x2048x32_0_0_32) (broadcastInDim S4x2048x32 ![0, 1, 2] bcast_S1x2048x32_S4x2048x32_0_1_2 (broadcastInDim S1x2048x32 ![1, 2] bcast_S2048x32_S1x2048x32_1_2 (Host.cos a)))) (mulf (extractStridedSlice S4x2048x32 ![0, 0, 0] (extractStridedSlice S4x2048x64 ![0, 0, 512] k slices_S4x2048x576_S4x2048x64_0_0_512) slices_S4x2048x64_S4x2048x32_0_0_0) (broadcastInDim S4x2048x32 ![0, 1, 2] bcast_S1x2048x32_S4x2048x32_0_1_2 (broadcastInDim S1x2048x32 ![1, 2] bcast_S2048x32_S1x2048x32_1_2 (Host.sin a)))))⟩] concatenates_S4x2048x32_S4x2048x32_S4x2048x64_d2)
/-- The sample's rotation. -/
def ropeS (k : FVec Ideal S128x8x576 .f32) (a : FVec Ideal S8x32 .f32) : FVec Ideal S1x128x8x64 .f32 :=
  broadcastInDim S1x128x8x64 ![1, 2, 3] bcast_S128x8x64_S1x128x8x64_1_2_3 (concatenate S128x8x64 2 [⟨S128x8x32, (subf (mulf (extractStridedSlice S128x8x32 ![0, 0, 0] (extractStridedSlice S128x8x64 ![0, 0, 512] k slices_S128x8x576_S128x8x64_0_0_512) slices_S128x8x64_S128x8x32_0_0_0) (broadcastInDim S128x8x32 ![0, 1, 2] bcast_S1x8x32_S128x8x32_0_1_2 (broadcastInDim S1x8x32 ![1, 2] bcast_S8x32_S1x8x32_1_2 (Host.cos a)))) (mulf (extractStridedSlice S128x8x32 ![0, 0, 32] (extractStridedSlice S128x8x64 ![0, 0, 512] k slices_S128x8x576_S128x8x64_0_0_512) slices_S128x8x64_S128x8x32_0_0_32) (broadcastInDim S128x8x32 ![0, 1, 2] bcast_S1x8x32_S128x8x32_0_1_2 (broadcastInDim S1x8x32 ![1, 2] bcast_S8x32_S1x8x32_1_2 (Host.sin a)))))⟩, ⟨S128x8x32, (addf (mulf (extractStridedSlice S128x8x32 ![0, 0, 32] (extractStridedSlice S128x8x64 ![0, 0, 512] k slices_S128x8x576_S128x8x64_0_0_512) slices_S128x8x64_S128x8x32_0_0_32) (broadcastInDim S128x8x32 ![0, 1, 2] bcast_S1x8x32_S128x8x32_0_1_2 (broadcastInDim S1x8x32 ![1, 2] bcast_S8x32_S1x8x32_1_2 (Host.cos a)))) (mulf (extractStridedSlice S128x8x32 ![0, 0, 0] (extractStridedSlice S128x8x64 ![0, 0, 512] k slices_S128x8x576_S128x8x64_0_0_512) slices_S128x8x64_S128x8x32_0_0_0) (broadcastInDim S128x8x32 ![0, 1, 2] bcast_S1x8x32_S128x8x32_0_1_2 (broadcastInDim S1x8x32 ![1, 2] bcast_S8x32_S1x8x32_1_2 (Host.sin a)))))⟩] concatenates_S128x8x32_S128x8x32_S128x8x64_d2)

/-- The prompt's normalised latent keys. -/
def rmsP (k : FVec Ideal S4x2048x576 .f32) (g : FVec Ideal S1x512 .f32) : FVec Ideal S1x4x2048x512 .f32 :=
  broadcastInDim S1x4x2048x512 ![1, 2, 3] bcast_S4x2048x512_S1x4x2048x512_1_2_3 (mulf (mulf (extractStridedSlice S4x2048x512 ![0, 0, 0] k slices_S4x2048x576_S4x2048x512_0_0_0) (broadcastInDim S4x2048x512 ![0, 1, 2] bcast_S4x2048x1_S4x2048x512_0_1_2 (Host.rsqrt (addf (Host.divf (broadcastInDim S4x2048x1 ![0, 1] bcast_S4x2048_S4x2048x1_0_1 (Host.reduceAdd (mulf (extractStridedSlice S4x2048x512 ![0, 0, 0] k slices_S4x2048x576_S4x2048x512_0_0_0) (extractStridedSlice S4x2048x512 ![0, 0, 0] k slices_S4x2048x576_S4x2048x512_0_0_0)) (constant S_ .f32 0x00000000#32) reducesTo_S4x2048x512_S4x2048_d2 h_S_)) (broadcastInDim S4x2048x1 ![] bcast_S_S4x2048x1 (constant S_ .f32 0x44000000#32))) (broadcastInDim S4x2048x1 ![] bcast_S_S4x2048x1 (constant S_ .f32 0x358637BD#32)))))) (broadcastInDim S4x2048x512 ![0, 1, 2] bcast_S1x1x512_S4x2048x512_0_1_2 (broadcastInDim S1x1x512 ![2] bcast_S512_S1x1x512_2 (shapeCast _ g shapeCasts_S1x512_S512))))
/-- The sample's normalised latent keys. -/
def rmsS (k : FVec Ideal S128x8x576 .f32) (g : FVec Ideal S1x512 .f32) : FVec Ideal S1x128x8x512 .f32 :=
  broadcastInDim S1x128x8x512 ![1, 2, 3] bcast_S128x8x512_S1x128x8x512_1_2_3 (mulf (mulf (extractStridedSlice S128x8x512 ![0, 0, 0] k slices_S128x8x576_S128x8x512_0_0_0) (broadcastInDim S128x8x512 ![0, 1, 2] bcast_S128x8x1_S128x8x512_0_1_2 (Host.rsqrt (addf (Host.divf (broadcastInDim S128x8x1 ![0, 1] bcast_S128x8_S128x8x1_0_1 (Host.reduceAdd (mulf (extractStridedSlice S128x8x512 ![0, 0, 0] k slices_S128x8x576_S128x8x512_0_0_0) (extractStridedSlice S128x8x512 ![0, 0, 0] k slices_S128x8x576_S128x8x512_0_0_0)) (constant S_ .f32 0x00000000#32) reducesTo_S128x8x512_S128x8_d2 h_S_)) (broadcastInDim S128x8x1 ![] bcast_S_S128x8x1 (constant S_ .f32 0x44000000#32))) (broadcastInDim S128x8x1 ![] bcast_S_S128x8x1 (constant S_ .f32 0x358637BD#32)))))) (broadcastInDim S128x8x512 ![0, 1, 2] bcast_S1x1x512_S128x8x512_0_1_2 (broadcastInDim S1x1x512 ![2] bcast_S512_S1x1x512_2 (shapeCast _ g shapeCasts_S1x512_S512))))
/-- The normalised queries. -/
def rmsQ (p : FVec Ideal S9216x16320 .f32) (g : FVec Ideal S1x1024 .f32) : FVec Ideal S9216x1024 .bf16 :=
  truncf .bf16 (mulf (mulf (extractStridedSlice S9216x1024 ![0, 6528] p slices_S9216x16320_S9216x1024_0_6528) (broadcastInDim S9216x1024 ![0, 1] bcast_S9216x1_S9216x1024_0_1 (Host.rsqrt (addf (Host.divf (broadcastInDim S9216x1 ![0] bcast_S9216_S9216x1_0 (Host.reduceAdd (mulf (extractStridedSlice S9216x1024 ![0, 6528] p slices_S9216x16320_S9216x1024_0_6528) (extractStridedSlice S9216x1024 ![0, 6528] p slices_S9216x16320_S9216x1024_0_6528)) (constant S_ .f32 0x00000000#32) reducesTo_S9216x1024_S9216_d1 h_S_)) (broadcastInDim S9216x1 ![] bcast_S_S9216x1 (constant S_ .f32 0x44800000#32))) (broadcastInDim S9216x1 ![] bcast_S_S9216x1 (constant S_ .f32 0x358637BD#32)))))) (broadcastInDim S9216x1024 ![0, 1] bcast_S1x1024_S9216x1024_0_1 (broadcastInDim S1x1024 ![1] bcast_S1024_S1x1024_1 (shapeCast _ g shapeCasts_S1x1024_S1024)))) bitsLt_bf16_f32

theorem keyP_at (p : FVec Ideal S9216x16320 .f32) (b : Fin 4) (s : Fin 2048) (k : Fin 576) : keyP p (ix3 b s k) = p (ix2 ⟨b.val * 2048 + s.val, by omega⟩ ⟨7552 + k.val, by omega⟩) := by
  pointwise [keyP]
theorem keyS_at (p : FVec Ideal S9216x16320 .f32) (b : Fin 128) (s : Fin 8) (k : Fin 576) : keyS p (ix3 b s k) = p (ix2 ⟨8192 + (b.val * 8 + s.val), by omega⟩ ⟨7552 + k.val, by omega⟩) := by
  pointwise [keyS]
theorem angP_at (f : FVec Ideal S32 .f32) (s : Fin 2048) (i : Fin 32) : angP f (ix2 s i) = FloatOps.sitofp (F := Ideal) FTy.f32 (BitVec.ofNat 32 s.val) * f (ix1 i) := by
  pointwise [angP]
theorem angS_at (f : FVec Ideal S32 .f32) (s : Fin 8) (i : Fin 32) : angS f (ix2 s i) = FloatOps.sitofp (F := Ideal) FTy.f32 (IntOp.addi 16384#32 (BitVec.ofNat 32 s.val)) * f (ix1 i) := by
  pointwise [angS]
theorem ropeP_at (k : FVec Ideal S4x2048x576 .f32) (a : FVec Ideal S2048x32 .f32) (b : Fin 4) (s : Fin 2048) (j : Fin 64) :
    ropeP k a (ix4 0 b s j) = rRope (fun j => k (ix3 b s ⟨512 + j.val, by omega⟩)) (fun i => a (ix2 s i)) j := by
  pointwise [ropeP, rRope]
theorem ropeS_at (k : FVec Ideal S128x8x576 .f32) (a : FVec Ideal S8x32 .f32) (b : Fin 128) (s : Fin 8) (j : Fin 64) :
    ropeS k a (ix4 0 b s j) = rRope (fun j => k (ix3 b s ⟨512 + j.val, by omega⟩)) (fun i => a (ix2 s i)) j := by
  pointwise [ropeS, rRope]
theorem rmsP_at (k : FVec Ideal S4x2048x576 .f32) (g : FVec Ideal S1x512 .f32) (b : Fin 4) (s : Fin 2048) (d : Fin 512) :
    rmsP k g (ix4 0 b s d) = rRms (Ideal.ofBits FTy.f32 0x44000000#32) (fun d : Fin 512 => k (ix3 b s ⟨d.val, by omega⟩)) (fun d => g (ix2 0 d)) d := by
  pointwise [rmsP, rRms]
theorem rmsS_at (k : FVec Ideal S128x8x576 .f32) (g : FVec Ideal S1x512 .f32) (b : Fin 128) (s : Fin 8) (d : Fin 512) :
    rmsS k g (ix4 0 b s d) = rRms (Ideal.ofBits FTy.f32 0x44000000#32) (fun d : Fin 512 => k (ix3 b s ⟨d.val, by omega⟩)) (fun d => g (ix2 0 d)) d := by
  pointwise [rmsS, rRms]
theorem rmsQ_at (p : FVec Ideal S9216x16320 .f32) (g : FVec Ideal S1x1024 .f32) (r : Fin 9216) (d : Fin 1024) :
    rmsQ p g (ix2 r d) = rRms (Ideal.ofBits FTy.f32 0x44800000#32) (fun d : Fin 1024 => p (ix2 r ⟨6528 + d.val, by omega⟩)) (fun d => g (ix2 0 d)) d := by
  pointwise [rmsQ, rRms]

/-! ## The results, row by row -/

/-- A row's position, as the rotation takes it: the prompt's rows count within each of its four sequences, the sample's follow the
    16384 earlier keys. -/
def pos (r : ℕ) : EReal :=
  if r < 8192 then FloatOps.sitofp (F := Ideal) FTy.f32 (BitVec.ofNat 32 (r % 2048))
  else FloatOps.sitofp (F := Ideal) FTy.f32 (IntOp.addi 16384#32 (BitVec.ofNat 32 ((r - 8192) % 8)))

/-- The normalised queries. -/
def qn (p : FVec Ideal S9216x16320 .f32) (q : FVec Ideal S1x1024 .f32) (g : FVec Ideal S1x512 .f32) : FVec Ideal S9216x1024 .bf16 := fun i =>
  rRms (Ideal.ofBits FTy.f32 0x44800000#32) (fun d : Fin 1024 => p (ix2 (i 0) ⟨6528 + d.val, by omega⟩)) (fun d => q (ix2 0 d)) (i 1)
/-- A normalised latent key's entry. -/
def ckv (p : FVec Ideal S9216x16320 .f32) (g : FVec Ideal S1x512 .f32) (r : Fin 9216) : Fin 512 → EReal :=
  rRms (Ideal.ofBits FTy.f32 0x44000000#32) (fun d : Fin 512 => p (ix2 r ⟨7552 + d.val, by omega⟩)) fun d => g (ix2 0 d)
/-- A rotated key's entry. -/
def kr (p : FVec Ideal S9216x16320 .f32) (r : Fin 9216) : Fin 64 → EReal :=
  rRope (fun j => p (ix2 r ⟨7552 + (512 + j.val), by omega⟩)) fun i => pos r.val * freq (ix1 i)

/-- The prompt's latent keys. -/
def ckvP (p : FVec Ideal S9216x16320 .f32) (q : FVec Ideal S1x1024 .f32) (g : FVec Ideal S1x512 .f32) : FVec Ideal S1x4x2048x512 .f32 :=
  fun i => ckv p g ⟨(i 1).val * 2048 + (i 2).val, by have h1 : (i 1).val < 4 := (i 1).isLt; have h2 : (i 2).val < 2048 := (i 2).isLt; omega⟩ (i 3)
/-- The prompt's rotated keys. -/
def krP (p : FVec Ideal S9216x16320 .f32) (q : FVec Ideal S1x1024 .f32) (g : FVec Ideal S1x512 .f32) : FVec Ideal S1x4x2048x64 .f32 :=
  fun i => kr p ⟨(i 1).val * 2048 + (i 2).val, by have h1 : (i 1).val < 4 := (i 1).isLt; have h2 : (i 2).val < 2048 := (i 2).isLt; omega⟩ (i 3)
/-- The sample's latent keys. -/
def ckvS (p : FVec Ideal S9216x16320 .f32) (q : FVec Ideal S1x1024 .f32) (g : FVec Ideal S1x512 .f32) : FVec Ideal S1x128x8x512 .f32 :=
  fun i => ckv p g ⟨8192 + ((i 1).val * 8 + (i 2).val), by have h1 : (i 1).val < 128 := (i 1).isLt; have h2 : (i 2).val < 8 := (i 2).isLt; omega⟩ (i 3)
/-- The sample's rotated keys. -/
def krS (p : FVec Ideal S9216x16320 .f32) (q : FVec Ideal S1x1024 .f32) (g : FVec Ideal S1x512 .f32) : FVec Ideal S1x128x8x64 .f32 :=
  fun i => kr p ⟨8192 + ((i 1).val * 8 + (i 2).val), by have h1 : (i 1).val < 128 := (i 1).isLt; have h2 : (i 2).val < 8 := (i 2).isLt; omega⟩ (i 3)

section
variable (p : FVec Ideal S9216x16320 .f32) (q : FVec Ideal S1x1024 .f32) (g : FVec Ideal S1x512 .f32)

theorem qn_eq : rmsQ p q = qn p q g := by
  funext i
  rw [ValueIdx.eq_ix2 i]
  exact rmsQ_at p q (i 0) (i 1)
theorem ckvP_row (b : Fin 4) (s : Fin 2048) (d : Fin 512) : rmsP (keyP p) g (ix4 0 b s d) = ckv p g ⟨b.val * 2048 + s.val, by omega⟩ d := by
  refine (rmsP_at (keyP p) g b s d).trans ?_
  simp only [keyP_at, ckv]
theorem ckvP_eq : rmsP (keyP p) g = ckvP p q g := by
  funext i
  rw [ValueIdx.eq_ix4 i, Fin.fin_one_eq_zero (i 0)]
  exact ckvP_row p g (i 1) (i 2) (i 3)
theorem ckvS_row (b : Fin 128) (s : Fin 8) (d : Fin 512) : rmsS (keyS p) g (ix4 0 b s d) = ckv p g ⟨8192 + (b.val * 8 + s.val), by omega⟩ d := by
  refine (rmsS_at (keyS p) g b s d).trans ?_
  simp only [keyS_at, ckv]
theorem ckvS_eq : rmsS (keyS p) g = ckvS p q g := by
  funext i
  rw [ValueIdx.eq_ix4 i, Fin.fin_one_eq_zero (i 0)]
  exact ckvS_row p g (i 1) (i 2) (i 3)
theorem krP_row (b : Fin 4) (s : Fin 2048) (d : Fin 64) : ropeP (keyP p) (angP freq) (ix4 0 b s d) = kr p ⟨b.val * 2048 + s.val, by omega⟩ d := by
  have hp : pos (b.val * 2048 + s.val) = FloatOps.sitofp (F := Ideal) FTy.f32 (BitVec.ofNat 32 s.val) := by
    unfold pos
    rw [if_pos (by omega), show (b.val * 2048 + s.val) % 2048 = s.val by omega]
  refine (ropeP_at (keyP p) (angP freq) b s d).trans ?_
  simp only [keyP_at, angP_at, kr, hp]
theorem krP_eq : ropeP (keyP p) (angP freq) = krP p q g := by
  funext i
  rw [ValueIdx.eq_ix4 i, Fin.fin_one_eq_zero (i 0)]
  exact krP_row p (i 1) (i 2) (i 3)
theorem krS_row (b : Fin 128) (s : Fin 8) (d : Fin 64) : ropeS (keyS p) (angS freq) (ix4 0 b s d) = kr p ⟨8192 + (b.val * 8 + s.val), by omega⟩ d := by
  have hp : pos (8192 + (b.val * 8 + s.val)) = FloatOps.sitofp (F := Ideal) FTy.f32 (IntOp.addi 16384#32 (BitVec.ofNat 32 s.val)) := by
    unfold pos
    rw [if_neg (by omega), show (8192 + (b.val * 8 + s.val) - 8192) % 8 = s.val by omega]
  refine (ropeS_at (keyS p) (angS freq) b s d).trans ?_
  simp only [keyS_at, angS_at, kr, hp]
theorem krS_eq : ropeS (keyS p) (angS freq) = krS p q g := by
  funext i
  rw [ValueIdx.eq_ix4 i, Fin.fin_one_eq_zero (i 0)]
  exact krS_row p (i 1) (i 2) (i 3)
end

/-! ## The reference's run -/

section
variable (m : (ℓ : Loc nD τ sig) → Buf (Elt Ideal) ℓ) (c : Dev nD)
theorem res_krP : Value.res_main_v68 (F := Ideal) m c = krP (m ((c : Thread nD τ).loc main_arg0)) (m ((c : Thread nD τ).loc main_arg1)) (m ((c : Thread nD τ).loc main_arg2)) := by
  rw [← krP_eq]; unfold Value.res_main_v68 ropeP keyP angP freq; rfl
theorem res_krS : Value.res_main_v122 (F := Ideal) m c = krS (m ((c : Thread nD τ).loc main_arg0)) (m ((c : Thread nD τ).loc main_arg1)) (m ((c : Thread nD τ).loc main_arg2)) := by
  rw [← krS_eq]; unfold Value.res_main_v122 ropeS keyS angS freq; rfl
end

end Cert.MlaRef

end
-- ==== Proof.Mla.lean ====
/- The latent attention's preparation: the kernel's arrays are the normalised queries, the normalised latent keys and the rotated
   keys of each row. -/
module

public import proofs.«01_k».proof.Proof.Gen.Kernel6Ideal.Frame
public import proofs.«01_k».proof.Proof.MlaRef
public import Idealize.ShloMosaic.Lib.Pipeline.ValueKit
public import Idealize.ShloMosaic.Lib.Pointwise
public import Idealize.ShloMosaic.Lib.Claim

@[expose] public section

set_option maxRecDepth 16384

noncomputable section

namespace Cert.Mla

open Idealize.ShloMosaic Idealize.ShloMosaic.TcCoe Idealize.SL Idealize.SL.Sem
open Cert.Kernel6Ideal Cert.Kernel6Ideal.Gen
open MlaRef (rRms rRope pos freq)

variable (m : (ℓ : Loc nD τ sig) → Buf (Elt Ideal) ℓ) (c : Dev nD)

/-! ## The body's values -/

theorem pay3_at (x : Vec Ideal S256x1024 .f32) (g : Vec Ideal S1x1024 .f32) (r : Fin 256) (d : Fin 1024) :
    k0_pay3 (F := Ideal) x g (ix2 r d) = rRms (Ideal.ofBits FTy.f32 0x44800000#32) (fun d => x (ix2 r d)) (fun d => g (ix2 0 d)) d := by
  pointwise [k0_pay3, rRms]
theorem pay4_at (x : Vec Ideal S256x512 .f32) (g : Vec Ideal S1x512 .f32) (r : Fin 256) (d : Fin 512) :
    k0_pay4 (F := Ideal) x g (ix2 r d) = rRms (Ideal.ofBits FTy.f32 0x44000000#32) (fun d => x (ix2 r d)) (fun d => g (ix2 0 d)) d := by
  pointwise [k0_pay4, rRms]
/-- The lanes that take the later half: a lane's place within its 64, as the body computes it, is below 32. -/
theorem lane : ∀ j : Fin 64, (IntOp.cmpi CmpIPredicate.slt
            (Scalar.select
              (IntOp.andi
                (IntOp.xori
                  (IntOp.cmpi CmpIPredicate.slt
                    (IntOp.remsi ArithUnit.vector (BitVec.ofNat 32 j.val)
                      (Scalar.select (Scalar.cmpi CmpIPredicate.eq 64#32 0#32) 1#32 64#32))
                    0#32)
                  (Scalar.cmpi CmpIPredicate.slt (Scalar.select (Scalar.cmpi CmpIPredicate.eq 64#32 0#32) 1#32 64#32)
                    0#32))
                (IntOp.cmpi CmpIPredicate.ne
                  (IntOp.remsi ArithUnit.vector (BitVec.ofNat 32 j.val)
                    (Scalar.select (Scalar.cmpi CmpIPredicate.eq 64#32 0#32) 1#32 64#32))
                  0#32))
              (IntOp.addi
                (IntOp.remsi ArithUnit.vector (BitVec.ofNat 32 j.val)
                  (Scalar.select (Scalar.cmpi CmpIPredicate.eq 64#32 0#32) 1#32 64#32))
                (Scalar.select (Scalar.cmpi CmpIPredicate.eq 64#32 0#32) 1#32 64#32))
              (IntOp.remsi ArithUnit.vector (BitVec.ofNat 32 j.val)
                (Scalar.select (Scalar.cmpi CmpIPredicate.eq 64#32 0#32) 1#32 64#32)))
            32#32) = if j.val < 32 then 1#1 else 0#1 := by decide +kernel

theorem pay1_at (x co si : Vec Ideal S256x128 .f32) (r : Fin 256) (j : Fin 64) (a : Fin 32 → EReal)
    (hco : co (ix2 r ⟨j.val, by omega⟩) = if h : j.val < 32 then Ideal.cos (a ⟨j.val, h⟩) else Ideal.cos (a ⟨j.val - 32, by omega⟩))
    (hsi : si (ix2 r ⟨j.val, by omega⟩) = if h : j.val < 32 then -Ideal.sin (a ⟨j.val, h⟩) else Ideal.sin (a ⟨j.val - 32, by omega⟩)) :
    k0_pay1 (F := Ideal) x co si (ix2 r j) = rRope (fun j => x (ix2 r ⟨j.val, by omega⟩)) a j := by
  pointwise [k0_pay1]
  rw [lane j, hco, hsi]
  unfold rRope
  by_cases h : j.val < 32
  · have e : (j.val + 128 - 96) % 128 = 32 + j.val := by omega
    simp only [h, e, if_true, dif_pos]
    rw [show (Scalar.select (1#1) (x (ix2 r ⟨32 + j.val, by omega⟩)) (x (ix2 r ⟨(j.val + 128 - 32) % 128, by omega⟩)) : EReal) = x (ix2 r ⟨32 + j.val, by omega⟩) from rfl, mul_neg]
    rfl
  · have e : (j.val + 128 - 32) % 128 = j.val - 32 := by omega
    have e' : 32 + (j.val - 32) = j.val := by omega
    simp only [h, e, e', if_false, dif_neg, not_false_eq_true]
    rfl

/-! ## The host's tables -/

/-- The rows' positions. -/
def posT : IVec S9216 32 := concatenate S9216 0 [⟨S8192, shapeCast S8192 (broadcastInDim S4x2048 ![0, 1] bcast_S1x2048_S4x2048_0_1 (shapeCast S1x2048 (iotaInDim S2048 32 0) shapeCasts_S2048_S1x2048)) shapeCasts_S4x2048_S8192⟩,
  ⟨S1024, shapeCast S1024 (broadcastInDim S128x8 ![0, 1] bcast_S1x8_S128x8_0_1 (shapeCast S1x8 (addi (broadcastInDim S8 ![] bcast_S_S8 (constantI S_ 32 16384#32)) (iotaInDim S8 32 0)) shapeCasts_S8_S1x8)) shapeCasts_S128x8_S1024⟩] concatenates_S8192_S1024_S9216_d0
/-- The rows' angles. -/
def angT (q : IVec S9216 32) (f : FVec Ideal S32 .f32) : FVec Ideal S9216x32 .f32 :=
  mulf (broadcastInDim S9216x32 ![0, 1] bcast_S9216x1_S9216x32_0_1 (broadcastInDim S9216x1 ![0] bcast_S9216_S9216x1_0 (sitofp .f32 q))) (broadcastInDim S9216x32 ![0, 1] bcast_S1x32_S9216x32_0_1 (broadcastInDim S1x32 ![1] bcast_S32_S1x32_1 f))
/-- A table of two copies side by side, twice. -/
def table (a b : FVec Ideal S9216x32 .f32) : FVec Ideal S9216x128 .f32 :=
  shapeCast S9216x128 (broadcastInDim S1x9216x2x64 ![0, 1, 2, 3] bcast_S1x9216x1x64_S1x9216x2x64_0_1_2_3 (shapeCast S1x9216x1x64 (concatenate S9216x64 1 [⟨S9216x32, a⟩, ⟨S9216x32, b⟩] concatenates_S9216x32_S9216x32_S9216x64_d1) shapeCasts_S9216x64_S1x9216x1x64)) shapeCasts_S1x9216x2x64_S9216x128

theorem posP_at (a : IVec S2048 32) (k : Fin 8192) : (shapeCast S8192 (broadcastInDim S4x2048 ![0, 1] bcast_S1x2048_S4x2048_0_1 (shapeCast S1x2048 a shapeCasts_S2048_S1x2048)) shapeCasts_S4x2048_S8192 : IVec S8192 32) (ix1 k) = a (ix1 ⟨k.val % 2048, by omega⟩) := by
  pointwise
theorem posS_at (a : IVec S8 32) (k : Fin 1024) : (shapeCast S1024 (broadcastInDim S128x8 ![0, 1] bcast_S1x8_S128x8_0_1 (shapeCast S1x8 a shapeCasts_S8_S1x8)) shapeCasts_S128x8_S1024 : IVec S1024 32) (ix1 k) = a (ix1 ⟨k.val % 8, by omega⟩) := by
  pointwise
theorem cat_at (a : IVec S8192 32) (b : IVec S1024 32) (r : Fin 9216) : (concatenate S9216 0 [⟨S8192, a⟩, ⟨S1024, b⟩] concatenates_S8192_S1024_S9216_d0 : IVec S9216 32) (ix1 r) =
    if h : r.val < 8192 then a (ix1 ⟨r.val, h⟩) else b (ix1 ⟨r.val - 8192, by omega⟩) := by
  pointwise
theorem posT_at (r : Fin 9216) : FloatOps.sitofp (F := Ideal) FTy.f32 (posT (ix1 r)) = pos r.val := by
  unfold posT pos
  rw [cat_at]
  by_cases h : r.val < 8192
  · rw [dif_pos h, if_pos h, posP_at]
    exact congrArg _ (by pointwise)
  · rw [dif_neg h, if_neg h, posS_at]
    exact congrArg _ (by pointwise)
theorem angT_at (q : IVec S9216 32) (f : FVec Ideal S32 .f32) (r : Fin 9216) (i : Fin 32) : angT q f (ix2 r i) = FloatOps.sitofp (F := Ideal) FTy.f32 (q (ix1 r)) * f (ix1 i) := by
  pointwise [angT]
theorem table_at (a b : FVec Ideal S9216x32 .f32) (r : Fin 9216) (j : Fin 64) : table a b (ix2 r ⟨j.val, by omega⟩) =
    if h : j.val < 32 then a (ix2 r ⟨j.val, h⟩) else b (ix2 r ⟨j.val - 32, by omega⟩) := by
  pointwise [table]
  have e : j.val % 64 = j.val := by omega
  simp only [e]

theorem V28 : V m c main_v28 = table (Host.cos (angT posT freq)) (Host.cos (angT posT freq)) := by
  unfold V freq; rfl
theorem V33 : V m c main_v33 = table (Host.negf (Host.sin (angT posT freq))) (Host.sin (angT posT freq)) := by
  unfold V freq; rfl

theorem cos_at (r : Fin 9216) (j : Fin 64) : V m c main_v28 (ix2 r ⟨j.val, by omega⟩)
    = if h : j.val < 32 then Ideal.cos (pos r.val * freq (ix1 ⟨j.val, h⟩)) else Ideal.cos (pos r.val * freq (ix1 ⟨j.val - 32, by omega⟩)) := by
  have ha : ∀ i : Fin 32, (Host.cos (angT posT freq) : FVec Ideal S9216x32 .f32) (ix2 r i) = Ideal.cos (pos r.val * freq (ix1 i)) := fun i =>
    congrArg Ideal.cos ((angT_at posT freq r i).trans (congrArg (· * freq (ix1 i)) (posT_at r)))
  rw [V28]
  refine (table_at _ _ r j).trans ?_
  simp only [ha]
theorem sin_at (r : Fin 9216) (j : Fin 64) : V m c main_v33 (ix2 r ⟨j.val, by omega⟩)
    = if h : j.val < 32 then -Ideal.sin (pos r.val * freq (ix1 ⟨j.val, h⟩)) else Ideal.sin (pos r.val * freq (ix1 ⟨j.val - 32, by omega⟩)) := by
  have ha : ∀ i : Fin 32, (Host.sin (angT posT freq) : FVec Ideal S9216x32 .f32) (ix2 r i) = Ideal.sin (pos r.val * freq (ix1 i)) := fun i =>
    congrArg Ideal.sin ((angT_at posT freq r i).trans (congrArg (· * freq (ix1 i)) (posT_at r)))
  have hn : ∀ i : Fin 32, (Host.negf (Host.sin (angT posT freq)) : FVec Ideal S9216x32 .f32) (ix2 r i) = -Ideal.sin (pos r.val * freq (ix1 i)) := fun i =>
    congrArg (-·) (ha i)
  rw [V33]
  refine (table_at _ _ r j).trans ?_
  simp only [ha, hn]

/-- The projected rows, their columns in the kernel's order. -/
@[irreducible] def cols (p : FVec Ideal S9216x16320 .f32) : FVec Ideal S9216x16384 .f32 :=
  concatenate S9216x16384 1 [⟨S9216x6144, extractStridedSlice S9216x6144 ![0, 0] p slices_S9216x16320_S9216x6144_0_0⟩,
    ⟨S9216x8192, extractStridedSlice S9216x8192 ![0, 8128] p slices_S9216x16320_S9216x8192_0_8128⟩,
    ⟨S9216x1024, extractStridedSlice S9216x1024 ![0, 6528] p slices_S9216x16320_S9216x1024_0_6528⟩,
    ⟨S9216x512, extractStridedSlice S9216x512 ![0, 7552] p slices_S9216x16320_S9216x512_0_7552⟩,
    ⟨S9216x256, extractStridedSlice S9216x256 ![0, 6272] p slices_S9216x16320_S9216x256_0_6272⟩,
    ⟨S9216x64, extractStridedSlice S9216x64 ![0, 6144] p slices_S9216x16320_S9216x64_0_6144⟩,
    ⟨S9216x64, extractStridedSlice S9216x64 ![0, 6208] p slices_S9216x16320_S9216x64_0_6208⟩,
    ⟨S9216x64, extractStridedSlice S9216x64 ![0, 8064] p slices_S9216x16320_S9216x64_0_8064⟩,
    ⟨S9216x64, broadcastInDim S9216x64 ![] bcast_S_S9216x64 (constant S_ .f32 0x00000000#32)⟩]
    concatenates_S9216x6144_S9216x8192_S9216x1024_S9216x512_S9216x256_S9216x64_S9216x64_S9216x64_S9216x64_S9216x16384_d1

theorem V43 : V m c main_v43 = cols (m ((c : Thread nD τ).loc main_arg0)) := by
  unfold V cols; rfl

/-- A query's column. -/
theorem colQ (p : FVec Ideal S9216x16320 .f32) (r : Fin 9216) (d : Fin 1024) : cols p (ix2 r ⟨14336 + d.val, by omega⟩) = p (ix2 r ⟨6528 + d.val, by omega⟩) := by
  unfold cols
  pointwise
  split_ifs <;> first | omega | exact congrArg p ((ix2_inj ..).2 ⟨rfl, Fin.ext (by simp only; omega)⟩)
/-- A latent key's column. -/
theorem colC (p : FVec Ideal S9216x16320 .f32) (r : Fin 9216) (d : Fin 512) : cols p (ix2 r ⟨15360 + d.val, by omega⟩) = p (ix2 r ⟨7552 + d.val, by omega⟩) := by
  unfold cols
  pointwise
  split_ifs <;> first | omega | exact congrArg p ((ix2_inj ..).2 ⟨rfl, Fin.ext (by simp only; omega)⟩)
/-- A rotary key's column. -/
theorem colR (p : FVec Ideal S9216x16320 .f32) (r : Fin 9216) (d : Fin 64) : cols p (ix2 r ⟨15872 + (384 + d.val), by omega⟩) = p (ix2 r ⟨7552 + (512 + d.val), by omega⟩) := by
  unfold cols
  pointwise
  split_ifs <;> first | omega | exact congrArg p ((ix2_inj ..).2 ⟨rfl, Fin.ext (by simp only; omega)⟩)

theorem vecQ (g : FVec Ideal S1x1024 .f32) : (shapeCast S1x1024 (shapeCast S1024 g shapeCasts_S1x1024_S1024) shapeCasts_S1024_S1x1024 : FVec Ideal S1x1024 .f32) = g := by
  funext j
  pointwise
theorem vecC (g : FVec Ideal S1x512 .f32) : (shapeCast S1x512 (shapeCast S512 g shapeCasts_S1x512_S512) shapeCasts_S512_S1x512 : FVec Ideal S1x512 .f32) = g := by
  funext j
  pointwise
theorem V46 : V m c main_v46 = m ((c : Thread nD τ).loc main_arg1) := (by unfold V; rfl : V m c main_v46 = shapeCast S1x1024 (shapeCast S1024 (m ((c : Thread nD τ).loc main_arg1)) shapeCasts_S1x1024_S1024) shapeCasts_S1024_S1x1024).trans (vecQ _)
theorem V47 : V m c main_v47 = m ((c : Thread nD τ).loc main_arg2) := (by unfold V; rfl : V m c main_v47 = shapeCast S1x512 (shapeCast S512 (m ((c : Thread nD τ).loc main_arg2)) shapeCasts_S1x512_S512) shapeCasts_S512_S1x512).trans (vecC _)

/-! ## The blocks -/

/-- Where each window's block lies. -/
theorem idx : ∀ t : Fin cfg0.N,
    (win0_0.index t (0 : Fin 2) = t.val ∧ win0_0.index t (1 : Fin 2) = 14) ∧
    (win0_1.index t (0 : Fin 2) = t.val ∧ win0_1.index t (1 : Fin 2) = 30) ∧
    (win0_2.index t (0 : Fin 2) = t.val ∧ win0_2.index t (1 : Fin 2) = 31) ∧
    (win0_3.index t (0 : Fin 2) = 0 ∧ win0_3.index t (1 : Fin 2) = 0) ∧
    (win0_4.index t (0 : Fin 2) = 0 ∧ win0_4.index t (1 : Fin 2) = 0) ∧
    (win0_5.index t (0 : Fin 2) = t.val ∧ win0_5.index t (1 : Fin 2) = 0) ∧
    (win0_6.index t (0 : Fin 2) = t.val ∧ win0_6.index t (1 : Fin 2) = 0) ∧
    (win0_7.index t (0 : Fin 2) = t.val ∧ win0_7.index t (1 : Fin 2) = 0) ∧
    (win0_8.index t (0 : Fin 2) = t.val ∧ win0_8.index t (1 : Fin 2) = 0) ∧
    (win0_10.index t (0 : Fin 2) = t.val ∧ win0_10.index t (1 : Fin 2) = 0) :=
  (by decide +kernel : ∀ t : Fin grid0.N, _)

section
variable (t : Fin cfg0.N) (r : Fin 256) (R : Fin 9216) (hR : R.val = t.val * 256 + r.val)
include hR
theorem blk0 (d : Fin 1024) : iblk m c 0 t (ix2 r d) = m ((c : Thread nD τ).loc main_arg0) (ix2 R ⟨6528 + d.val, by omega⟩) := by
  have e := idx t
  refine Eq.trans ?_ (colQ _ R d)
  rw [← V43 m c]
  blk_ext [iblk, e]
theorem blk1 (d : Fin 512) : iblk m c 1 t (ix2 r d) = m ((c : Thread nD τ).loc main_arg0) (ix2 R ⟨7552 + d.val, by omega⟩) := by
  have e := idx t
  refine Eq.trans ?_ (colC _ R d)
  rw [← V43 m c]
  blk_ext [iblk, e]
theorem blk2 (d : Fin 64) : iblk m c 2 t (ix2 r ⟨384 + d.val, by omega⟩) = m ((c : Thread nD τ).loc main_arg0) (ix2 R ⟨7552 + (512 + d.val), by omega⟩) := by
  have e := idx t
  refine Eq.trans ?_ (colR _ R d)
  rw [← V43 m c]
  blk_ext [iblk, e]
omit hR in
theorem blk3 (d : Fin 1024) : iblk m c 3 t (ix2 0 d) = m ((c : Thread nD τ).loc main_arg1) (ix2 0 d) := by
  have e := idx t
  blk_ext [iblk, V46 m c, e]
omit hR in
theorem blk4 (d : Fin 512) : iblk m c 4 t (ix2 0 d) = m ((c : Thread nD τ).loc main_arg2) (ix2 0 d) := by
  have e := idx t
  blk_ext [iblk, V47 m c, e]
theorem blk5 (d : Fin 128) : iblk m c 5 t (ix2 r d) = V m c main_v28 (ix2 R d) := by
  have e := idx t
  blk_ext [iblk, e]
theorem blk6 (d : Fin 128) : iblk m c 6 t (ix2 r d) = V m c main_v33 (ix2 R d) := by
  have e := idx t
  blk_ext [iblk, e]
end

/-- The rotary keys' lanes in the last block of columns. -/
theorem lanes (x : Vec Ideal S256x512 .f32) (r : Fin 256) (j : Fin 64) :
    (View.ld x r0_4 : Vec Ideal S256x128 .f32) (ix2 r ⟨j.val, by omega⟩) = x (ix2 r ⟨384 + j.val, by omega⟩) := by
  show x (r0_4.emb (ix2 r ⟨j.val, by omega⟩)) = _
  refine congrArg x ?_
  blk_ext

/-- The normalised queries, of the program's arguments. -/
abbrev refQ : FVec Ideal S9216x1024 .bf16 := MlaRef.qn (m ((c : Thread nD τ).loc main_arg0)) (m ((c : Thread nD τ).loc main_arg1)) (m ((c : Thread nD τ).loc main_arg2))
/-- The normalised latent keys, by rows. -/
def rowsC (p : FVec Ideal S9216x16320 .f32) (g : FVec Ideal S1x512 .f32) : FVec Ideal S9216x512 .f32 := fun i => MlaRef.ckv p g (i 0) (i 1)
/-- The rotated keys, by rows. -/
def rowsR (p : FVec Ideal S9216x16320 .f32) : FVec Ideal S9216x64 .f32 := fun i => MlaRef.kr p (i 0) (i 1)

section
variable (t : Fin cfg0.N) (r : Fin 256) (R : Fin 9216) (hR : R.val = t.val * 256 + r.val)
include hR
/-- What the body stores among the queries. -/
theorem pointQ (d : Fin 1024) : k0_pay3 (F := Ideal) (iblk m c 0 t) (iblk m c 3 t) (ix2 r d) = refQ m c (ix2 R d) := by
  rw [pay3_at]
  simp only [blk0 m c t r R hR, blk3 m c t]
  rfl
/-- What the body stores among the latent keys. -/
theorem pointC (d : Fin 512) : k0_pay4 (F := Ideal) (iblk m c 1 t) (iblk m c 4 t) (ix2 r d) = rowsC (m ((c : Thread nD τ).loc main_arg0)) (m ((c : Thread nD τ).loc main_arg2)) (ix2 R d) := by
  rw [pay4_at]
  simp only [blk1 m c t r R hR, blk4 m c t]
  rfl
/-- What the body stores among the rotated keys. -/
theorem pointR (j : Fin 64) : k0_pay1 (F := Ideal) (View.ld (iblk m c 2 t) r0_4) (iblk m c 5 t) (iblk m c 6 t) (ix2 r j) = rowsR (m ((c : Thread nD τ).loc main_arg0)) (ix2 R j) := by
  have hx : ∀ j : Fin 64, (View.ld (iblk m c 2 t) r0_4 : Vec Ideal S256x128 .f32) (ix2 r ⟨j.val, by omega⟩) = m ((c : Thread nD τ).loc main_arg0) (ix2 R ⟨7552 + (512 + j.val), by omega⟩) := fun j =>
    (lanes (iblk m c 2 t) r j).trans (blk2 m c t r R hR j)
  have hco := blk5 m c t r R hR ⟨j.val, by omega⟩
  have hsi := blk6 m c t r R hR ⟨j.val, by omega⟩
  rw [cos_at m c R j] at hco
  rw [sin_at m c R j] at hsi
  rw [pay1_at (View.ld (iblk m c 2 t) r0_4) (iblk m c 5 t) (iblk m c 6 t) r j (fun i => pos R.val * freq (ix1 i)) hco hsi]
  simp only [hx]
  rfl
end

/-- The kernel's array of normalised queries after the region. -/
theorem finalQ : (dats m 0 c).arrAt 7 cfg0.N = refQ m c := by
  refine (dats m 0 c).arrAt_eq_of_covers 7 _ (by decide +kernel) fun t _ y => ?_
  have ht : t.val < 36 := t.isLt
  have y0 : (y 0 : ℕ) < 256 := (y 0).isLt
  have hR : t.val * 256 + (y 0 : ℕ) < 9216 := by omega
  have e := idx t
  have hE : ((cfg0.win 7).blk t).view.emb y = ix2 (⟨t.val * 256 + (y 0 : ℕ), hR⟩ : Fin 9216) (⟨(y 1 : ℕ), (y 1).isLt⟩ : Fin 1024) := by
    blk_ext [e]
  have hy : y = ix2 (⟨(y 0 : ℕ), y0⟩ : Fin 256) (⟨(y 1 : ℕ), (y 1).isLt⟩ : Fin 1024) := ValueIdx.eq_ix2 y
  have hp := pointQ m c t ⟨(y 0 : ℕ), y0⟩ ⟨t.val * 256 + (y 0 : ℕ), hR⟩ rfl ⟨(y 1 : ℕ), (y 1).isLt⟩
  rw [← hy, ← hE] at hp
  blk_simp
  rw [after0_7]; frame_out
  exact hp

/-- The kernel's array of normalised latent keys after the region. -/
theorem finalC : (dats m 0 c).arrAt 8 cfg0.N = rowsC (m ((c : Thread nD τ).loc main_arg0)) (m ((c : Thread nD τ).loc main_arg2)) := by
  refine (dats m 0 c).arrAt_eq_of_covers 8 _ (by decide +kernel) fun t _ y => ?_
  have ht : t.val < 36 := t.isLt
  have y0 : (y 0 : ℕ) < 256 := (y 0).isLt
  have hR : t.val * 256 + (y 0 : ℕ) < 9216 := by omega
  have e := idx t
  have hE : ((cfg0.win 8).blk t).view.emb y = ix2 (⟨t.val * 256 + (y 0 : ℕ), hR⟩ : Fin 9216) (⟨(y 1 : ℕ), (y 1).isLt⟩ : Fin 512) := by
    blk_ext [e]
  have hy : y = ix2 (⟨(y 0 : ℕ), y0⟩ : Fin 256) (⟨(y 1 : ℕ), (y 1).isLt⟩ : Fin 512) := ValueIdx.eq_ix2 y
  have hp := pointC m c t ⟨(y 0 : ℕ), y0⟩ ⟨t.val * 256 + (y 0 : ℕ), hR⟩ rfl ⟨(y 1 : ℕ), (y 1).isLt⟩
  rw [← hy, ← hE] at hp
  blk_simp
  rw [after0_8]; frame_out
  exact hp

/-- The kernel's array of rotated keys after the region. -/
theorem finalR : (dats m 0 c).arrAt 10 cfg0.N = rowsR (m ((c : Thread nD τ).loc main_arg0)) := by
  refine (dats m 0 c).arrAt_eq_of_covers 10 _ (by decide +kernel) fun t _ y => ?_
  have ht : t.val < 36 := t.isLt
  have y0 : (y 0 : ℕ) < 256 := (y 0).isLt
  have hR : t.val * 256 + (y 0 : ℕ) < 9216 := by omega
  have e := idx t
  have hE : ((cfg0.win 10).blk t).view.emb y = ix2 (⟨t.val * 256 + (y 0 : ℕ), hR⟩ : Fin 9216) (⟨(y 1 : ℕ), (y 1).isLt⟩ : Fin 64) := by
    blk_ext [e]
  have hy : y = ix2 (⟨(y 0 : ℕ), y0⟩ : Fin 256) (⟨(y 1 : ℕ), (y 1).isLt⟩ : Fin 64) := ValueIdx.eq_ix2 y
  have hp := pointR m c t ⟨(y 0 : ℕ), y0⟩ ⟨t.val * 256 + (y 0 : ℕ), hR⟩ rfl ⟨(y 1 : ℕ), (y 1).isLt⟩
  rw [← hy, ← hE] at hp
  blk_simp
  rw [after0_10]; frame_out
  exact hp

/-! ## The results -/

/-- The prompt's latent keys, from the kernel's rows. -/
def promptC (x : FVec Ideal S9216x512 .f32) : FVec Ideal S1x4x2048x512 .f32 :=
  shapeCast S1x4x2048x512 (extractStridedSlice S8192x512 ![0, 0] x slices_S9216x512_S8192x512_0_0) shapeCasts_S8192x512_S1x4x2048x512
theorem promptC_at (x : FVec Ideal S9216x512 .f32) (b : Fin 4) (s : Fin 2048) (d : Fin 512) : promptC x (ix4 0 b s d) = x (ix2 ⟨b.val * 2048 + s.val, by omega⟩ d) := by
  pointwise [promptC]
theorem promptC_eq (p : FVec Ideal S9216x16320 .f32) (q : FVec Ideal S1x1024 .f32) (g : FVec Ideal S1x512 .f32) : promptC (rowsC p g) = MlaRef.ckvP p q g := by
  funext i
  rw [ValueIdx.eq_ix4 i, Fin.fin_one_eq_zero (i 0)]
  exact promptC_at _ (i 1) (i 2) (i 3)

/-- The prompt's rotated keys, from the kernel's rows. -/
def promptR (x : FVec Ideal S9216x64 .f32) : FVec Ideal S1x4x2048x64 .f32 :=
  shapeCast S1x4x2048x64 (extractStridedSlice S8192x64 ![0, 0] x slices_S9216x64_S8192x64_0_0) shapeCasts_S8192x64_S1x4x2048x64
theorem promptR_at (x : FVec Ideal S9216x64 .f32) (b : Fin 4) (s : Fin 2048) (d : Fin 64) : promptR x (ix4 0 b s d) = x (ix2 ⟨b.val * 2048 + s.val, by omega⟩ d) := by
  pointwise [promptR]
theorem promptR_eq (p : FVec Ideal S9216x16320 .f32) (q : FVec Ideal S1x1024 .f32) (g : FVec Ideal S1x512 .f32) : promptR (rowsR p) = MlaRef.krP p q g := by
  funext i
  rw [ValueIdx.eq_ix4 i, Fin.fin_one_eq_zero (i 0)]
  exact promptR_at _ (i 1) (i 2) (i 3)

/-- The sample's latent keys, from the kernel's rows. -/
def sampleC (x : FVec Ideal S9216x512 .f32) : FVec Ideal S1x128x8x512 .f32 :=
  shapeCast S1x128x8x512 (extractStridedSlice S1024x512 ![8192, 0] x slices_S9216x512_S1024x512_8192_0) shapeCasts_S1024x512_S1x128x8x512
theorem sampleC_at (x : FVec Ideal S9216x512 .f32) (b : Fin 128) (s : Fin 8) (d : Fin 512) : sampleC x (ix4 0 b s d) = x (ix2 ⟨8192 + (b.val * 8 + s.val), by omega⟩ d) := by
  pointwise [sampleC]
theorem sampleC_eq (p : FVec Ideal S9216x16320 .f32) (q : FVec Ideal S1x1024 .f32) (g : FVec Ideal S1x512 .f32) : sampleC (rowsC p g) = MlaRef.ckvS p q g := by
  funext i
  rw [ValueIdx.eq_ix4 i, Fin.fin_one_eq_zero (i 0)]
  exact sampleC_at _ (i 1) (i 2) (i 3)

/-- The sample's rotated keys, from the kernel's rows. -/
def sampleR (x : FVec Ideal S9216x64 .f32) : FVec Ideal S1x128x8x64 .f32 :=
  shapeCast S1x128x8x64 (extractStridedSlice S1024x64 ![8192, 0] x slices_S9216x64_S1024x64_8192_0) shapeCasts_S1024x64_S1x128x8x64
theorem sampleR_at (x : FVec Ideal S9216x64 .f32) (b : Fin 128) (s : Fin 8) (d : Fin 64) : sampleR x (ix4 0 b s d) = x (ix2 ⟨8192 + (b.val * 8 + s.val), by omega⟩ d) := by
  pointwise [sampleR]
theorem sampleR_eq (p : FVec Ideal S9216x16320 .f32) (q : FVec Ideal S1x1024 .f32) (g : FVec Ideal S1x512 .f32) : sampleR (rowsR p) = MlaRef.krS p q g := by
  funext i
  rw [ValueIdx.eq_ix4 i, Fin.fin_one_eq_zero (i 0)]
  exact sampleR_at _ (i 1) (i 2) (i 3)

theorem after_ckvP (W : Valuation τ sig (Elt Ideal)) : StableHlo.after hostOps1 W (Proc.devRef .tc main_v50) = promptC (W (Proc.devRef .tc main_v48_1)) := rfl
theorem tail_ckvP : Pipeline.afterTail₀ cfgs (dats m) 0 (V0 m) [hostOps1] c main_v50 = MlaRef.ckvP (m ((c : Thread nD τ).loc main_arg0)) (m ((c : Thread nD τ).loc main_arg1)) (m ((c : Thread nD τ).loc main_arg2)) := by
  unfold Pipeline.afterTail₀
  rw [List.flatten_singleton]
  refine (after_ckvP _).trans ((congrArg promptC ?_).trans (promptC_eq _ _ _))
  exact ((dats m 0 c).withArrays_arrAt sharedIn0 (V0 m c) (A_eq m c) 8).trans (finalC m c)

theorem after_krP (W : Valuation τ sig (Elt Ideal)) : StableHlo.after hostOps1 W (Proc.devRef .tc main_v52) = promptR (W (Proc.devRef .tc main_v48_3)) := rfl
theorem tail_krP : Pipeline.afterTail₀ cfgs (dats m) 0 (V0 m) [hostOps1] c main_v52 = MlaRef.krP (m ((c : Thread nD τ).loc main_arg0)) (m ((c : Thread nD τ).loc main_arg1)) (m ((c : Thread nD τ).loc main_arg2)) := by
  unfold Pipeline.afterTail₀
  rw [List.flatten_singleton]
  refine (after_krP _).trans ((congrArg promptR ?_).trans (promptR_eq _ _ _))
  exact ((dats m 0 c).withArrays_arrAt sharedIn0 (V0 m c) (A_eq m c) 10).trans (finalR m c)

theorem after_ckvS (W : Valuation τ sig (Elt Ideal)) : StableHlo.after hostOps1 W (Proc.devRef .tc main_v54) = sampleC (W (Proc.devRef .tc main_v48_1)) := rfl
theorem tail_ckvS : Pipeline.afterTail₀ cfgs (dats m) 0 (V0 m) [hostOps1] c main_v54 = MlaRef.ckvS (m ((c : Thread nD τ).loc main_arg0)) (m ((c : Thread nD τ).loc main_arg1)) (m ((c : Thread nD τ).loc main_arg2)) := by
  unfold Pipeline.afterTail₀
  rw [List.flatten_singleton]
  refine (after_ckvS _).trans ((congrArg sampleC ?_).trans (sampleC_eq _ _ _))
  exact ((dats m 0 c).withArrays_arrAt sharedIn0 (V0 m c) (A_eq m c) 8).trans (finalC m c)

theorem after_krS (W : Valuation τ sig (Elt Ideal)) : StableHlo.after hostOps1 W (Proc.devRef .tc main_v56) = sampleR (W (Proc.devRef .tc main_v48_3)) := rfl
theorem tail_krS : Pipeline.afterTail₀ cfgs (dats m) 0 (V0 m) [hostOps1] c main_v56 = MlaRef.krS (m ((c : Thread nD τ).loc main_arg0)) (m ((c : Thread nD τ).loc main_arg1)) (m ((c : Thread nD τ).loc main_arg2)) := by
  unfold Pipeline.afterTail₀
  rw [List.flatten_singleton]
  refine (after_krS _).trans ((congrArg sampleR ?_).trans (sampleR_eq _ _ _))
  exact ((dats m 0 c).withArrays_arrAt sharedIn0 (V0 m c) (A_eq m c) 10).trans (finalR m c)

set_option maxHeartbeats 1000000 in
/-- The run. -/
theorem run (ρ : Dev nD → PrngReg) :
    θ_run (defs (F := Ideal)) (onTc (τ := τ) (main (F := Ideal))) ⟨m, fun _ => 0, ρ⟩ fun r => ∀ c : Dev nD,
      r.2.mem ((c : Thread nD τ).loc main_v48_0) = MlaRef.qn (m ((c : Thread nD τ).loc main_arg0)) (m ((c : Thread nD τ).loc main_arg1)) (m ((c : Thread nD τ).loc main_arg2))
      ∧ r.2.mem ((c : Thread nD τ).loc main_v50) = MlaRef.ckvP (m ((c : Thread nD τ).loc main_arg0)) (m ((c : Thread nD τ).loc main_arg1)) (m ((c : Thread nD τ).loc main_arg2))
      ∧ r.2.mem ((c : Thread nD τ).loc main_v52) = MlaRef.krP (m ((c : Thread nD τ).loc main_arg0)) (m ((c : Thread nD τ).loc main_arg1)) (m ((c : Thread nD τ).loc main_arg2))
      ∧ r.2.mem ((c : Thread nD τ).loc main_v54) = MlaRef.ckvS (m ((c : Thread nD τ).loc main_arg0)) (m ((c : Thread nD τ).loc main_arg1)) (m ((c : Thread nD τ).loc main_arg2))
      ∧ r.2.mem ((c : Thread nD τ).loc main_v56) = MlaRef.krS (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run (defs (F := Ideal)) _ _).mono (fun r h c =>
    ⟨((h.1 c).1 7).trans (finalQ m c),
     ((h.1 c).2 main_v50 (Pipeline.mem_restRefs_of main_v50 (by decide) (by decide))).trans (tail_ckvP m c),
     ((h.1 c).2 main_v52 (Pipeline.mem_restRefs_of main_v52 (by decide) (by decide))).trans (tail_krP m c),
     ((h.1 c).2 main_v54 (Pipeline.mem_restRefs_of main_v54 (by decide) (by decide))).trans (tail_ckvS m c),
     ((h.1 c).2 main_v56 (Pipeline.mem_restRefs_of main_v56 (by decide) (by decide))).trans (tail_krS m c),
     (h.2 c)⟩)
    (θ_run_and (run_main m ρ) (unchanged m ρ))

end Cert.Mla

end
-- ==== Proof.QProjRef.lean ====
/- The queries' projection: the reference's result as a function of its arguments, and at an entry. -/
module

public import proofs.«01_k».proof.Proof.Gen.Reference7Ideal.Run
public import Idealize.ShloMosaic.Lib.Pointwise

@[expose] public section

set_option maxRecDepth 16384

noncomputable section

namespace Cert.QProjRef

open Idealize.ShloMosaic Idealize.ShloMosaic.TcCoe
open Cert.Reference7Ideal Cert.Reference7Ideal.Gen

/-- The projected queries, head by head. -/
def q (x : FVec Ideal S9216x1024 .bf16) (w : FVec Ideal S1x1024x16x192 .f32) : FVec Ideal S9216x16x192 .f32 :=
  Host.dotGeneral dot_S9216x1024_S1024x16x192_S9216x16x192_1_0_0_12_n_n none (extf .f32 x bitsLt_bf16_f32) (shapeCast _ w shapeCasts_S1x1024x16x192_S1024x16x192)

theorem q_at (x : FVec Ideal S9216x1024 .bf16) (w : FVec Ideal S1x1024x16x192 .f32) (r : Fin 9216) (h : Fin 16) (d : Fin 192) :
    q x w (ix3 r h d) = ∑ k : Fin 1024, x (ix2 r k) * w (ix4 0 k h d) := by
  pointwise [q]

end Cert.QProjRef

end
-- ==== Proof.QProj.lean ====
/- The queries' projection: the kernel's array is the projected queries with their columns in the version's own order, every
   head's unrotated part before every head's rotated part, and the operations after it put the columns back. -/
module

public import proofs.«01_k».proof.Proof.Gen.Kernel7Ideal.Frame
public import proofs.«01_k».proof.Proof.QProjRef
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.QProj

open Idealize.ShloMosaic Idealize.ShloMosaic.TcCoe Idealize.SL Idealize.SL.Sem
open Cert.Kernel7Ideal Cert.Kernel7Ideal.Gen

variable (m : (ℓ : Loc nD τ sig) → Buf (Elt Ideal) ℓ) (c : Dev nD)

/-- Where each window's block lies. -/
theorem idx : ∀ t : Fin cfg0.N,
    (win0_0.index t (0 : Fin 2) = t.val / 6 ∧ win0_0.index t (1 : Fin 2) = 0) ∧
    (win0_1.index t (0 : Fin 2) = 0 ∧ win0_1.index t (1 : Fin 2) = t.val % 6) ∧
    (win0_2.index t (0 : Fin 2) = t.val / 6 ∧ win0_2.index t (1 : Fin 2) = t.val % 6) :=
  (by decide +kernel : ∀ t : Fin grid0.N, _)

/-- The weight, its columns in the kernel's order. -/
@[irreducible] def cols (w : FVec Ideal S1x1024x16x192 .f32) : FVec Ideal S1024x3072 .bf16 :=
  let v : FVec Ideal S1024x16x192 .f32 := shapeCast S1024x16x192 w shapeCasts_S1x1024x16x192_S1024x16x192
  truncf .bf16 (concatenate S1024x3072 1
    [⟨S1024x2048, (shapeCast S1024x2048 (extractStridedSlice S1024x16x128 ![0, 0, 0] v slices_S1024x16x192_S1024x16x128_0_0_0 : FVec Ideal S1024x16x128 .f32) shapeCasts_S1024x16x128_S1024x2048 : FVec Ideal S1024x2048 .f32)⟩,
     ⟨S1024x1024, (shapeCast S1024x1024 (extractStridedSlice S1024x16x64 ![0, 0, 128] v slices_S1024x16x192_S1024x16x64_0_0_128 : FVec Ideal S1024x16x64 .f32) shapeCasts_S1024x16x64_S1024x1024 : FVec Ideal S1024x1024 .f32)⟩]
    concatenates_S1024x2048_S1024x1024_S1024x3072_d1 : FVec Ideal S1024x3072 .f32) bitsLt_bf16_f32

/-- A column of a head's unrotated part. -/
theorem cols_lo (w : FVec Ideal S1x1024x16x192 .f32) (k : Fin 1024) (h : Fin 16) (d : Fin 128) :
    cols w (ix2 k ⟨h.val * 128 + d.val, by omega⟩) = w (ix4 0 k h ⟨d.val, by omega⟩) := by
  unfold cols
  have hh := h.isLt
  have hd := d.isLt
  pointwise
  rw [dif_pos (by omega)]
/-- A column of a head's rotated part. -/
theorem cols_hi (w : FVec Ideal S1x1024x16x192 .f32) (k : Fin 1024) (h : Fin 16) (d : Fin 64) :
    cols w (ix2 k ⟨2048 + (h.val * 64 + d.val), by omega⟩) = w (ix4 0 k h ⟨128 + d.val, by omega⟩) := by
  unfold cols
  have hh := h.isLt
  have hd := d.isLt
  pointwise

/-- The weight as the product reads it. -/
theorem V6 : V m c main_v6 = cols (m ((c : Thread nD τ).loc main_arg1)) := by
  unfold V cols; rfl

/-- The product. -/
def prod (x : FVec Ideal S9216x1024 .bf16) (w : FVec Ideal S1024x3072 .bf16) : FVec Ideal S9216x3072 .f32 :=
  fun i => ∑ k : Fin 1024, x (ix2 (i 0) k) * w (ix2 k (i 1))

/-- What the body stores at an entry of its block is the product's entry there. -/
theorem point (t : Fin cfg0.N) (y) : k0_pay1 (F := Ideal) (iblk m c 0 t) (iblk m c 1 t) y
    = prod (m ((c : Thread nD τ).loc main_arg0)) (cols (m ((c : Thread nD τ).loc main_arg1))) (((cfg0.win 2).blk t).view.emb y) := by
  have hP := V6 m c
  generalize cols (m ((c : Thread nD τ).loc main_arg1)) = P at hP ⊢
  pointwise [k0_pay1, prod]
  blk_point [iblk, V_main_arg0 m c, hP, idx t]

/-- The kernel's array after the region. -/
theorem final : (dats m 0 c).arrAt 2 cfg0.N
    = prod (m ((c : Thread nD τ).loc main_arg0)) (cols (m ((c : Thread nD τ).loc main_arg1))) := by
  refine (dats m 0 c).arrAt_eq_of_covers 2 _ (by decide +kernel) fun t _ y => ?_
  blk_simp
  rw [after0_2]; frame_out
  exact point m c t y

/-! ## The operations after the kernel -/

/-- The columns put back, head by head. -/
def back (A : FVec Ideal S9216x3072 .f32) : FVec Ideal S9216x16x192 .f32 :=
  concatenate S9216x16x192 2
    [⟨S9216x16x128, (shapeCast S9216x16x128 (extractStridedSlice S9216x2048 ![0, 0] A slices_S9216x3072_S9216x2048_0_0 : FVec Ideal S9216x2048 .f32) shapeCasts_S9216x2048_S9216x16x128 : FVec Ideal S9216x16x128 .f32)⟩,
     ⟨S9216x16x64, (shapeCast S9216x16x64 (extractStridedSlice S9216x1024 ![0, 2048] A slices_S9216x3072_S9216x1024_0_2048 : FVec Ideal S9216x1024 .f32) shapeCasts_S9216x1024_S9216x16x64 : FVec Ideal S9216x16x64 .f32)⟩]
    concatenates_S9216x16x128_S9216x16x64_S9216x16x192_d2

theorem back_at (A : FVec Ideal S9216x3072 .f32) (r : Fin 9216) (h : Fin 16) (d : Fin 192) :
    back A (ix3 r h d) = if hd : d.val < 128 then A (ix2 r ⟨h.val * 128 + d.val, by omega⟩) else A (ix2 r ⟨2048 + (h.val * 64 + (d.val - 128)), by omega⟩) := by
  pointwise [back]

variable (x : FVec Ideal S9216x1024 .bf16) (w : FVec Ideal S1x1024x16x192 .f32)

theorem back_prod : back (prod x (cols w)) = QProjRef.q x w := by
  funext i
  obtain ⟨r, h, d, rfl⟩ : ∃ (r : Fin 9216) (h : Fin 16) (d : Fin 192), i = ix3 r h d := ⟨i 0, i 1, i 2, ValueIdx.eq_ix3 i⟩
  rw [back_at, QProjRef.q_at]
  by_cases hd : d.val < 128
  · rw [dif_pos hd]
    exact Finset.sum_congr rfl fun k _ => congrArg (x (ix2 r k) * ·) (cols_lo w k h ⟨d.val, hd⟩)
  · rw [dif_neg hd]
    refine Finset.sum_congr rfl fun k _ => congrArg (x (ix2 r k) * ·) ((cols_hi w k h ⟨d.val - 128, by omega⟩).trans ?_)
    exact congrArg w ((ix4_inj ..).2 ⟨rfl, rfl, rfl, Fin.ext (by simp only; omega)⟩)

theorem after_q (W : Valuation τ sig (Elt Ideal)) : StableHlo.after hostOps1 W (Proc.devRef .tc main_v12) = back (W (Proc.devRef .tc main_v7)) := by unfold back; rfl

/-- What the operations after the kernel leave in the result. -/
theorem tail : Pipeline.afterTail₀ cfgs (dats m) 0 (V0 m) [hostOps1] c main_v12 = QProjRef.q (m ((c : Thread nD τ).loc main_arg0)) (m ((c : Thread nD τ).loc main_arg1)) := by
  unfold Pipeline.afterTail₀
  rw [List.flatten_singleton]
  refine (after_q _).trans ((congrArg back ?_).trans (back_prod _ _))
  exact (Pipeline.withArrays_arr spec0 winFacts0.arr_inj c (V0 m c) _ 2).trans (final m c)

/-- The run. -/
theorem run (ρ : Dev nD → PrngReg) :
    θ_run (defs (F := Ideal)) (onTc (τ := τ) (main (F := Ideal))) ⟨m, fun _ => 0, ρ⟩ fun r => ∀ c : Dev nD,
      r.2.mem ((c : Thread nD τ).loc main_v12) = QProjRef.q (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run (defs (F := Ideal)) _ _).mono (fun r h c =>
    ⟨((h c).2 main_v12 (Pipeline.mem_restRefs_of main_v12 (by decide) (by decide))).trans (tail m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c)⟩)
    (run_main m ρ)

end Cert.QProj

end
-- ==== Proof.AbsorbRef.lean ====
/- The queries' absorption and rotation: the reference's results as functions of its arguments, and read entry by entry. -/
module

public import proofs.«01_k».proof.Proof.Gen.Reference8Ideal.Run
public import proofs.«01_k».proof.Proof.MlaRef
public import Idealize.ShloMosaic.Lib.Pointwise

@[expose] public section

set_option maxRecDepth 16384

noncomputable section

namespace Cert.AbsorbRef

open Idealize.ShloMosaic Idealize.ShloMosaic.TcCoe
open Cert.Reference8Ideal Cert.Reference8Ideal.Gen
open MlaRef (rRope pos freq)

/-- The attention's scale, as the programs hold it. -/
abbrev scale : EReal := Ideal.ofBits FTy.f32 0x3D93CD3A#32

/-! ## An entry of the results -/

/-- An absorbed query's entry: the unrotated part against the head's key matrix, scaled. -/
def absorbed (x : FVec Ideal S9216x16x192 .f32) (w : FVec Ideal S1x512x16x128 .f32) (r : Fin 9216) (h : Fin 16) (e : Fin 512) : EReal :=
  (∑ k : Fin 128, x (ix3 r h ⟨k.val, by omega⟩) * w (ix4 0 e h k)) * scale
/-- A rotated query's entry, scaled. -/
def rotated (x : FVec Ideal S9216x16x192 .f32) (r : Fin 9216) (h : Fin 16) (j : Fin 64) : EReal :=
  rRope (fun j => x (ix3 r h ⟨128 + j.val, by omega⟩)) (fun i => pos r.val * freq (ix1 i)) j * scale

/-! ## The reference's steps -/

/-- The prompt's queries. -/
def prompt (x : FVec Ideal S9216x16x192 .f32) : FVec Ideal S4x2048x16x192 .f32 :=
  shapeCast _ (extractStridedSlice S8192x16x192 ![0, 0, 0] x slices_S9216x16x192_S8192x16x192_0_0_0) shapeCasts_S8192x16x192_S4x2048x16x192
/-- The angles of the prompt's positions. -/
def ang (f : FVec Ideal S32 .f32) : FVec Ideal S2048x32 .f32 :=
  mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 f))
/-- The absorption. -/
def lat (q : FVec Ideal S4x2048x16x192 .f32) (w : FVec Ideal S1x512x16x128 .f32) : FVec Ideal S4x2048x16x512 .bf16 :=
  truncf .bf16 (mulf (transpose S4x2048x16x512 [2, 3, 0, 1] (Host.dotGeneral dot_S512x16x128_S4x2048x16x128_S16x512x4x2048_2_3_0_01_1_2 none (shapeCast _ w shapeCasts_S1x512x16x128_S512x16x128) (extractStridedSlice S4x2048x16x128 ![0, 0, 0, 0] q slices_S4x2048x16x192_S4x2048x16x128_0_0_0_0)) transposes_S16x512x4x2048_S4x2048x16x512_2_3_0_1) (broadcastInDim S4x2048x16x512 ![] bcast_S_S4x2048x16x512 (constant S_ .f32 0x3D93CD3A#32))) bitsLt_bf16_f32
/-- The rotation. -/
def rope (q : FVec Ideal S4x2048x16x192 .f32) (a : FVec Ideal S2048x32 .f32) : FVec Ideal S4x2048x16x64 .bf16 :=
  truncf .bf16 (mulf (concatenate S4x2048x16x64 3 [⟨S4x2048x16x32, (subf (mulf (extractStridedSlice S4x2048x16x32 ![0, 0, 0, 0] (extractStridedSlice S4x2048x16x64 ![0, 0, 0, 128] q slices_S4x2048x16x192_S4x2048x16x64_0_0_0_128) slices_S4x2048x16x64_S4x2048x16x32_0_0_0_0) (broadcastInDim S4x2048x16x32 ![0, 1, 2, 3] bcast_S1x2048x1x32_S4x2048x16x32_0_1_2_3 (broadcastInDim S1x2048x1x32 ![1, 2, 3] bcast_S2048x1x32_S1x2048x1x32_1_2_3 (broadcastInDim S2048x1x32 ![0, 2] bcast_S2048x32_S2048x1x32_0_2 (Host.cos a))))) (mulf (extractStridedSlice S4x2048x16x32 ![0, 0, 0, 32] (extractStridedSlice S4x2048x16x64 ![0, 0, 0, 128] q slices_S4x2048x16x192_S4x2048x16x64_0_0_0_128) slices_S4x2048x16x64_S4x2048x16x32_0_0_0_32) (broadcastInDim S4x2048x16x32 ![0, 1, 2, 3] bcast_S1x2048x1x32_S4x2048x16x32_0_1_2_3 (broadcastInDim S1x2048x1x32 ![1, 2, 3] bcast_S2048x1x32_S1x2048x1x32_1_2_3 (broadcastInDim S2048x1x32 ![0, 2] bcast_S2048x32_S2048x1x32_0_2 (Host.sin a))))))⟩, ⟨S4x2048x16x32, (addf (mulf (extractStridedSlice S4x2048x16x32 ![0, 0, 0, 32] (extractStridedSlice S4x2048x16x64 ![0, 0, 0, 128] q slices_S4x2048x16x192_S4x2048x16x64_0_0_0_128) slices_S4x2048x16x64_S4x2048x16x32_0_0_0_32) (broadcastInDim S4x2048x16x32 ![0, 1, 2, 3] bcast_S1x2048x1x32_S4x2048x16x32_0_1_2_3 (broadcastInDim S1x2048x1x32 ![1, 2, 3] bcast_S2048x1x32_S1x2048x1x32_1_2_3 (broadcastInDim S2048x1x32 ![0, 2] bcast_S2048x32_S2048x1x32_0_2 (Host.cos a))))) (mulf (extractStridedSlice S4x2048x16x32 ![0, 0, 0, 0] (extractStridedSlice S4x2048x16x64 ![0, 0, 0, 128] q slices_S4x2048x16x192_S4x2048x16x64_0_0_0_128) slices_S4x2048x16x64_S4x2048x16x32_0_0_0_0) (broadcastInDim S4x2048x16x32 ![0, 1, 2, 3] bcast_S1x2048x1x32_S4x2048x16x32_0_1_2_3 (broadcastInDim S1x2048x1x32 ![1, 2, 3] bcast_S2048x1x32_S1x2048x1x32_1_2_3 (broadcastInDim S2048x1x32 ![0, 2] bcast_S2048x32_S2048x1x32_0_2 (Host.sin a))))))⟩] concatenates_S4x2048x16x32_S4x2048x16x32_S4x2048x16x64_d3) (broadcastInDim S4x2048x16x64 ![] bcast_S_S4x2048x16x64 (constant S_ .f32 0x3D93CD3A#32))) bitsLt_bf16_f32

theorem prompt_at (x : FVec Ideal S9216x16x192 .f32) (b : Fin 4) (s : Fin 2048) (h : Fin 16) (d : Fin 192) : prompt x (ix4 b s h d) = x (ix3 ⟨b.val * 2048 + s.val, by omega⟩ h d) := by
  pointwise [prompt]
theorem ang_at (f : FVec Ideal S32 .f32) (s : Fin 2048) (i : Fin 32) : ang f (ix2 s i) = FloatOps.sitofp (F := Ideal) FTy.f32 (BitVec.ofNat 32 s.val) * f (ix1 i) := by
  pointwise [ang]
theorem lat_at (q : FVec Ideal S4x2048x16x192 .f32) (w : FVec Ideal S1x512x16x128 .f32) (b : Fin 4) (s : Fin 2048) (h : Fin 16) (e : Fin 512) :
    lat q w (ix4 b s h e) = (∑ k : Fin 128, w (ix4 0 e h k) * q (ix4 b s h ⟨k.val, by omega⟩)) * scale := by
  pointwise [lat]
theorem rope_at (q : FVec Ideal S4x2048x16x192 .f32) (a : FVec Ideal S2048x32 .f32) (b : Fin 4) (s : Fin 2048) (h : Fin 16) (j : Fin 64) :
    rope q a (ix4 b s h j) = rRope (fun j => q (ix4 b s h ⟨128 + j.val, by omega⟩)) (fun i => a (ix2 s i)) j * scale := by
  pointwise [rope, rRope]

/-! ## The results -/

/-- The prompt's absorbed queries. -/
def ql (x : FVec Ideal S9216x16x192 .f32) (w : FVec Ideal S1x512x16x128 .f32) : FVec Ideal S4x2048x16x512 .bf16 :=
  fun i => absorbed x w ⟨(i 0).val * 2048 + (i 1).val, by have h0 : (i 0).val < 4 := (i 0).isLt; have h1 : (i 1).val < 2048 := (i 1).isLt; omega⟩ (i 2) (i 3)
/-- The prompt's rotated queries. -/
def qp (x : FVec Ideal S9216x16x192 .f32) (w : FVec Ideal S1x512x16x128 .f32) : FVec Ideal S4x2048x16x64 .bf16 :=
  fun i => rotated x ⟨(i 0).val * 2048 + (i 1).val, by have h0 : (i 0).val < 4 := (i 0).isLt; have h1 : (i 1).val < 2048 := (i 1).isLt; omega⟩ (i 2) (i 3)

section
variable (x : FVec Ideal S9216x16x192 .f32) (w : FVec Ideal S1x512x16x128 .f32)

theorem lat_row (b : Fin 4) (s : Fin 2048) (h : Fin 16) (e : Fin 512) : lat (prompt x) w (ix4 b s h e) = absorbed x w ⟨b.val * 2048 + s.val, by omega⟩ h e := by
  refine (lat_at (prompt x) w b s h e).trans ?_
  unfold absorbed
  refine congrArg (· * scale) (Finset.sum_congr rfl fun k _ => ?_)
  rw [prompt_at]
  exact mul_comm _ _
theorem lat_eq : lat (prompt x) w = ql x w := by
  funext i
  rw [ValueIdx.eq_ix4 i]
  exact lat_row x w (i 0) (i 1) (i 2) (i 3)
theorem rope_row (b : Fin 4) (s : Fin 2048) (h : Fin 16) (j : Fin 64) : rope (prompt x) (ang freq) (ix4 b s h j) = rotated x ⟨b.val * 2048 + s.val, by omega⟩ h j := by
  have hp : pos (b.val * 2048 + s.val) = FloatOps.sitofp (F := Ideal) FTy.f32 (BitVec.ofNat 32 s.val) := by
    unfold pos
    rw [if_pos (by omega), show (b.val * 2048 + s.val) % 2048 = s.val by omega]
  refine (rope_at (prompt x) (ang freq) b s h j).trans ?_
  simp only [prompt_at, ang_at, rotated, hp]
theorem rope_eq : rope (prompt x) (ang freq) = qp x w := by
  funext i
  rw [ValueIdx.eq_ix4 i]
  exact rope_row x (i 0) (i 1) (i 2) (i 3)
end

/-! ## The reference's run -/

section
variable (m : (ℓ : Loc nD τ sig) → Buf (Elt Ideal) ℓ) (c : Dev nD)
theorem res_qp : Value.res_main_v46 (F := Ideal) m c = qp (m ((c : Thread nD τ).loc main_arg0)) (m ((c : Thread nD τ).loc main_arg1)) := by
  rw [← rope_eq]; unfold Value.res_main_v46 rope prompt ang freq; rfl
end

end Cert.AbsorbRef

end
-- ==== Proof.Absorb.lean ====
/- The queries' absorption and rotation: the kernel's arrays are, head by head, the absorbed queries and the rotated queries of
   each row of the prompt, both scaled; the operations after it put the heads behind the rows. -/
module

public import proofs.«01_k».proof.Proof.Gen.Kernel8Ideal.Frame
public import proofs.«01_k».proof.Proof.AbsorbRef
public import Idealize.ShloMosaic.Lib.Pipeline.ValueKit
public import Idealize.ShloMosaic.Lib.Pointwise
public import Idealize.ShloMosaic.Lib.Claim

@[expose] public section

set_option maxRecDepth 16384

noncomputable section

namespace Cert.Absorb

open Idealize.ShloMosaic Idealize.ShloMosaic.TcCoe Idealize.SL Idealize.SL.Sem
open Cert.Kernel8Ideal Cert.Kernel8Ideal.Gen
open MlaRef (rRope pos freq)
open AbsorbRef (scale absorbed rotated)

variable (m : (ℓ : Loc nD τ sig) → Buf (Elt Ideal) ℓ) (c : Dev nD)

/-! ## The body's values -/

theorem pay4_at (x : Vec Ideal S256x128 .f32) (w : Vec Ideal S1x128x512 .bf16) (r : Fin 256) (e : Fin 512) :
    k0_pay4 (F := Ideal) x w (ix3 0 r e) = (∑ k : Fin 128, x (ix2 r k) * w (ix3 0 k e)) * scale := by
  pointwise [k0_pay4]
theorem pay5_at (x : Vec Ideal S256x128 .f32) (w : Vec Ideal S1x128x512 .bf16) (r : Fin 256) (e : Fin 512) :
    k0_pay5 (F := Ideal) x w (ix3 0 r e) = (∑ k : Fin 128, x (ix2 r k) * w (ix3 0 k e)) * scale := by
  pointwise [k0_pay5]

/-- The lanes that take the later half: a lane's place within its 64, as the body computes it, is below 32. -/
theorem lane : ∀ j : Fin 128, (IntOp.cmpi CmpIPredicate.slt
            (Scalar.select
              (IntOp.andi
                (IntOp.xori
                  (IntOp.cmpi CmpIPredicate.slt
                    (IntOp.remsi ArithUnit.vector (BitVec.ofNat 32 j.val)
                      (Scalar.select (Scalar.cmpi CmpIPredicate.eq 64#32 0#32) 1#32 64#32))
                    0#32)
                  (Scalar.cmpi CmpIPredicate.slt (Scalar.select (Scalar.cmpi CmpIPredicate.eq 64#32 0#32) 1#32 64#32)
                    0#32))
                (IntOp.cmpi CmpIPredicate.ne
                  (IntOp.remsi ArithUnit.vector (BitVec.ofNat 32 j.val)
                    (Scalar.select (Scalar.cmpi CmpIPredicate.eq 64#32 0#32) 1#32 64#32))
                  0#32))
              (IntOp.addi
                (IntOp.remsi ArithUnit.vector (BitVec.ofNat 32 j.val)
                  (Scalar.select (Scalar.cmpi CmpIPredicate.eq 64#32 0#32) 1#32 64#32))
                (Scalar.select (Scalar.cmpi CmpIPredicate.eq 64#32 0#32) 1#32 64#32))
              (IntOp.remsi ArithUnit.vector (BitVec.ofNat 32 j.val)
                (Scalar.select (Scalar.cmpi CmpIPredicate.eq 64#32 0#32) 1#32 64#32)))
            32#32) = if j.val % 64 < 32 then 1#1 else 0#1 := by decide +kernel

/-- The rotation of a block, at lane `a * 64 + j`: the rotation of the head's row. -/
theorem pay1_at (x co si : Vec Ideal S256x128 .f32) (r : Fin 256) (a : Fin 2) (j : Fin 64) (th : Fin 32 → EReal)
    (hco : co (ix2 r ⟨a.val * 64 + j.val, by omega⟩) = if h : j.val < 32 then Ideal.cos (th ⟨j.val, h⟩) else Ideal.cos (th ⟨j.val - 32, by omega⟩))
    (hsi : si (ix2 r ⟨a.val * 64 + j.val, by omega⟩) = if h : j.val < 32 then -Ideal.sin (th ⟨j.val, h⟩) else Ideal.sin (th ⟨j.val - 32, by omega⟩)) :
    k0_pay1 (F := Ideal) (k0_pay6 x) (k0_pay7 x co) (iota .tc S256x128 32 [1] iota_S256x128_d1_w32) (k0_pay8 x) si (ix2 r ⟨a.val * 64 + j.val, by omega⟩)
      = rRope (fun j => x (ix2 r ⟨a.val * 64 + j.val, by omega⟩)) th j * scale := by
  pointwise [k0_pay1, k0_pay6, k0_pay7, k0_pay8]
  have hl := lane ⟨a.val * 64 + j.val, by omega⟩
  have hm : (a.val * 64 + j.val) % 64 = j.val := by omega
  simp only [hm] at hl
  rw [hl, hco, hsi]
  refine congrArg (· * scale) ?_
  unfold rRope
  by_cases h : j.val < 32
  · have e : (a.val * 64 + j.val + 128 - 96) % 128 = a.val * 64 + (32 + j.val) := by omega
    simp only [h, e, if_true, dif_pos]
    rw [show (Scalar.select (1#1) (x (ix2 r ⟨a.val * 64 + (32 + j.val), by omega⟩)) (x (ix2 r ⟨(a.val * 64 + j.val + 128 - 32) % 128, by omega⟩)) : EReal) = x (ix2 r ⟨a.val * 64 + (32 + j.val), by omega⟩) from rfl, mul_neg]
    rfl
  · have e : (a.val * 64 + j.val + 128 - 32) % 128 = a.val * 64 + (j.val - 32) := by omega
    have e' : 32 + (j.val - 32) = j.val := by omega
    simp only [h, e, e', if_false, dif_neg, not_false_eq_true]
    rfl

theorem pay2_at (x co si : Vec Ideal S256x128 .f32) (r : Fin 256) (j : Fin 64) :
    k0_pay2 (F := Ideal) (k0_pay6 x) (k0_pay7 x co) (iota .tc S256x128 32 [1] iota_S256x128_d1_w32) (k0_pay8 x) si (ix3 0 r j)
      = k0_pay1 (F := Ideal) (k0_pay6 x) (k0_pay7 x co) (iota .tc S256x128 32 [1] iota_S256x128_d1_w32) (k0_pay8 x) si (ix2 r ⟨0 * 64 + j.val, by omega⟩) := by
  unfold k0_pay2
  generalize k0_pay1 (F := Ideal) (k0_pay6 x) (k0_pay7 x co) (iota .tc S256x128 32 [1] iota_S256x128_d1_w32) (k0_pay8 x) si = P
  pointwise
theorem pay3_at (x co si : Vec Ideal S256x128 .f32) (r : Fin 256) (j : Fin 64) :
    k0_pay3 (F := Ideal) (k0_pay6 x) (k0_pay7 x co) (iota .tc S256x128 32 [1] iota_S256x128_d1_w32) (k0_pay8 x) si (ix3 0 r j)
      = k0_pay1 (F := Ideal) (k0_pay6 x) (k0_pay7 x co) (iota .tc S256x128 32 [1] iota_S256x128_d1_w32) (k0_pay8 x) si (ix2 r ⟨1 * 64 + j.val, by omega⟩) := by
  unfold k0_pay3
  generalize k0_pay1 (F := Ideal) (k0_pay6 x) (k0_pay7 x co) (iota .tc S256x128 32 [1] iota_S256x128_d1_w32) (k0_pay8 x) si = P
  pointwise

theorem whole (x : Vec Ideal S256x128 .f32) : View.ld x r0_6 = x := by
  funext y
  show x (r0_6.emb y) = x y
  refine congrArg x ?_
  blk_ext

section
variable (x0 : Vec Ideal S256x256 .f32) (x1 : Vec Ideal S256x128 .f32) (x2 : Vec Ideal S2x128x512 .bf16) (x3 x4 : Vec Ideal S256x128 .f32)

/-- What the body leaves among the absorbed queries. -/
theorem out5_at (y : S2x256x512.Idx) (a : Fin 2) (r : Fin 256) (e : Fin 512) (ha : (y 0 : ℕ) = a.val) (hr : (y 1 : ℕ) = r.val) (he : (y 2 : ℕ) = e.val) :
    out0_5 (F := Ideal) x0 x1 x2 x3 x4 y = (∑ k : Fin 128, x0 (ix2 r ⟨a.val * 128 + k.val, by omega⟩) * x2 (ix3 a k e)) * scale := by
  unfold out0_5
  canon_tiles x hx using cover0_5 ..
  · have h0 : (x 0 : ℕ) < 1 := (x 0).isLt
    have hX : x = ix3 (0 : Fin 1) r e := (ValueIdx.eq_ix3 x).trans ((ix3_inj ..).2 ⟨Fin.ext (by simp), Fin.ext (by simp; omega), Fin.ext (by simp; omega)⟩)
    have hA : a.val = 1 := by omega
    rw [hX]
    refine (pay5_at _ _ r e).trans (congrArg (· * scale) (Finset.sum_congr rfl fun k _ => Ideal.mul_congr ?_ ?_))
    · show x0 (r0_3.emb (ix2 r k)) = _
      refine congrArg x0 ?_
      blk_ext
    · show x2 (r0_4.emb (ix3 0 k e)) = _
      refine congrArg x2 ?_
      blk_ext
  · have h0 : (x 0 : ℕ) < 1 := (x 0).isLt
    have hX : x = ix3 (0 : Fin 1) r e := (ValueIdx.eq_ix3 x).trans ((ix3_inj ..).2 ⟨Fin.ext (by simp), Fin.ext (by simp; omega), Fin.ext (by simp; omega)⟩)
    have hA : a.val = 0 := by omega
    rw [hX]
    refine (pay4_at _ _ r e).trans (congrArg (· * scale) (Finset.sum_congr rfl fun k _ => Ideal.mul_congr ?_ ?_))
    · show x0 (r0_0.emb (ix2 r k)) = _
      refine congrArg x0 ?_
      blk_ext
    · show x2 (r0_1.emb (ix3 0 k e)) = _
      refine congrArg x2 ?_
      blk_ext

/-- What the body leaves among the rotated queries. -/
theorem out6_at (y : S2x256x64.Idx) (a : Fin 2) (r : Fin 256) (j : Fin 64) (ha : (y 0 : ℕ) = a.val) (hr : (y 1 : ℕ) = r.val) (hj : (y 2 : ℕ) = j.val) (th : Fin 32 → EReal)
    (hco : x3 (ix2 r ⟨a.val * 64 + j.val, by omega⟩) = if h : j.val < 32 then Ideal.cos (th ⟨j.val, h⟩) else Ideal.cos (th ⟨j.val - 32, by omega⟩))
    (hsi : x4 (ix2 r ⟨a.val * 64 + j.val, by omega⟩) = if h : j.val < 32 then -Ideal.sin (th ⟨j.val, h⟩) else Ideal.sin (th ⟨j.val - 32, by omega⟩)) :
    out0_6 (F := Ideal) x0 x1 x2 x3 x4 y = rRope (fun j => x1 (ix2 r ⟨a.val * 64 + j.val, by omega⟩)) th j * scale := by
  refine Eq.trans ?_ (pay1_at x1 x3 x4 r a j th hco hsi)
  unfold out0_6 k0_pay9 k0_pay10 k0_pay11 k0_pay12
  simp only [whole]
  canon_tiles x hx using cover0_6 ..
  · have h0 : (x 0 : ℕ) < 1 := (x 0).isLt
    have hX : x = ix3 (0 : Fin 1) r j := (ValueIdx.eq_ix3 x).trans ((ix3_inj ..).2 ⟨Fin.ext (by simp), Fin.ext (by simp; omega), Fin.ext (by simp; omega)⟩)
    have hA : a = 1 := Fin.ext (by simp; omega)
    subst hA
    rw [hX]
    exact pay3_at x1 x3 x4 r j
  · have h0 : (x 0 : ℕ) < 1 := (x 0).isLt
    have hX : x = ix3 (0 : Fin 1) r j := (ValueIdx.eq_ix3 x).trans ((ix3_inj ..).2 ⟨Fin.ext (by simp), Fin.ext (by simp; omega), Fin.ext (by simp; omega)⟩)
    have hA : a = 0 := Fin.ext (by simp; omega)
    subst hA
    rw [hX]
    exact pay2_at x1 x3 x4 r j
end

/-! ## The host's tables -/

/-- The rows' positions. -/
def posT : IVec S9216 32 := concatenate S9216 0 [⟨S8192, shapeCast S8192 (broadcastInDim S4x2048 ![0, 1] bcast_S1x2048_S4x2048_0_1 (shapeCast S1x2048 (iotaInDim S2048 32 0) shapeCasts_S2048_S1x2048)) shapeCasts_S4x2048_S8192⟩,
  ⟨S1024, shapeCast S1024 (broadcastInDim S128x8 ![0, 1] bcast_S1x8_S128x8_0_1 (shapeCast S1x8 (addi (broadcastInDim S8 ![] bcast_S_S8 (constantI S_ 32 16384#32)) (iotaInDim S8 32 0)) shapeCasts_S8_S1x8)) shapeCasts_S128x8_S1024⟩] concatenates_S8192_S1024_S9216_d0
/-- The rows' angles. -/
def angT (q : IVec S9216 32) (f : FVec Ideal S32 .f32) : FVec Ideal S9216x32 .f32 :=
  mulf (broadcastInDim S9216x32 ![0, 1] bcast_S9216x1_S9216x32_0_1 (broadcastInDim S9216x1 ![0] bcast_S9216_S9216x1_0 (sitofp .f32 q))) (broadcastInDim S9216x32 ![0, 1] bcast_S1x32_S9216x32_0_1 (broadcastInDim S1x32 ![1] bcast_S32_S1x32_1 f))
/-- A table of two copies side by side, twice. -/
def table (a b : FVec Ideal S9216x32 .f32) : FVec Ideal S9216x128 .f32 :=
  shapeCast S9216x128 (broadcastInDim S1x9216x2x64 ![0, 1, 2, 3] bcast_S1x9216x1x64_S1x9216x2x64_0_1_2_3 (shapeCast S1x9216x1x64 (concatenate S9216x64 1 [⟨S9216x32, a⟩, ⟨S9216x32, b⟩] concatenates_S9216x32_S9216x32_S9216x64_d1) shapeCasts_S9216x64_S1x9216x1x64)) shapeCasts_S1x9216x2x64_S9216x128

theorem posP_at (a : IVec S2048 32) (k : Fin 8192) : (shapeCast S8192 (broadcastInDim S4x2048 ![0, 1] bcast_S1x2048_S4x2048_0_1 (shapeCast S1x2048 a shapeCasts_S2048_S1x2048)) shapeCasts_S4x2048_S8192 : IVec S8192 32) (ix1 k) = a (ix1 ⟨k.val % 2048, by omega⟩) := by
  pointwise
theorem posS_at (a : IVec S8 32) (k : Fin 1024) : (shapeCast S1024 (broadcastInDim S128x8 ![0, 1] bcast_S1x8_S128x8_0_1 (shapeCast S1x8 a shapeCasts_S8_S1x8)) shapeCasts_S128x8_S1024 : IVec S1024 32) (ix1 k) = a (ix1 ⟨k.val % 8, by omega⟩) := by
  pointwise
theorem cat_at (a : IVec S8192 32) (b : IVec S1024 32) (r : Fin 9216) : (concatenate S9216 0 [⟨S8192, a⟩, ⟨S1024, b⟩] concatenates_S8192_S1024_S9216_d0 : IVec S9216 32) (ix1 r) =
    if h : r.val < 8192 then a (ix1 ⟨r.val, h⟩) else b (ix1 ⟨r.val - 8192, by omega⟩) := by
  pointwise
theorem posT_at (r : Fin 9216) : FloatOps.sitofp (F := Ideal) FTy.f32 (posT (ix1 r)) = pos r.val := by
  unfold posT pos
  rw [cat_at]
  by_cases h : r.val < 8192
  · rw [dif_pos h, if_pos h, posP_at]
    exact congrArg _ (by pointwise)
  · rw [dif_neg h, if_neg h, posS_at]
    exact congrArg _ (by pointwise)
theorem angT_at (q : IVec S9216 32) (f : FVec Ideal S32 .f32) (r : Fin 9216) (i : Fin 32) : angT q f (ix2 r i) = FloatOps.sitofp (F := Ideal) FTy.f32 (q (ix1 r)) * f (ix1 i) := by
  pointwise [angT]
theorem table_at (a b : FVec Ideal S9216x32 .f32) (r : Fin 9216) (u : Fin 2) (j : Fin 64) : table a b (ix2 r ⟨u.val * 64 + j.val, by omega⟩) =
    if h : j.val < 32 then a (ix2 r ⟨j.val, h⟩) else b (ix2 r ⟨j.val - 32, by omega⟩) := by
  pointwise [table]

theorem V28 : V m c main_v28 = table (Host.cos (angT posT freq)) (Host.cos (angT posT freq)) := by
  unfold V freq; rfl
theorem V33 : V m c main_v33 = table (Host.negf (Host.sin (angT posT freq))) (Host.sin (angT posT freq)) := by
  unfold V freq; rfl

theorem cos_at (r : Fin 9216) (u : Fin 2) (j : Fin 64) : V m c main_v28 (ix2 r ⟨u.val * 64 + j.val, by omega⟩)
    = if h : j.val < 32 then Ideal.cos (pos r.val * freq (ix1 ⟨j.val, h⟩)) else Ideal.cos (pos r.val * freq (ix1 ⟨j.val - 32, by omega⟩)) := by
  have ha : ∀ i : Fin 32, (Host.cos (angT posT freq) : FVec Ideal S9216x32 .f32) (ix2 r i) = Ideal.cos (pos r.val * freq (ix1 i)) := fun i =>
    congrArg Ideal.cos ((angT_at posT freq r i).trans (congrArg (· * freq (ix1 i)) (posT_at r)))
  rw [V28]
  refine (table_at _ _ r u j).trans ?_
  simp only [ha]
theorem sin_at (r : Fin 9216) (u : Fin 2) (j : Fin 64) : V m c main_v33 (ix2 r ⟨u.val * 64 + j.val, by omega⟩)
    = if h : j.val < 32 then -Ideal.sin (pos r.val * freq (ix1 ⟨j.val, h⟩)) else Ideal.sin (pos r.val * freq (ix1 ⟨j.val - 32, by omega⟩)) := by
  have ha : ∀ i : Fin 32, (Host.sin (angT posT freq) : FVec Ideal S9216x32 .f32) (ix2 r i) = Ideal.sin (pos r.val * freq (ix1 i)) := fun i =>
    congrArg Ideal.sin ((angT_at posT freq r i).trans (congrArg (· * freq (ix1 i)) (posT_at r)))
  have hn : ∀ i : Fin 32, (Host.negf (Host.sin (angT posT freq)) : FVec Ideal S9216x32 .f32) (ix2 r i) = -Ideal.sin (pos r.val * freq (ix1 i)) := fun i =>
    congrArg (-·) (ha i)
  rw [V33]
  refine (table_at _ _ r u j).trans ?_
  simp only [ha, hn]

/-- The queries, their columns in the kernel's order: every head's unrotated part before every head's rotated part. -/
@[irreducible] def cols (x : FVec Ideal S9216x16x192 .f32) : FVec Ideal S9216x3072 .f32 :=
  concatenate S9216x3072 1
    [⟨S9216x2048, (shapeCast S9216x2048 (extractStridedSlice S9216x16x128 ![0, 0, 0] x slices_S9216x16x192_S9216x16x128_0_0_0 : FVec Ideal S9216x16x128 .f32) shapeCasts_S9216x16x128_S9216x2048 : FVec Ideal S9216x2048 .f32)⟩,
     ⟨S9216x1024, (shapeCast S9216x1024 (extractStridedSlice S9216x16x64 ![0, 0, 128] x slices_S9216x16x192_S9216x16x64_0_0_128 : FVec Ideal S9216x16x64 .f32) shapeCasts_S9216x16x64_S9216x1024 : FVec Ideal S9216x1024 .f32)⟩]
    concatenates_S9216x2048_S9216x1024_S9216x3072_d1
/-- The key matrices, head by head. -/
@[irreducible] def mats (w : FVec Ideal S1x512x16x128 .f32) : FVec Ideal S16x128x512 .bf16 :=
  truncf .bf16 (transpose S16x128x512 [1, 2, 0] (shapeCast S512x16x128 w shapeCasts_S1x512x16x128_S512x16x128 : FVec Ideal S512x16x128 .f32) transposes_S512x16x128_S16x128x512_1_2_0 : FVec Ideal S16x128x512 .f32) bitsLt_bf16_f32

/-- A column of a head's unrotated part. -/
theorem cols_lo (x : FVec Ideal S9216x16x192 .f32) (r : Fin 9216) (h : Fin 16) (d : Fin 128) :
    cols x (ix2 r ⟨h.val * 128 + d.val, by omega⟩) = x (ix3 r h ⟨d.val, by omega⟩) := by
  unfold cols
  have hh := h.isLt
  have hd := d.isLt
  pointwise
  rw [dif_pos (by omega)]
/-- A column of a head's rotated part. -/
theorem cols_hi (x : FVec Ideal S9216x16x192 .f32) (r : Fin 9216) (h : Fin 16) (d : Fin 64) :
    cols x (ix2 r ⟨2048 + (h.val * 64 + d.val), by omega⟩) = x (ix3 r h ⟨128 + d.val, by omega⟩) := by
  unfold cols
  have hh := h.isLt
  have hd := d.isLt
  pointwise
theorem mats_at (w : FVec Ideal S1x512x16x128 .f32) (h : Fin 16) (k : Fin 128) (e : Fin 512) : mats w (ix3 h k e) = w (ix4 0 e h k) := by
  unfold mats
  pointwise

theorem V38 : V m c main_v38 = cols (m ((c : Thread nD τ).loc main_arg0)) := by
  unfold V cols; rfl
theorem V41 : V m c main_v41 = mats (m ((c : Thread nD τ).loc main_arg1)) := by
  unfold V mats; rfl

/-! ## The blocks -/

/-- Where each window's block lies. -/
theorem idx : ∀ t : Fin cfg0.N,
    (win0_0.index t (0 : Fin 2) = t.val / 8 ∧ win0_0.index t (1 : Fin 2) = t.val % 8) ∧
    (win0_1.index t (0 : Fin 2) = t.val / 8 ∧ win0_1.index t (1 : Fin 2) = 16 + t.val % 8) ∧
    (win0_2.index t (0 : Fin 3) = t.val % 8 ∧ win0_2.index t (1 : Fin 3) = 0 ∧ win0_2.index t (2 : Fin 3) = 0) ∧
    (win0_3.index t (0 : Fin 2) = t.val / 8 ∧ win0_3.index t (1 : Fin 2) = 0) ∧
    (win0_4.index t (0 : Fin 2) = t.val / 8 ∧ win0_4.index t (1 : Fin 2) = 0) ∧
    (win0_5.index t (0 : Fin 3) = t.val % 8 ∧ win0_5.index t (1 : Fin 3) = t.val / 8 ∧ win0_5.index t (2 : Fin 3) = 0) ∧
    (win0_6.index t (0 : Fin 3) = t.val % 8 ∧ win0_6.index t (1 : Fin 3) = t.val / 8 ∧ win0_6.index t (2 : Fin 3) = 0) :=
  (by decide +kernel : ∀ t : Fin grid0.N, _)

section
variable (t : Fin cfg0.N) (r : Fin 256) (R : Fin 9216) (hR : R.val = t.val / 8 * 256 + r.val) (a : Fin 2) (h : Fin 16) (hh : h.val = t.val % 8 * 2 + a.val)
include hR hh in
theorem blk0 (k : Fin 128) : iblk m c 0 t (ix2 r ⟨a.val * 128 + k.val, by omega⟩) = m ((c : Thread nD τ).loc main_arg0) (ix3 R h ⟨k.val, by omega⟩) := by
  have e := idx t
  refine Eq.trans ?_ (cols_lo _ R h k)
  rw [← V38 m c]
  blk_ext [iblk, e]
include hR hh in
theorem blk1 (j : Fin 64) : iblk m c 1 t (ix2 r ⟨a.val * 64 + j.val, by omega⟩) = m ((c : Thread nD τ).loc main_arg0) (ix3 R h ⟨128 + j.val, by omega⟩) := by
  have e := idx t
  refine Eq.trans ?_ (cols_hi _ R h j)
  rw [← V38 m c]
  blk_ext [iblk, e]
include hh in
theorem blk2 (k : Fin 128) (d : Fin 512) : iblk m c 2 t (ix3 a k d) = m ((c : Thread nD τ).loc main_arg1) (ix4 0 d h k) := by
  have e := idx t
  refine Eq.trans ?_ (mats_at _ h k d)
  rw [← V41 m c]
  blk_ext [iblk, e]
include hR in
theorem blk3 (d : Fin 128) : iblk m c 3 t (ix2 r d) = V m c main_v28 (ix2 R d) := by
  have e := idx t
  blk_ext [iblk, e]
include hR in
theorem blk4 (d : Fin 128) : iblk m c 4 t (ix2 r d) = V m c main_v33 (ix2 R d) := by
  have e := idx t
  blk_ext [iblk, e]
end

/-! ## The kernel's arrays -/

/-- The absorbed queries, head by head. -/
def headsL (x : FVec Ideal S9216x16x192 .f32) (w : FVec Ideal S1x512x16x128 .f32) : FVec Ideal S16x8192x512 .bf16 :=
  fun i => absorbed x w ⟨(i 1).val, by have h1 : (i 1).val < 8192 := (i 1).isLt; omega⟩ (i 0) (i 2)
/-- The rotated queries, head by head. -/
def headsR (x : FVec Ideal S9216x16x192 .f32) : FVec Ideal S16x8192x64 .bf16 :=
  fun i => rotated x ⟨(i 1).val, by have h1 : (i 1).val < 8192 := (i 1).isLt; omega⟩ (i 0) (i 2)

theorem headsL_at (x : FVec Ideal S9216x16x192 .f32) (w : FVec Ideal S1x512x16x128 .f32) (h : Fin 16) (s : Fin 8192) (e : Fin 512) :
    headsL x w (ix3 h s e) = absorbed x w ⟨s.val, by omega⟩ h e := rfl
theorem headsR_at (x : FVec Ideal S9216x16x192 .f32) (h : Fin 16) (s : Fin 8192) (j : Fin 64) :
    headsR x (ix3 h s j) = rotated x ⟨s.val, by omega⟩ h j := rfl

/-- The kernel's array of absorbed queries after the region. -/
theorem finalL : (dats m 0 c).arrAt 5 cfg0.N = headsL (m ((c : Thread nD τ).loc main_arg0)) (m ((c : Thread nD τ).loc main_arg1)) := by
  refine (dats m 0 c).arrAt_eq_of_covers 5 _ (by decide +kernel) fun t _ y => ?_
  have ht : t.val < 256 := t.isLt
  have y0 : (y 0 : ℕ) < 2 := (y 0).isLt
  have y1 : (y 1 : ℕ) < 256 := (y 1).isLt
  have y2 : (y 2 : ℕ) < 512 := (y 2).isLt
  have e := idx t
  have hE : ((cfg0.win 5).blk t).view.emb y = ix3 (⟨t.val % 8 * 2 + (y 0 : ℕ), by omega⟩ : Fin 16) (⟨t.val / 8 * 256 + (y 1 : ℕ), by omega⟩ : Fin 8192) (⟨(y 2 : ℕ), y2⟩ : Fin 512) := by
    blk_ext [e]
  have hp := out5_at (iblk m c 0 t) (iblk m c 1 t) (iblk m c 2 t) (iblk m c 3 t) (iblk m c 4 t) y ⟨(y 0 : ℕ), y0⟩ ⟨(y 1 : ℕ), y1⟩ ⟨(y 2 : ℕ), y2⟩ rfl rfl rfl
  simp only [blk0 m c t ⟨(y 1 : ℕ), y1⟩ ⟨t.val / 8 * 256 + (y 1 : ℕ), by omega⟩ rfl ⟨(y 0 : ℕ), y0⟩ ⟨t.val % 8 * 2 + (y 0 : ℕ), by omega⟩ rfl,
    blk2 m c t ⟨(y 0 : ℕ), y0⟩ ⟨t.val % 8 * 2 + (y 0 : ℕ), by omega⟩ rfl] at hp
  have hq : out0_5 (iblk m c 0 t) (iblk m c 1 t) (iblk m c 2 t) (iblk m c 3 t) (iblk m c 4 t) y = headsL (m ((c : Thread nD τ).loc main_arg0)) (m ((c : Thread nD τ).loc main_arg1)) (((cfg0.win 5).blk t).view.emb y) := by
    rw [hE, headsL_at]
    exact hp
  blk_simp
  rw [after0_5]
  exact hq

/-- The kernel's array of rotated queries after the region. -/
theorem finalR : (dats m 0 c).arrAt 6 cfg0.N = headsR (m ((c : Thread nD τ).loc main_arg0)) := by
  refine (dats m 0 c).arrAt_eq_of_covers 6 _ (by decide +kernel) fun t _ y => ?_
  have ht : t.val < 256 := t.isLt
  have y0 : (y 0 : ℕ) < 2 := (y 0).isLt
  have y1 : (y 1 : ℕ) < 256 := (y 1).isLt
  have y2 : (y 2 : ℕ) < 64 := (y 2).isLt
  have e := idx t
  have hE : ((cfg0.win 6).blk t).view.emb y = ix3 (⟨t.val % 8 * 2 + (y 0 : ℕ), by omega⟩ : Fin 16) (⟨t.val / 8 * 256 + (y 1 : ℕ), by omega⟩ : Fin 8192) (⟨(y 2 : ℕ), y2⟩ : Fin 64) := by
    blk_ext [e]
  have hco := (blk3 m c t ⟨(y 1 : ℕ), y1⟩ ⟨t.val / 8 * 256 + (y 1 : ℕ), by omega⟩ rfl ⟨(y 0 : ℕ) * 64 + (y 2 : ℕ), by omega⟩).trans (cos_at m c _ ⟨(y 0 : ℕ), y0⟩ ⟨(y 2 : ℕ), y2⟩)
  have hsi := (blk4 m c t ⟨(y 1 : ℕ), y1⟩ ⟨t.val / 8 * 256 + (y 1 : ℕ), by omega⟩ rfl ⟨(y 0 : ℕ) * 64 + (y 2 : ℕ), by omega⟩).trans (sin_at m c _ ⟨(y 0 : ℕ), y0⟩ ⟨(y 2 : ℕ), y2⟩)
  have hp := out6_at (iblk m c 0 t) (iblk m c 1 t) (iblk m c 2 t) (iblk m c 3 t) (iblk m c 4 t) y ⟨(y 0 : ℕ), y0⟩ ⟨(y 1 : ℕ), y1⟩ ⟨(y 2 : ℕ), y2⟩ rfl rfl rfl
    (fun i => pos (t.val / 8 * 256 + (y 1 : ℕ)) * freq (ix1 i)) hco hsi
  simp only [blk1 m c t ⟨(y 1 : ℕ), y1⟩ ⟨t.val / 8 * 256 + (y 1 : ℕ), by omega⟩ rfl ⟨(y 0 : ℕ), y0⟩ ⟨t.val % 8 * 2 + (y 0 : ℕ), by omega⟩ rfl] at hp
  have hq : out0_6 (iblk m c 0 t) (iblk m c 1 t) (iblk m c 2 t) (iblk m c 3 t) (iblk m c 4 t) y = headsR (m ((c : Thread nD τ).loc main_arg0)) (((cfg0.win 6).blk t).view.emb y) := by
    rw [hE, headsR_at]
    exact hp
  blk_simp
  rw [after0_6]
  exact hq

/-! ## The results -/

/-- The heads put behind the rows. -/
def backL (A : FVec Ideal S16x8192x512 .bf16) : FVec Ideal S4x2048x16x512 .bf16 :=
  shapeCast S4x2048x16x512 (transpose S8192x16x512 [1, 0, 2] A transposes_S16x8192x512_S8192x16x512_1_0_2 : FVec Ideal S8192x16x512 .bf16) shapeCasts_S8192x16x512_S4x2048x16x512
theorem backL_at (A : FVec Ideal S16x8192x512 .bf16) (b : Fin 4) (s : Fin 2048) (h : Fin 16) (e : Fin 512) : backL A (ix4 b s h e) = A (ix3 h ⟨b.val * 2048 + s.val, by omega⟩ e) := by
  pointwise [backL]
theorem backL_eq (x : FVec Ideal S9216x16x192 .f32) (w : FVec Ideal S1x512x16x128 .f32) : backL (headsL x w) = AbsorbRef.ql x w := by
  funext i
  rw [ValueIdx.eq_ix4 i]
  exact backL_at _ (i 0) (i 1) (i 2) (i 3)

/-- The heads put behind the rows. -/
def backR (A : FVec Ideal S16x8192x64 .bf16) : FVec Ideal S4x2048x16x64 .bf16 :=
  shapeCast S4x2048x16x64 (transpose S8192x16x64 [1, 0, 2] A transposes_S16x8192x64_S8192x16x64_1_0_2 : FVec Ideal S8192x16x64 .bf16) shapeCasts_S8192x16x64_S4x2048x16x64
theorem backR_at (A : FVec Ideal S16x8192x64 .bf16) (b : Fin 4) (s : Fin 2048) (h : Fin 16) (j : Fin 64) : backR A (ix4 b s h j) = A (ix3 h ⟨b.val * 2048 + s.val, by omega⟩ j) := by
  pointwise [backR]
theorem backR_eq (x : FVec Ideal S9216x16x192 .f32) (w : FVec Ideal S1x512x16x128 .f32) : backR (headsR x) = AbsorbRef.qp x w := by
  funext i
  rw [ValueIdx.eq_ix4 i]
  exact backR_at _ (i 0) (i 1) (i 2) (i 3)

theorem after_ql (W : Valuation τ sig (Elt Ideal)) : StableHlo.after hostOps1 W (Proc.devRef .tc main_v44) = backL (W (Proc.devRef .tc main_v42_0)) := rfl
theorem tail_ql : Pipeline.afterTail₀ cfgs (dats m) 0 (V0 m) [hostOps1] c main_v44 = AbsorbRef.ql (m ((c : Thread nD τ).loc main_arg0)) (m ((c : Thread nD τ).loc main_arg1)) := by
  unfold Pipeline.afterTail₀
  rw [List.flatten_singleton]
  refine (after_ql _).trans ((congrArg backL ?_).trans (backL_eq _ _))
  exact ((dats m 0 c).withArrays_arrAt sharedIn0 (V0 m c) (A_eq m c) 5).trans (finalL m c)

theorem after_qp (W : Valuation τ sig (Elt Ideal)) : StableHlo.after hostOps1 W (Proc.devRef .tc main_v46) = backR (W (Proc.devRef .tc main_v42_1)) := rfl
theorem tail_qp : Pipeline.afterTail₀ cfgs (dats m) 0 (V0 m) [hostOps1] c main_v46 = AbsorbRef.qp (m ((c : Thread nD τ).loc main_arg0)) (m ((c : Thread nD τ).loc main_arg1)) := by
  unfold Pipeline.afterTail₀
  rw [List.flatten_singleton]
  refine (after_qp _).trans ((congrArg backR ?_).trans (backR_eq _ _))
  exact ((dats m 0 c).withArrays_arrAt sharedIn0 (V0 m c) (A_eq m c) 6).trans (finalR m c)

set_option maxHeartbeats 1000000 in
/-- The run. -/
theorem run (ρ : Dev nD → PrngReg) :
    θ_run (defs (F := Ideal)) (onTc (τ := τ) (main (F := Ideal))) ⟨m, fun _ => 0, ρ⟩ fun r => ∀ c : Dev nD,
      r.2.mem ((c : Thread nD τ).loc main_v44) = AbsorbRef.ql (m ((c : Thread nD τ).loc main_arg0)) (m ((c : Thread nD τ).loc main_arg1))
      ∧ r.2.mem ((c : Thread nD τ).loc main_v46) = AbsorbRef.qp (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run (defs (F := Ideal)) _ _).mono (fun r h c =>
    ⟨((h.1 c).2 main_v44 (Pipeline.mem_restRefs_of main_v44 (by decide) (by decide))).trans (tail_ql m c),
     ((h.1 c).2 main_v46 (Pipeline.mem_restRefs_of main_v46 (by decide) (by decide))).trans (tail_qp m c),
     (h.2 c)⟩)
    (θ_run_and (run_main m ρ) (unchanged m ρ))

end Cert.Absorb

end
-- ==== Proof.NormRef.lean ====
/- The first layer norm's reference: its results as functions of its arguments, and the normalised row at an entry. -/
module

public import proofs.«01_k».proof.Proof.Gen.Reference9Ideal.Run
public import Idealize.ShloMosaic.Lib.Pointwise

@[expose] public section

set_option maxRecDepth 16384

noncomputable section

namespace Cert.NormRef

open Idealize.ShloMosaic Idealize.ShloMosaic.TcCoe
open Cert.Reference9Ideal Cert.Reference9Ideal.Gen

/-- The rows of both batches, one batch after the other. -/
def rows (p : FVec Ideal S4x2048x4096 .f32) (s : FVec Ideal S128x8x4096 .f32) : FVec Ideal S9216x4096 .f32 :=
  concatenate S9216x4096 0 [⟨S8192x4096, (shapeCast _ p shapeCasts_S4x2048x4096_S8192x4096)⟩, ⟨S1024x4096, (shapeCast _ s shapeCasts_S128x8x4096_S1024x4096)⟩] concatenates_S8192x4096_S1024x4096_S9216x4096_d0

/-- A row less its mean. -/
def cen (y : FVec Ideal S9216x4096 .f32) : FVec Ideal S9216x4096 .f32 :=
  subf y (broadcastInDim S9216x4096 ![0, 1] bcast_S9216x1_S9216x4096_0_1 (Host.divf (broadcastInDim S9216x1 ![0] bcast_S9216_S9216x1_0 (Host.reduceAdd y (constant S_ .f32 0x00000000#32) reducesTo_S9216x4096_S9216_d1 h_S_)) (broadcastInDim S9216x1 ![] bcast_S_S9216x1 (constant S_ .f32 0x45800000#32))))

/-- The layer norm of a row less its mean. -/
def norm (e : FVec Ideal S9216x4096 .f32) (g b : FVec Ideal S4096 .f32) : FVec Ideal S9216x4096 .f32 :=
  addf (mulf (mulf e (broadcastInDim S9216x4096 ![0, 1] bcast_S9216x1_S9216x4096_0_1 (Host.rsqrt (addf (Host.divf (broadcastInDim S9216x1 ![0] bcast_S9216_S9216x1_0 (Host.reduceAdd (mulf e e) (constant S_ .f32 0x00000000#32) reducesTo_S9216x4096_S9216_d1 h_S_)) (broadcastInDim S9216x1 ![] bcast_S_S9216x1 (constant S_ .f32 0x45800000#32))) (broadcastInDim S9216x1 ![] bcast_S_S9216x1 (constant S_ .f32 0x3727C5AC#32))))))
    (broadcastInDim S9216x4096 ![0, 1] bcast_S1x4096_S9216x4096_0_1 (broadcastInDim S1x4096 ![1] bcast_S4096_S1x4096_1 g)))
    (broadcastInDim S9216x4096 ![0, 1] bcast_S1x4096_S9216x4096_0_1 (broadcastInDim S1x4096 ![1] bcast_S4096_S1x4096_1 b))

/-- The normalised rows. -/
def out (p : FVec Ideal S4x2048x4096 .f32) (s : FVec Ideal S128x8x4096 .f32) (g b : FVec Ideal S4096 .f32) : FVec Ideal S9216x4096 .f32 := norm (cen (rows p s)) g b
/-- The normalised rows cast. -/
def outB (p : FVec Ideal S4x2048x4096 .f32) (s : FVec Ideal S128x8x4096 .f32) (g b : FVec Ideal S4096 .f32) : FVec Ideal S9216x4096 .bf16 := truncf .bf16 (out p s g b) bitsLt_bf16_f32

/-! ## A row of the output -/

/-- The row less its mean. -/
def rCen (z : Fin 4096 → EReal) : Fin 4096 → EReal := fun d => z d - Ideal.div (∑ k, z k) (Ideal.ofBits FTy.f32 1166016512#32)
/-- Its variance, and the small constant. -/
def rVar (e : Fin 4096 → EReal) : EReal := Ideal.div (∑ k, e k * e k) (Ideal.ofBits FTy.f32 1166016512#32) + Ideal.ofBits FTy.f32 925353388#32
/-- The normalised row. -/
def rNorm (e g b : Fin 4096 → EReal) : Fin 4096 → EReal := fun d => e d * Ideal.rsqrt (rVar e) * g d + b d

theorem cen_at (y : FVec Ideal S9216x4096 .f32) (r : Fin 9216) : (fun d => cen y (ix2 r d)) = rCen fun d => y (ix2 r d) := by
  funext d; pointwise [cen, rCen]
theorem norm_at (e : FVec Ideal S9216x4096 .f32) (g b : FVec Ideal S4096 .f32) (r : Fin 9216) :
    (fun d => norm e g b (ix2 r d)) = rNorm (fun d => e (ix2 r d)) (fun d => g (ix1 d)) fun d => b (ix1 d) := by
  funext d; pointwise [norm, rNorm, rVar]

theorem out_at (p : FVec Ideal S4x2048x4096 .f32) (s : FVec Ideal S128x8x4096 .f32) (g b : FVec Ideal S4096 .f32) (r : Fin 9216) (d : Fin 4096) :
    out p s g b (ix2 r d) = rNorm (rCen fun k => rows p s (ix2 r k)) (fun d => g (ix1 d)) (fun d => b (ix1 d)) d := by
  rw [← cen_at, ← norm_at]; rfl

end Cert.NormRef

end
-- ==== Proof.Norm.lean ====
/- The first layer norm: the kernel's two arrays are the reference's normalised rows. -/
module

public import proofs.«01_k».proof.Proof.Gen.Kernel9Ideal.Value
public import proofs.«01_k».proof.Proof.NormRef
public import Idealize.ShloMosaic.Lib.Pipeline.ValueKit
public import Idealize.ShloMosaic.Lib.Pointwise
public import Idealize.ShloMosaic.Lib.Claim

@[expose] public section

set_option maxRecDepth 16384

noncomputable section

namespace Cert.Norm

open Idealize.ShloMosaic Idealize.ShloMosaic.TcCoe Idealize.SL Idealize.SL.Sem
open Cert.Kernel9Ideal Cert.Kernel9Ideal.Gen

variable (m : (ℓ : Loc nD τ sig) → Buf (Elt Ideal) ℓ) (c : Dev nD)

open NormRef (rCen rVar rNorm)

/-- The body's value at an entry. -/
theorem pay1_at (x : Vec Ideal S256x4096 .f32) (g b : Vec Ideal S1x4096 .f32) (r : Fin 256) (d : Fin 4096) :
    k0_pay1 (F := Ideal) x g b (ix2 r d) = rNorm (rCen fun k => x (ix2 r k)) (fun d => g (ix2 0 d)) (fun d => b (ix2 0 d)) d := by
  pointwise [k0_pay1, rNorm, rVar, rCen]
theorem pay2_at (x : Vec Ideal S256x4096 .f32) (g b : Vec Ideal S1x4096 .f32) (y) :
    k0_pay2 (F := Ideal) x g b y = k0_pay1 (F := Ideal) x g b y := by
  pointwise [k0_pay2]

/-- Where each window's block lies. -/
theorem idx : ∀ t : Fin cfg0.N,
    (win0_0.index t (0 : Fin 2) = t.val ∧ win0_0.index t (1 : Fin 2) = 0) ∧
    (win0_1.index t (0 : Fin 2) = 0 ∧ win0_1.index t (1 : Fin 2) = 0) ∧
    (win0_2.index t (0 : Fin 2) = 0 ∧ win0_2.index t (1 : Fin 2) = 0) ∧
    (win0_3.index t (0 : Fin 2) = t.val ∧ win0_3.index t (1 : Fin 2) = 0) ∧
    (win0_4.index t (0 : Fin 2) = t.val ∧ win0_4.index t (1 : Fin 2) = 0) :=
  (by decide +kernel : ∀ t : Fin grid0.N, _)

/-- A vector as a matrix of one row. -/
def row (g : FVec Ideal S4096 .f32) : FVec Ideal S1x4096 .f32 := fun j => g (ix1 (j 1))
theorem row_eq (g : FVec Ideal S4096 .f32) : (shapeCast S1x4096 g shapeCasts_S4096_S1x4096 : FVec Ideal S1x4096 .f32) = row g := by
  funext j
  pointwise [row]

theorem V2 : V m c main_v2 = NormRef.rows (m ((c : Thread nD τ).loc main_arg0)) (m ((c : Thread nD τ).loc main_arg1)) := by unfold NormRef.rows; entry_read; rfl
theorem V3 : V m c main_v3 = row (m ((c : Thread nD τ).loc main_arg2)) := by rw [← row_eq]; entry_read; rfl
theorem V4 : V m c main_v4 = row (m ((c : Thread nD τ).loc main_arg3)) := by rw [← row_eq]; entry_read; rfl

section
variable (t : Fin cfg0.N)
theorem blk0 (r : Fin 256) (k : Fin 4096) (R : Fin 9216) (hR : R.val = t.val * 256 + r.val) : iblk m c 0 t (ix2 r k) = NormRef.rows (m ((c : Thread nD τ).loc main_arg0)) (m ((c : Thread nD τ).loc main_arg1)) (ix2 R k) := by
  have e := idx t
  blk_ext [iblk, V2 m c, e]
theorem blk1 (j : Fin 4096) : iblk m c 1 t (ix2 0 j) = m ((c : Thread nD τ).loc main_arg2) (ix1 j) := by
  have e := idx t
  blk_ext [iblk, V3 m c, row, e]
theorem blk2 (j : Fin 4096) : iblk m c 2 t (ix2 0 j) = m ((c : Thread nD τ).loc main_arg3) (ix1 j) := by
  have e := idx t
  blk_ext [iblk, V4 m c, row, e]
end

/-- The normalised rows, of the program's arguments. -/
abbrev ref : FVec Ideal S9216x4096 .f32 := NormRef.out (m ((c : Thread nD τ).loc main_arg0)) (m ((c : Thread nD τ).loc main_arg1)) (m ((c : Thread nD τ).loc main_arg2)) (m ((c : Thread nD τ).loc main_arg3))

/-- What the body stores at an entry of its block is the normalised row's entry. -/
theorem point (t : Fin cfg0.N) (r : Fin 256) (d : Fin 4096) (R : Fin 9216) (hR : R.val = t.val * 256 + r.val) :
    k0_pay1 (F := Ideal) (iblk m c 0 t) (iblk m c 1 t) (iblk m c 2 t) (ix2 r d) = ref m c (ix2 R d) := by
  rw [pay1_at]
  simp only [blk0 m c t r _ R hR, blk1 m c t, blk2 m c t]
  exact (NormRef.out_at _ _ _ _ R d).symm

/-- The kernel's first array after the run. -/
theorem final : (dats m 0 c).arrAt 3 cfg0.N = ref m c := by
  refine (dats m 0 c).arrAt_eq_of_covers 3 _ (by decide +kernel) fun t _ y => ?_
  have ht : t.val < 36 := t.isLt
  have y0 : (y 0 : ℕ) < 256 := (y 0).isLt
  have hR : t.val * 256 + (y 0 : ℕ) < 9216 := by omega
  have e := idx t
  have hE : ((cfg0.win 3).blk t).view.emb y = ix2 (⟨t.val * 256 + (y 0 : ℕ), hR⟩ : Fin 9216) (⟨(y 1 : ℕ), (y 1).isLt⟩ : Fin 4096) := by
    blk_ext [e]
  have hy : y = ix2 (⟨(y 0 : ℕ), y0⟩ : Fin 256) (⟨(y 1 : ℕ), (y 1).isLt⟩ : Fin 4096) := ValueIdx.eq_ix2 y
  have hp := point m c t ⟨(y 0 : ℕ), y0⟩ ⟨(y 1 : ℕ), (y 1).isLt⟩ ⟨t.val * 256 + (y 0 : ℕ), hR⟩ rfl
  rw [← hy, ← hE] at hp
  blk_simp
  rw [after0_3]; frame_out
  exact hp

/-- The kernel's second array after the run. -/
theorem finalB : (dats m 0 c).arrAt 4 cfg0.N = NormRef.outB (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  have ht : t.val < 36 := t.isLt
  have y0 : (y 0 : ℕ) < 256 := (y 0).isLt
  have hR : t.val * 256 + (y 0 : ℕ) < 9216 := by omega
  have e := idx t
  have hE : ((cfg0.win 4).blk t).view.emb y = ix2 (⟨t.val * 256 + (y 0 : ℕ), hR⟩ : Fin 9216) (⟨(y 1 : ℕ), (y 1).isLt⟩ : Fin 4096) := by
    blk_ext [e]
  have hy : y = ix2 (⟨(y 0 : ℕ), y0⟩ : Fin 256) (⟨(y 1 : ℕ), (y 1).isLt⟩ : Fin 4096) := ValueIdx.eq_ix2 y
  have hp := point m c t ⟨(y 0 : ℕ), y0⟩ ⟨(y 1 : ℕ), (y 1).isLt⟩ ⟨t.val * 256 + (y 0 : ℕ), hR⟩ rfl
  rw [← hy, ← hE] at hp
  blk_simp
  rw [after0_4]; frame_out
  exact (pay2_at _ _ _ _).trans hp

end Cert.Norm

end
-- ==== Proof.Combine.lean ====
/- The weighted sum of each token's expert rows: the kernel's array is the reference's. -/
module

public import proofs.«01_k».proof.Proof.Gen.Kernel10Ideal.Value
public import proofs.«01_k».proof.Proof.Gen.Reference10Ideal.Run
public import Idealize.ShloMosaic.Lib.Pipeline.ValueKit
public import Idealize.ShloMosaic.Lib.Pointwise
public import Idealize.ShloMosaic.Lib.Claim

@[expose] public section

set_option maxRecDepth 16384

noncomputable section

namespace Cert.Combine

open Idealize.ShloMosaic Idealize.ShloMosaic.TcCoe Idealize.SL Idealize.SL.Sem
open Cert.Kernel10Ideal Cert.Kernel10Ideal.Gen

variable (m : (ℓ : Loc nD τ sig) → Buf (Elt Ideal) ℓ) (c : Dev nD)

/-! ## A look-up of rows -/

/-- The row that a word names: read signed, and kept inside the table. -/
def at_ (w : BitVec 32) : Fin 172032 := ⟨min w.toInt.toNat (172032 - 1), by omega⟩

/-- A look-up of rows by a table of two axes, at an entry. -/
theorem gather_at {P Q : Nat} (d : GatherDims ⟨2, ![172032, 4096]⟩ ⟨3, ![P, Q, 1]⟩ ⟨3, ![P, Q, 4096]⟩) (hoff : d.offsetDims = [2])
    (hcoll : d.collapsedSliceDims = [0]) (hob : d.operandBatchingDims = []) (hsb : d.startIndicesBatchingDims = [])
    (hsim : d.startIndexMap = [0]) (hivd : d.indexVectorDim = 2) (x : FVec Ideal ⟨2, ![172032, 4096]⟩ .f32) (ids : IVec ⟨3, ![P, Q, 1]⟩ 32)
    (p : Fin P) (q : Fin Q) (y : Fin 4096) :
    Host.gather d x ids (ix3 p q y) = x (ix2 (at_ (ids (ix3 p q 0))) y) := by
  obtain ⟨od, cd, ob, sb, sm, iv, ss, wf⟩ := d
  simp only at hoff hcoll hob hsb hsim hivd
  subst hoff hcoll hob hsb hsim hivd
  have hsl : ss 0 = 1 := GatherDims.slice_collapsed ⟨_, _, _, _, _, _, ss, wf⟩ 0 (List.mem_singleton.2 rfl)
  unfold Host.gather
  refine congrArg x (funext fun a => Fin.ext ?_)
  match a with
  | ⟨0, _⟩ =>
    show min (ids _).toInt.toNat (172032 - ss 0) + 0 + 0 = min (ids _).toInt.toNat (172032 - 1)
    rw [hsl]
    simp only [Nat.add_zero]
    congr 4
    funext b
    match b with
    | ⟨0, _⟩ => rfl
    | ⟨1, _⟩ => rfl
    | ⟨2, _⟩ => rfl
  | ⟨1, _⟩ =>
    show 0 + 0 + y.val = y.val
    omega

/-! ## The reference -/

/-- The words as row numbers: a negative one counts from the end. -/
def fix (w : BitVec 32) : BitVec 32 := Scalar.select (IntOp.cmpi .slt w 0#32) (IntOp.addi w 172032#32) w

/-- The reference's result, as a function of its arguments. -/
def ref (x : FVec Ideal Cert.Reference10Ideal.S172032x4096 .f32) (d : IVec Cert.Reference10Ideal.S9216x8 32) (w : FVec Ideal Cert.Reference10Ideal.S9216x8 .f32) : FVec Ideal Cert.Reference10Ideal.S9216x4096 .f32 :=
  Host.reduceAdd (mulf (Host.gather Cert.Reference10Ideal.gather_S172032x4096_S9216x8x1_S9216x8x4096_2_0_n_n_0_2_14096 x (broadcastInDim Cert.Reference10Ideal.S9216x8x1 ![0, 1] Cert.Reference10Ideal.Gen.bcast_S9216x8_S9216x8x1_0_1 (select (cmpi .slt d (broadcastInDim Cert.Reference10Ideal.S9216x8 ![] Cert.Reference10Ideal.Gen.bcast_S_S9216x8 (constantI Cert.Reference10Ideal.S_ 32 0#32))) (addi d (broadcastInDim Cert.Reference10Ideal.S9216x8 ![] Cert.Reference10Ideal.Gen.bcast_S_S9216x8 (constantI Cert.Reference10Ideal.S_ 32 172032#32))) d))) (broadcastInDim Cert.Reference10Ideal.S9216x8x4096 ![0, 1, 2] Cert.Reference10Ideal.Gen.bcast_S9216x8x1_S9216x8x4096_0_1_2 (broadcastInDim Cert.Reference10Ideal.S9216x8x1 ![0, 1] Cert.Reference10Ideal.Gen.bcast_S9216x8_S9216x8x1_0_1 w))) (constant Cert.Reference10Ideal.S_ .f32 0x00000000#32) Cert.Reference10Ideal.Gen.reducesTo_S9216x8x4096_S9216x4096_d1 Cert.Reference10Ideal.Gen.h_S_

/-- The row numbers as the reference looks them up. -/
def ixR (d : IVec Cert.Reference10Ideal.S9216x8 32) : IVec Cert.Reference10Ideal.S9216x8x1 32 :=
  broadcastInDim Cert.Reference10Ideal.S9216x8x1 ![0, 1] Cert.Reference10Ideal.Gen.bcast_S9216x8_S9216x8x1_0_1 (select (cmpi .slt d (broadcastInDim Cert.Reference10Ideal.S9216x8 ![] Cert.Reference10Ideal.Gen.bcast_S_S9216x8 (constantI Cert.Reference10Ideal.S_ 32 0#32))) (addi d (broadcastInDim Cert.Reference10Ideal.S9216x8 ![] Cert.Reference10Ideal.Gen.bcast_S_S9216x8 (constantI Cert.Reference10Ideal.S_ 32 172032#32))) d)
theorem ixR_at (d : IVec Cert.Reference10Ideal.S9216x8 32) (r : Fin 9216) (k : Fin 8) : ixR d (ix3 r k 0) = fix (d (ix2 r k)) := by
  pointwise [ixR, fix]

/-- A sum's summand: a token's row of one expert, weighted. -/
def term (x : FVec Ideal S172032x4096 .f32) (d : IVec S9216x8 32) (w : FVec Ideal S9216x8 .f32) (r : Fin 9216) (j : Fin 4096) (k : Fin 8) : EReal :=
  x (ix2 (at_ (fix (d (ix2 r k)))) j) * w (ix2 r k)

theorem ref_at (x : FVec Ideal S172032x4096 .f32) (d : IVec S9216x8 32) (w : FVec Ideal S9216x8 .f32) (r : Fin 9216) (j : Fin 4096) :
    ref x d w (ix2 r j) = ∑ k, term x d w r j k := by
  have h : ∀ k : Fin 8, Host.gather Cert.Reference10Ideal.gather_S172032x4096_S9216x8x1_S9216x8x4096_2_0_n_n_0_2_14096 x (ixR d) (ix3 r k j) = x (ix2 (at_ (fix (d (ix2 r k)))) j) := fun k => by
    rw [← ixR_at]; exact gather_at _ rfl rfl rfl rfl rfl rfl x (ixR d) r k j
  unfold ref term
  change Host.reduceAdd (mulf (Host.gather _ x (ixR d)) _) _ _ _ _ = _
  simp only [← h]
  generalize Host.gather Cert.Reference10Ideal.gather_S172032x4096_S9216x8x1_S9216x8x4096_2_0_n_n_0_2_14096 x (ixR d) = G
  pointwise

/-! ## The kernel's rows -/

/-- The row numbers as the kernel's host code looks them up. -/
def ixK (d : IVec S9216x8 32) : IVec S8x9216x1 32 :=
  broadcastInDim S8x9216x1 ![0, 1] bcast_S8x9216_S8x9216x1_0_1 (select (cmpi .slt (transpose S8x9216 [1, 0] d transposes_S9216x8_S8x9216_1_0) (broadcastInDim S8x9216 ![] bcast_S_S8x9216 (constantI S_ 32 0#32))) (addi (transpose S8x9216 [1, 0] d transposes_S9216x8_S8x9216_1_0) (broadcastInDim S8x9216 ![] bcast_S_S8x9216 (constantI S_ 32 172032#32))) (transpose S8x9216 [1, 0] d transposes_S9216x8_S8x9216_1_0))
theorem ixK_at (d : IVec S9216x8 32) (r : Fin 9216) (k : Fin 8) : ixK d (ix3 k r 0) = fix (d (ix2 r k)) := by
  pointwise [ixK, fix]
/-- The experts' rows, one matrix for each of a token's places. -/
def tok (x : FVec Ideal S172032x4096 .f32) (d : IVec S9216x8 32) : FVec Ideal S8x9216x4096 .f32 :=
  Host.gather gather_S172032x4096_S8x9216x1_S8x9216x4096_2_0_n_n_0_2_14096 x (ixK d)
theorem tok_at (x : FVec Ideal S172032x4096 .f32) (d : IVec S9216x8 32) (r : Fin 9216) (k : Fin 8) (j : Fin 4096) :
    tok x d (ix3 k r j) = x (ix2 (at_ (fix (d (ix2 r k)))) j) := by
  rw [← ixK_at]; exact gather_at _ rfl rfl rfl rfl rfl rfl x (ixK d) k r j

theorem V7 : V m c main_v7 = tok (m ((c : Thread nD τ).loc main_arg0)) (m ((c : Thread nD τ).loc main_arg1)) := by unfold tok ixK; entry_read; rfl

/-- Where each window's block lies. -/
theorem idx : ∀ t : Fin cfg0.N,
    (win0_0.index t (0 : Fin 2) = t.val ∧ win0_0.index t (1 : Fin 2) = 0) ∧
    (win0_1.index t (0 : Fin 3) = 0 ∧ win0_1.index t (1 : Fin 3) = t.val ∧ win0_1.index t (2 : Fin 3) = 0) ∧
    (win0_2.index t (0 : Fin 3) = 1 ∧ win0_2.index t (1 : Fin 3) = t.val ∧ win0_2.index t (2 : Fin 3) = 0) ∧
    (win0_3.index t (0 : Fin 3) = 2 ∧ win0_3.index t (1 : Fin 3) = t.val ∧ win0_3.index t (2 : Fin 3) = 0) ∧
    (win0_4.index t (0 : Fin 3) = 3 ∧ win0_4.index t (1 : Fin 3) = t.val ∧ win0_4.index t (2 : Fin 3) = 0) ∧
    (win0_5.index t (0 : Fin 3) = 4 ∧ win0_5.index t (1 : Fin 3) = t.val ∧ win0_5.index t (2 : Fin 3) = 0) ∧
    (win0_6.index t (0 : Fin 3) = 5 ∧ win0_6.index t (1 : Fin 3) = t.val ∧ win0_6.index t (2 : Fin 3) = 0) ∧
    (win0_7.index t (0 : Fin 3) = 6 ∧ win0_7.index t (1 : Fin 3) = t.val ∧ win0_7.index t (2 : Fin 3) = 0) ∧
    (win0_8.index t (0 : Fin 3) = 7 ∧ win0_8.index t (1 : Fin 3) = t.val ∧ win0_8.index t (2 : Fin 3) = 0) ∧
    (win0_9.index t (0 : Fin 2) = t.val ∧ win0_9.index t (1 : Fin 2) = 0) :=
  (by decide +kernel : ∀ t : Fin grid0.N, _)

section
variable (t : Fin cfg0.N)
theorem blk0 (r : Fin 128) (k : Fin 8) (R : Fin 9216) (hR : R.val = t.val * 128 + r.val) : iblk m c 0 t (ix2 r k) = m ((c : Thread nD τ).loc main_arg2) (ix2 R k) := by
  have e := idx t
  blk_ext [iblk, V_main_arg2 m c, e]
theorem blk1 (r : Fin 128) (j : Fin 4096) (R : Fin 9216) (hR : R.val = t.val * 128 + r.val) : iblk m c 1 t (ix3 0 r j) = tok (m ((c : Thread nD τ).loc main_arg0)) (m ((c : Thread nD τ).loc main_arg1)) (ix3 0 R j) := by
  have e := idx t
  blk_ext [iblk, V7 m c, e]
theorem blk2 (r : Fin 128) (j : Fin 4096) (R : Fin 9216) (hR : R.val = t.val * 128 + r.val) : iblk m c 2 t (ix3 0 r j) = tok (m ((c : Thread nD τ).loc main_arg0)) (m ((c : Thread nD τ).loc main_arg1)) (ix3 1 R j) := by
  have e := idx t
  blk_ext [iblk, V7 m c, e]
theorem blk3 (r : Fin 128) (j : Fin 4096) (R : Fin 9216) (hR : R.val = t.val * 128 + r.val) : iblk m c 3 t (ix3 0 r j) = tok (m ((c : Thread nD τ).loc main_arg0)) (m ((c : Thread nD τ).loc main_arg1)) (ix3 2 R j) := by
  have e := idx t
  blk_ext [iblk, V7 m c, e]
theorem blk4 (r : Fin 128) (j : Fin 4096) (R : Fin 9216) (hR : R.val = t.val * 128 + r.val) : iblk m c 4 t (ix3 0 r j) = tok (m ((c : Thread nD τ).loc main_arg0)) (m ((c : Thread nD τ).loc main_arg1)) (ix3 3 R j) := by
  have e := idx t
  blk_ext [iblk, V7 m c, e]
theorem blk5 (r : Fin 128) (j : Fin 4096) (R : Fin 9216) (hR : R.val = t.val * 128 + r.val) : iblk m c 5 t (ix3 0 r j) = tok (m ((c : Thread nD τ).loc main_arg0)) (m ((c : Thread nD τ).loc main_arg1)) (ix3 4 R j) := by
  have e := idx t
  blk_ext [iblk, V7 m c, e]
theorem blk6 (r : Fin 128) (j : Fin 4096) (R : Fin 9216) (hR : R.val = t.val * 128 + r.val) : iblk m c 6 t (ix3 0 r j) = tok (m ((c : Thread nD τ).loc main_arg0)) (m ((c : Thread nD τ).loc main_arg1)) (ix3 5 R j) := by
  have e := idx t
  blk_ext [iblk, V7 m c, e]
theorem blk7 (r : Fin 128) (j : Fin 4096) (R : Fin 9216) (hR : R.val = t.val * 128 + r.val) : iblk m c 7 t (ix3 0 r j) = tok (m ((c : Thread nD τ).loc main_arg0)) (m ((c : Thread nD τ).loc main_arg1)) (ix3 6 R j) := by
  have e := idx t
  blk_ext [iblk, V7 m c, e]
theorem blk8 (r : Fin 128) (j : Fin 4096) (R : Fin 9216) (hR : R.val = t.val * 128 + r.val) : iblk m c 8 t (ix3 0 r j) = tok (m ((c : Thread nD τ).loc main_arg0)) (m ((c : Thread nD τ).loc main_arg1)) (ix3 7 R j) := by
  have e := idx t
  blk_ext [iblk, V7 m c, e]
end

/-- The body's value at an entry. -/
theorem pay_at (w : Vec Ideal S128x8 .f32) (x0 x1 x2 x3 x4 x5 x6 x7 : Vec Ideal S1x128x4096 .f32) (r : Fin 128) (j : Fin 4096) :
    k0_pay1 (F := Ideal) w (k0_pay2 w x0 x1 x2 x3 x4 x5) x6 x7 (ix2 r j)
      = x0 (ix3 0 r j) * w (ix2 r 0) + x1 (ix3 0 r j) * w (ix2 r 1) + x2 (ix3 0 r j) * w (ix2 r 2) + x3 (ix3 0 r j) * w (ix2 r 3) + x4 (ix3 0 r j) * w (ix2 r 4) + x5 (ix3 0 r j) * w (ix2 r 5) + x6 (ix3 0 r j) * w (ix2 r 6) + x7 (ix3 0 r j) * w (ix2 r 7) := by
  pointwise [k0_pay1, k0_pay2]

/-- What the body stores at an entry of its block is the reference's entry. -/
theorem point (t : Fin cfg0.N) (r : Fin 128) (j : Fin 4096) (R : Fin 9216) (hR : R.val = t.val * 128 + r.val) :
    k0_pay1 (F := Ideal) (iblk m c 0 t) (k0_pay2 (iblk m c 0 t) (iblk m c 1 t) (iblk m c 2 t) (iblk m c 3 t) (iblk m c 4 t) (iblk m c 5 t) (iblk m c 6 t)) (iblk m c 7 t) (iblk m c 8 t) (ix2 r j)
      = ref (m ((c : Thread nD τ).loc main_arg0)) (m ((c : Thread nD τ).loc main_arg1)) (m ((c : Thread nD τ).loc main_arg2)) (ix2 R j) := by
  rw [pay_at, ref_at, Fin.sum_univ_eight]
  simp only [blk0 m c t r _ R hR, blk1 m c t r _ R hR, blk2 m c t r _ R hR, blk3 m c t r _ R hR, blk4 m c t r _ R hR, blk5 m c t r _ R hR, blk6 m c t r _ R hR, blk7 m c t r _ R hR, blk8 m c t r _ R hR, tok_at]
  rfl

/-- The kernel's array after the run. -/
theorem final : (dats m 0 c).arrAt 9 cfg0.N = ref (m ((c : Thread nD τ).loc main_arg0)) (m ((c : Thread nD τ).loc main_arg1)) (m ((c : Thread nD τ).loc main_arg2)) := by
  refine (dats m 0 c).arrAt_eq_of_covers 9 _ (by decide +kernel) fun t _ y => ?_
  have ht : t.val < 72 := t.isLt
  have y0 : (y 0 : ℕ) < 128 := (y 0).isLt
  have hR : t.val * 128 + (y 0 : ℕ) < 9216 := by omega
  have e := idx t
  have hE : ((cfg0.win 9).blk t).view.emb y = ix2 (⟨t.val * 128 + (y 0 : ℕ), hR⟩ : Fin 9216) (⟨(y 1 : ℕ), (y 1).isLt⟩ : Fin 4096) := by
    blk_ext [e]
  have hy : y = ix2 (⟨(y 0 : ℕ), y0⟩ : Fin 128) (⟨(y 1 : ℕ), (y 1).isLt⟩ : Fin 4096) := ValueIdx.eq_ix2 y
  have hp := point m c t ⟨(y 0 : ℕ), y0⟩ ⟨(y 1 : ℕ), (y 1).isLt⟩ ⟨t.val * 128 + (y 0 : ℕ), hR⟩ rfl
  rw [← hy, ← hE] at hp
  blk_simp
  rw [after0_9]; frame_out
  exact hp

end Cert.Combine

end
-- ==== Proof.Body.lean ====
/- What one grid point of the attention kernel leaves in its output block, as an explicit function of the
   blocks it is given: the counted loop over key chunks is the recursion `stateN` of the running maximum, the
   running sum and the accumulator, and each head's 128 columns are one product with that head's value matrix. -/
module

public import proofs.«01_k».proof.Proof.Gen.KernelIdeal.Frame
public import Idealize.ShloMosaic.Lib.VecWindow
public import Idealize.ShloMosaic.Lib.Pipeline.ValueKit

@[expose] public section

set_option maxRecDepth 16384

noncomputable section

namespace Cert.KernelIdeal.Body

open Idealize.ShloMosaic Idealize.ShloMosaic.TcCoe Idealize.SL Idealize.SL.Sem
open Cert.KernelIdeal Cert.KernelIdeal.Gen

variable {F : FTy → Type} [FloatOps F]

/-- The running maximum, the running sum and the accumulator of the online softmax. -/
abbrev St (F : FTy → Type) : Type := FVec F S1024x1 .f32 × FVec F S1024x1 .f32 × FVec F S1024x512 .f32

/-- The chunk of compressed keys the loop's trip `k` loads. -/
def kcAt (i : grid0.Coords) (k : Fin (k0_t1_loop i).trips) (x2 : Vec F S2048x512 .bf16) : Vec F S512x512 .bf16 :=
  View.ld x2 (Rect.unit (s := S2048x512) (k0_off1 i k) S512x512.size (k0_off1_inb i k))

/-- The chunk of rotary keys the loop's trip `k` loads. -/
def pcAt (i : grid0.Coords) (k : Fin (k0_t1_loop i).trips) (x3 : Vec F S2048x64 .bf16) : Vec F S512x64 .bf16 :=
  View.ld x3 (Rect.unit (s := S2048x64) (k0_off2 i k) S512x64.size (k0_off2_inb i k))

/-- One trip of the loop on the running state. -/
def step (i : grid0.Coords) (v2 : FVec F S1024x512 .bf16) (v5 : FVec F S1024x64 .bf16) (pos : IVec S1024x1 32)
    (x2 : Vec F S2048x512 .bf16) (x3 : Vec F S2048x64 .bf16) (k : Fin (k0_t1_loop i).trips) (s : St F) : St F :=
  (k0_pay28 (k0_pay5 i v2 v5 pos 0#32 1#32 k (kcAt i k x2) (pcAt i k x3) s.1),
   k0_pay8 i v2 v5 pos 0#32 1#32 k (kcAt i k x2) (pcAt i k x3) s.1 s.2.1,
   k0_pay27 (k0_pay3 (kcAt i k x2)) (k0_pay9 i v2 v5 pos 0#32 1#32 k (kcAt i k x2) (pcAt i k x3) s.1 s.2.2)
     (k0_pay10 i v2 v5 pos 0#32 1#32 k (kcAt i k x2) (pcAt i k x3) s.1))

/-- The state after the first `n` trips, from a state `s0`. -/
def stateN (i : grid0.Coords) (v2 : FVec F S1024x512 .bf16) (v5 : FVec F S1024x64 .bf16) (pos : IVec S1024x1 32)
    (x2 : Vec F S2048x512 .bf16) (x3 : Vec F S2048x64 .bf16) (s0 : St F) : ℕ → St F
  | 0 => s0
  | n + 1 => if h : n < (k0_t1_loop i).trips then step i v2 v5 pos x2 x3 ⟨n, h⟩ (stateN i v2 v5 pos x2 x3 s0 n)
      else stateN i v2 v5 pos x2 x3 s0 n

theorem hz2 : (![0, 0] : Fin 2 → Nat) = fun _ => 0 := by decide

/-- The pieces one trip of the loop writes. -/
theorem trip_pieces (𝒱 : Variants) (c : Dev nD) (bd : Option 𝒱.V) (i : grid0.Coords) (arg2 : Memref sig .tc .vmem S16x64x512 .bf16) (harg2 : arg2.IsWhole) (arg3 : Memref sig .tc .vmem S16x64x64 .bf16) (harg3 : arg3.IsWhole) (arg4 : Memref sig .tc .vmem S2048x512 .bf16) (harg4 : arg4.IsWhole) (arg5 : Memref sig .tc .vmem S2048x64 .bf16) (harg5 : arg5.IsWhole) (arg6 : Memref sig .tc .vmem S16x512x128 .bf16) (harg6 : arg6.IsWhole) (arg7 : Memref sig .tc .vmem S64x2048 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x512 .f32) (harg10 : arg10.IsWhole) (arg1 : BitVec 32) (v2 : FVec F S1024x512 .bf16) (v5 : FVec F S1024x64 .bf16) (v18 : BitVec 32) (v21 : BitVec 32) (v23 : IVec S1024x1 32) (v32 : IVec S1024x1 1) (X_arg4 : BufTy.Contents (Elt F) arg4.view.ty) (X_arg5 : BufTy.Contents (Elt F) arg5.view.ty)  (k : Fin (k0_t1_loop i).trips) (G8 : BufTy.Contents (Elt F) arg8.view.ty) (G9 : BufTy.Contents (Elt F) arg9.view.ty) (G10 : BufTy.Contents (Elt F) arg10.view.ty) :
    tripL_k0_t1 (F := F) 𝒱 c bd i arg2 harg2 arg3 harg3 arg4 harg4 arg5 harg5 arg6 harg6 arg7 harg7 arg8 harg8 arg9 harg9 arg10 harg10 arg1 v2 v5 v18 v21 v23 v32 X_arg4 X_arg5 k G8 G9 G10
      = ([⟨Rect.unit (s := S1024x1) ![0, 0] S1024x1.size inb_S1024x1_S1024x1_0_0, (step i v2 v5 (k0_pay26 v18 v21 v23 v32) (arg4.view.read (Elt F) X_arg4) (arg5.view.read (Elt F) X_arg5) k
            (arg8.view.read (Elt F) G8, arg9.view.read (Elt F) G9, arg10.view.read (Elt F) G10)).1⟩],
         [⟨Rect.unit (s := S1024x1) ![0, 0] S1024x1.size inb_S1024x1_S1024x1_0_0, (step i v2 v5 (k0_pay26 v18 v21 v23 v32) (arg4.view.read (Elt F) X_arg4) (arg5.view.read (Elt F) X_arg5) k
            (arg8.view.read (Elt F) G8, arg9.view.read (Elt F) G9, arg10.view.read (Elt F) G10)).2.1⟩],
         [⟨Rect.unit (s := S1024x512) ![0, 0] S1024x512.size inb_S1024x512_S1024x512_0_0, (step i v2 v5 (k0_pay26 v18 v21 v23 v32) (arg4.view.read (Elt F) X_arg4) (arg5.view.read (Elt F) X_arg5) k
            (arg8.view.read (Elt F) G8, arg9.view.read (Elt F) G9, arg10.view.read (Elt F) G10)).2.2⟩]) := by
  unfold tripL_k0_t1 trip_k0_t1
  dsimp only [trip_k0_t1.sl.r, trip_k0_t1.sl.r_1, trip_k0_t1.sl.r_2, trip_k0_t1.sl.r_3]
  simp only [View.readAt_eq_ld]
  have h8 : View.ld (arg8.view.read (Elt F) G8) (Rect.unit (s := S1024x1) ![0, 0] ![1024, 1] inb_S1024x1_S1024x1_0_0) = arg8.view.read (Elt F) G8 :=
    View.ld_unit_zero hz2 _ _
  have h9 : View.ld (arg9.view.read (Elt F) G9) (Rect.unit (s := S1024x1) ![0, 0] ![1024, 1] inb_S1024x1_S1024x1_0_0) = arg9.view.read (Elt F) G9 :=
    View.ld_unit_zero hz2 _ _
  have h10 : View.ld (arg10.view.read (Elt F) G10) (Rect.unit (s := S1024x512) ![0, 0] ![1024, 512] inb_S1024x512_S1024x512_0_0) = arg10.view.read (Elt F) G10 :=
    View.ld_unit_zero hz2 _ _
  rw [h8, h9, h10]
  rfl

/-- What the scratch buffers read after the first `n` trips. -/
theorem reads_pb (𝒱 : Variants) (c : Dev nD) (bd : Option 𝒱.V) (i : grid0.Coords) (arg2 : Memref sig .tc .vmem S16x64x512 .bf16) (harg2 : arg2.IsWhole) (arg3 : Memref sig .tc .vmem S16x64x64 .bf16) (harg3 : arg3.IsWhole) (arg4 : Memref sig .tc .vmem S2048x512 .bf16) (harg4 : arg4.IsWhole) (arg5 : Memref sig .tc .vmem S2048x64 .bf16) (harg5 : arg5.IsWhole) (arg6 : Memref sig .tc .vmem S16x512x128 .bf16) (harg6 : arg6.IsWhole) (arg7 : Memref sig .tc .vmem S64x2048 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x512 .f32) (harg10 : arg10.IsWhole) (arg1 : BitVec 32) (v2 : FVec F S1024x512 .bf16) (v5 : FVec F S1024x64 .bf16) (v18 : BitVec 32) (v21 : BitVec 32) (v23 : IVec S1024x1 32) (v32 : IVec S1024x1 1) (X_arg4 : BufTy.Contents (Elt F) arg4.view.ty) (X_arg5 : BufTy.Contents (Elt F) arg5.view.ty)  (G8 : BufTy.Contents (Elt F) arg8.view.ty) (G9 : BufTy.Contents (Elt F) arg9.view.ty) (G10 : BufTy.Contents (Elt F) arg10.view.ty) (n : ℕ) :
    (arg8.view.read (Elt F) (arg8.view.writes (Elt F) G8 (pb_k0_t1 (F := F) 𝒱 c bd i arg2 harg2 arg3 harg3 arg4 harg4 arg5 harg5 arg6 harg6 arg7 harg7 arg8 harg8 arg9 harg9 arg10 harg10 arg1 v2 v5 v18 v21 v23 v32 X_arg4 X_arg5 G8 G9 G10 n).1),
     arg9.view.read (Elt F) (arg9.view.writes (Elt F) G9 (pb_k0_t1 (F := F) 𝒱 c bd i arg2 harg2 arg3 harg3 arg4 harg4 arg5 harg5 arg6 harg6 arg7 harg7 arg8 harg8 arg9 harg9 arg10 harg10 arg1 v2 v5 v18 v21 v23 v32 X_arg4 X_arg5 G8 G9 G10 n).2.1),
     arg10.view.read (Elt F) (arg10.view.writes (Elt F) G10 (pb_k0_t1 (F := F) 𝒱 c bd i arg2 harg2 arg3 harg3 arg4 harg4 arg5 harg5 arg6 harg6 arg7 harg7 arg8 harg8 arg9 harg9 arg10 harg10 arg1 v2 v5 v18 v21 v23 v32 X_arg4 X_arg5 G8 G9 G10 n).2.2))
      = stateN i v2 v5 (k0_pay26 v18 v21 v23 v32) (arg4.view.read (Elt F) X_arg4) (arg5.view.read (Elt F) X_arg5)
          (arg8.view.read (Elt F) G8, arg9.view.read (Elt F) G9, arg10.view.read (Elt F) G10) n := by
  induction n with
  | zero => rfl
  | succ n ih =>
    by_cases h : n < (k0_t1_loop i).trips
    · have e := pb_k0_t1_succ (F := F) 𝒱 c bd i arg2 harg2 arg3 harg3 arg4 harg4 arg5 harg5 arg6 harg6 arg7 harg7 arg8 harg8 arg9 harg9 arg10 harg10 arg1 v2 v5 v18 v21 v23 v32 X_arg4 X_arg5 G8 G9 G10 ⟨n, h⟩
      have e' : pb_k0_t1 (F := F) 𝒱 c bd i arg2 harg2 arg3 harg3 arg4 harg4 arg5 harg5 arg6 harg6 arg7 harg7 arg8 harg8 arg9 harg9 arg10 harg10 arg1 v2 v5 v18 v21 v23 v32 X_arg4 X_arg5 G8 G9 G10 (n + 1) = _ := e
      rw [e', trip_pieces]
      have ih1 := congrArg Prod.fst ih
      have ih2 := congrArg (fun p => p.2.1) ih
      have ih3 := congrArg (fun p => p.2.2) ih
      dsimp only at ih1 ih2 ih3
      dsimp only [stateN]
      rw [dif_pos h]
      simp only [List.cons_append, List.nil_append]
      rw [ih1, ih2, ih3]
      refine Prod.ext ?_ (Prod.ext ?_ ?_)
      · exact View.read_writes_full _ _ _ _ _
      · exact View.read_writes_full _ _ _ _ _
      · exact View.read_writes_full _ _ _ _ _
    · have e' : pb_k0_t1 (F := F) 𝒱 c bd i arg2 harg2 arg3 harg3 arg4 harg4 arg5 harg5 arg6 harg6 arg7 harg7 arg8 harg8 arg9 harg9 arg10 harg10 arg1 v2 v5 v18 v21 v23 v32 X_arg4 X_arg5 G8 G9 G10 (n + 1) = pb_k0_t1 (F := F) 𝒱 c bd i arg2 harg2 arg3 harg3 arg4 harg4 arg5 harg5 arg6 harg6 arg7 harg7 arg8 harg8 arg9 harg9 arg10 harg10 arg1 v2 v5 v18 v21 v23 v32 X_arg4 X_arg5 G8 G9 G10 n := by
        rw [pb_k0_t1.eq_2]; unfold pb_k0_t1Step; exact dif_neg h
      rw [e', ih]
      dsimp only [stateN]
      rw [dif_neg h]

/-- The row positions of the block's queries, as the kernel computes them. -/
def posOf (i : grid0.Coords) : IVec S1024x1 32 :=
  k0_pay26 (Scalar.muli (BitVec.ofNat 32 (i 1).val) 64#32) 64#32 k0_pay24 k0_pay25

/-- The state at the end of the loop. -/
def finalSt (i : grid0.Coords) (x0 : Vec F S16x64x512 .bf16) (x1 : Vec F S16x64x64 .bf16) (x2 : Vec F S2048x512 .bf16)
    (x3 : Vec F S2048x64 .bf16) : St F :=
  stateN i (k0_pay19 x0) (k0_pay20 x1) (posOf i) x2 x3 (k0_pay21, k0_pay22, k0_pay23) (k0_t1_loop i).trips

theorem t2_zero (i : grid0.Coords) : (k0_t2_loop i).trips = 0 := Nat.le_zero.mp (k0_t2_abs i).2.1

theorem v6_eq (c : Dev nD) (i : grid0.Coords) (arg2 : Memref sig .tc .vmem S16x64x512 .bf16) (harg2 : arg2.IsWhole) (arg3 : Memref sig .tc .vmem S16x64x64 .bf16) (harg3 : arg3.IsWhole) (arg4 : Memref sig .tc .vmem S2048x512 .bf16) (harg4 : arg4.IsWhole) (arg5 : Memref sig .tc .vmem S2048x64 .bf16) (harg5 : arg5.IsWhole) (arg6 : Memref sig .tc .vmem S16x512x128 .bf16) (harg6 : arg6.IsWhole) (arg7 : Memref sig .tc .vmem S64x2048 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x512 .f32) (harg10 : arg10.IsWhole)     (x0 : Vec F S16x64x512 .bf16) (x1 : Vec F S16x64x64 .bf16) (x2 : Vec F S2048x512 .bf16) (x3 : Vec F S2048x64 .bf16)  :
    (kernelRun0_A.sl.v65 c i arg2 harg2 arg3 harg3 arg4 harg4 arg5 harg5 arg6 harg6 arg7 harg7 arg8 harg8 arg9 harg9 arg10 harg10 x0 x1 x2 x3, kernelRun0_A.sl.v64 c i arg2 harg2 arg3 harg3 arg4 harg4 arg5 harg5 arg6 harg6 arg7 harg7 arg8 harg8 arg9 harg9 arg10 harg10 x0 x1 x2 x3) = (finalSt i x0 x1 x2 x3).2 := by
  have hr0 : kernelRun0_A.sl.r c arg2 harg2 x0 = k0_pay19 x0 := by
    dsimp only [kernelRun0_A.sl.r]
    rw [View.readAt_eq_ld, harg2.read_unread]
    exact congrArg k0_pay19 (View.ld_unit_zero (by decide) _ _)
  have hr1 : kernelRun0_A.sl.r_1 c arg3 harg3 x1 = k0_pay20 x1 := by
    dsimp only [kernelRun0_A.sl.r_1]
    rw [View.readAt_eq_ld, harg3.read_unread]
    exact congrArg k0_pay20 (View.ld_unit_zero (by decide) _ _)
  have key := reads_pb (F := F) Variants.none c none i arg2 harg2 arg3 harg3 arg4 harg4 arg5 harg5 arg6 harg6 arg7 harg7 arg8 harg8 arg9 harg9 arg10 harg10 (BitVec.ofNat 32 ↑(i 1)) (k0_pay19 x0) (k0_pay20 x1)
    (kernelRun0_A.sl.v18 i) 64#32 k0_pay24 k0_pay25 (harg4.unread x2) (harg5.unread x3)
    (arg8.view.writes (Elt F) arg8.view.junk kernelRun0_A.sl.HS0_1)
    (arg9.view.writes (Elt F) arg9.view.junk kernelRun0_A.sl.HS1_1)
    (arg10.view.writes (Elt F) arg10.view.junk kernelRun0_A.sl.HS2_1) (k0_t1_loop i).trips
  have i8 : arg8.view.read (Elt F) (arg8.view.writes (Elt F) arg8.view.junk kernelRun0_A.sl.HS0_1) = k0_pay21 :=
    View.read_writes_full _ _ _ _ _
  have i9 : arg9.view.read (Elt F) (arg9.view.writes (Elt F) arg9.view.junk kernelRun0_A.sl.HS1_1) = k0_pay22 :=
    View.read_writes_full _ _ _ _ _
  have i10 : arg10.view.read (Elt F) (arg10.view.writes (Elt F) arg10.view.junk kernelRun0_A.sl.HS2_1) = k0_pay23 :=
    View.read_writes_full _ _ _ _ _
  rw [i8, i9, i10, harg4.read_unread, harg5.read_unread] at key
  have key2 := congrArg Prod.snd key
  refine Eq.trans ?_ key2
  dsimp only [kernelRun0_A.sl.v65, kernelRun0_A.sl.v64]
  rw [hr0, hr1]
  have ht : Scf.trips (k0_t2_loop i).lb (k0_t2_loop i).ub (k0_t2_loop i).st = 0 := t2_zero i
  rw [ht, pb_k0_t2.eq_1]
  refine Prod.ext ?_ ?_
  · dsimp only [View.readCov]
    rw [List.nil_append, View.readAt_eq_ld, View.writes_append]
    exact View.ld_unit_zero hz2 _ _
  · dsimp only [View.readCov]
    rw [List.nil_append, View.readAt_eq_ld, View.writes_append]
    exact View.ld_unit_zero hz2 _ _

/-- The attention rows of the block before the value product: the accumulator over the running sum. -/
def latRows (i : grid0.Coords) (x0 : Vec F S16x64x512 .bf16) (x1 : Vec F S16x64x64 .bf16) (x2 : Vec F S2048x512 .bf16)
    (x3 : Vec F S2048x64 .bf16) : FVec F S1024x512 .bf16 :=
  k0_pay31 (finalSt i x0 x1 x2 x3).2.2 (finalSt i x0 x1 x2 x3).2.1

end Cert.KernelIdeal.Body

namespace Cert.KernelIdeal.Body

open Idealize.ShloMosaic Idealize.ShloMosaic.TcCoe Idealize.SL Idealize.SL.Sem
open Cert.KernelIdeal Cert.KernelIdeal.Gen

set_option maxHeartbeats 4000000 in
/-- The output block at query `q`, head `h`, value column `d`: the row of the head times the head's value matrix. -/
theorem out_at (c : Dev nD) (i : grid0.Coords) (arg2 : Memref sig .tc .vmem S16x64x512 .bf16) (harg2 : arg2.IsWhole) (arg3 : Memref sig .tc .vmem S16x64x64 .bf16) (harg3 : arg3.IsWhole) (arg4 : Memref sig .tc .vmem S2048x512 .bf16) (harg4 : arg4.IsWhole) (arg5 : Memref sig .tc .vmem S2048x64 .bf16) (harg5 : arg5.IsWhole) (arg6 : Memref sig .tc .vmem S16x512x128 .bf16) (harg6 : arg6.IsWhole) (arg7 : Memref sig .tc .vmem S64x2048 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x512 .f32) (harg10 : arg10.IsWhole)     (x0 : Vec Ideal S16x64x512 .bf16) (x1 : Vec Ideal S16x64x64 .bf16) (x2 : Vec Ideal S2048x512 .bf16) (x3 : Vec Ideal S2048x64 .bf16) (x4 : Vec Ideal S16x512x128 .bf16) (y : S64x2048.Idx) (h : Fin 16) (hy : (y 1 : ℕ) / 128 = h.val) (r : Fin 1024) (hr : (r : ℕ) = h.val * 64 + (y 0 : ℕ)) (d : Fin 128) (hd : (d : ℕ) = (y 1 : ℕ) % 128) :
    out0_A_5 (F := Ideal) c i arg2 harg2 arg3 harg3 arg4 harg4 arg5 harg5 arg6 harg6 arg7 harg7 arg8 harg8 arg9 harg9 arg10 harg10 x0 x1 x2 x3 x4 y
      = ∑ k : Fin 512, latRows (F := Ideal) i x0 x1 x2 x3 (ix2 r k) * x4 (ix3 h k d) := by
  have key := v6_eq (F := Ideal) c i arg2 harg2 arg3 harg3 arg4 harg4 arg5 harg5 arg6 harg6 arg7 harg7 arg8 harg8 arg9 harg9 arg10 harg10 x0 x1 x2 x3
  have k1 : kernelRun0_A.sl.v65 c i arg2 harg2 arg3 harg3 arg4 harg4 arg5 harg5 arg6 harg6 arg7 harg7 arg8 harg8 arg9 harg9 arg10 harg10 x0 x1 x2 x3 = (finalSt i x0 x1 x2 x3).2.1 := congrArg Prod.fst key
  have k2 : kernelRun0_A.sl.v64 c i arg2 harg2 arg3 harg3 arg4 harg4 arg5 harg5 arg6 harg6 arg7 harg7 arg8 harg8 arg9 harg9 arg10 harg10 x0 x1 x2 x3 = (finalSt i x0 x1 x2 x3).2.2 := congrArg Prod.snd key
  have k3 : kernelRun0_A.sl.r_2 c i arg2 harg2 arg3 harg3 arg4 harg4 arg5 harg5 arg6 harg6 arg7 harg7 arg8 harg8 arg9 harg9 arg10 harg10 x0 x1 x2 x3 = latRows i x0 x1 x2 x3 := by
    dsimp only [kernelRun0_A.sl.r_2]; rw [k1, k2]; rfl
  have k4 : kernelRun0_A.sl.r_3 c i arg2 harg2 arg3 harg3 arg4 harg4 arg5 harg5 arg6 harg6 arg7 harg7 arg8 harg8 arg9 harg9 arg10 harg10 x0 x1 x2 x3 = extractStridedSlice S64x512 ![0, 0] (latRows i x0 x1 x2 x3) slices_S1024x512_o0_0_S64x512 := by
    dsimp only [kernelRun0_A.sl.r_3]; rw [k1, k2]; rfl
  unfold out0_A_5
  unfold kernelRun0_A
  dsimp only [kernelRun0_A.sl.r_4, kernelRun0_A.sl.r_5, kernelRun0_A.sl.r_6]
  rw [k3, k4]
  generalize latRows i x0 x1 x2 x3 = T
  clear key k1 k2 k3 k4
  rw [View.read_writes_junk_eq_canon]
  simp only [View.readAt_eq_ld, harg6.read_unread]
  have hy0 : (y 0 : ℕ) < 64 := (y 0).isLt
  have hy1 : (y 1 : ℕ) < 2048 := (y 1).isLt
  canon_tiles x hx
  all_goals
    (refine Eq.trans (b := ∑ k : Fin 512, T (ix2 r k) * x4 (ix3 h k d)) ?_ rfl
     open_payloads
     pointwise
     refine Finset.sum_congr rfl fun k _ => ?_
     refine Ideal.mul_congr ?_ ?_
     · blk_ext
     · blk_ext)

end Cert.KernelIdeal.Body

end
-- ==== Proof.Rows.lean ====
/- The loop's trip read row by row, over the extended reals: the masked scores of a chunk, the running maximum, the
   running sum and the accumulator at an index. -/
module

public import proofs.«01_k».proof.Proof.Body
public import Idealize.ShloMosaic.Lib.Pointwise
public import Idealize.ShloMosaic.Lib.Claim
public import Idealize.ShloMosaic.Lib.WordCmp

@[expose] public section

set_option maxRecDepth 16384

noncomputable section

namespace Cert.KernelIdeal.Body

open Idealize.ShloMosaic Idealize.ShloMosaic.TcCoe Idealize.SL Idealize.SL.Sem
open Cert.KernelIdeal Cert.KernelIdeal.Gen

/-- The mask's literal is `-∞`. -/
theorem neg_inf : Ideal.ofBits FTy.f32 4286578688#32 = ⊥ := by
  simp [Ideal.ofBits, Ideal.ieee]

theorem trips_eq : ∀ i : grid0.Coords, (k0_t1_loop i).trips = (64 * (i 1).val + 575) / 512 := by
  decide +kernel

/-- A row's position in its block of queries. -/
theorem local_pos : ∀ r : Fin 1024, (k0_pay26 0#32 64#32 k0_pay24 k0_pay25) (ix2 r 0) = BitVec.ofNat 32 (r.val % 64) := by
  decide +kernel

/-- A row's position in its sequence. -/
theorem pos_at (i : grid0.Coords) (r : Fin 1024) : posOf i (ix2 r 0) = BitVec.ofNat 32 (64 * (i 1).val + r.val % 64) := by
  have h := local_pos r
  have hi : (i 1).val < 32 := (i 1).isLt
  unfold posOf
  pointwise [k0_pay26] at h ⊢
  generalize Scalar.select (k0_pay25 (ix2 r 0)) (IntOp.addi (k0_pay24 (ix2 r 0)) 64#32) (k0_pay24 (ix2 r 0)) = w at h ⊢
  have h' : w = BitVec.ofNat 32 (r.val % 64) := by
    rw [← h]; simp [IntOp.addi]
  rw [h']
  simp (disch := omega) only [hlo_ix, Scalar.muli, IntOp.muli, IntOp.addi]
  apply BitVec.eq_of_toNat_eq
  simp [BitVec.toNat_ofNat, BitVec.toNat_add, BitVec.toNat_mul]
  omega

/-- A chunk's row of compressed keys is the sequence's. -/
theorem kc_at (i : grid0.Coords) (k : Fin (k0_t1_loop i).trips) (x2 : Vec Ideal S2048x512 .bf16) (j c : Fin 512) (n : Fin 2048)
    (hn : n.val = 512 * k.val + j.val) : kcAt (F := Ideal) i k x2 (ix2 j c) = x2 (ix2 n c) := by
  unfold kcAt
  simp only [View.ld]
  refine congrArg x2 ?_
  have e := k0_off1_eq i k
  funext a
  refine Fin.ext ?_
  fin_cases a <;> simp [e, hn, ix2]

theorem pc_at (i : grid0.Coords) (k : Fin (k0_t1_loop i).trips) (x3 : Vec Ideal S2048x64 .bf16) (j : Fin 512) (c : Fin 64) (n : Fin 2048)
    (hn : n.val = 512 * k.val + j.val) : pcAt (F := Ideal) i k x3 (ix2 j c) = x3 (ix2 n c) := by
  unfold pcAt
  simp only [View.ld]
  refine congrArg x3 ?_
  have e := k0_off2_eq i k
  funext a
  refine Fin.ext ?_
  fin_cases a <;> simp [e, hn, ix2]

/-- The masked score of a row against a chunk's key. -/
theorem masked_at (i : grid0.Coords) (v2 : FVec Ideal S1024x512 .bf16) (v5 : FVec Ideal S1024x64 .bf16)
    (k : Fin (k0_t1_loop i).trips) (kc : FVec Ideal S512x512 .bf16) (pc : FVec Ideal S512x64 .bf16) (r : Fin 1024) (j : Fin 512) :
    k0_pay4 (F := Ideal) i v2 v5 (posOf i) 0#32 1#32 k kc pc (ix2 r j)
      = if 512 * k.val + j.val ≤ 64 * (i 1).val + r.val % 64
        then (∑ x : Fin 512, v2 (ix2 r x) * kc (ix2 j x)) + ∑ x : Fin 64, v5 (ix2 r x) * pc (ix2 j x) else ⊥ := by
  have hk : k.val < 4 := lt_of_lt_of_le k.isLt (k0_t1_abs i).2.1
  have hi : (i 1).val < 32 := (i 1).isLt
  have hj := j.isLt
  pointwise [k0_pay4, k0_pay3]
  rw [pos_at, neg_inf]
  have e : IntOp.addi (Scalar.muli (Scf.iv 0#32 1#32 k.val) 512#32) (BitVec.ofNat 32 j.val) = BitVec.ofNat 32 (512 * k.val + j.val) := by
    have e1 : Scf.iv 0#32 1#32 k.val = BitVec.ofNat 32 k.val := by simp [Scf.iv]
    rw [e1]
    apply BitVec.eq_of_toNat_eq
    simp [Scalar.muli, IntOp.muli, IntOp.addi, BitVec.toNat_ofNat, BitVec.toNat_add, BitVec.toNat_mul]
    omega
  rw [e]
  simp (disch := omega) only [hlo_ix]

theorem m_at (i : grid0.Coords) (v2 : FVec Ideal S1024x512 .bf16) (v5 : FVec Ideal S1024x64 .bf16) (pos : IVec S1024x1 32)
    (k : Fin (k0_t1_loop i).trips) (kc : FVec Ideal S512x512 .bf16) (pc : FVec Ideal S512x64 .bf16) (m : FVec Ideal S1024x1 .f32) (r : Fin 1024) :
    k0_pay28 (F := Ideal) (k0_pay5 i v2 v5 pos 0#32 1#32 k kc pc m) (ix2 r 0)
      = max (m (ix2 r 0)) (Finset.fold max ⊥ (fun x : Fin 512 => k0_pay4 (F := Ideal) i v2 v5 pos 0#32 1#32 k kc pc (ix2 r x)) Finset.univ) := by
  pointwise [k0_pay28, k0_pay5]
  rw [neg_inf]

theorem l_at (i : grid0.Coords) (v2 : FVec Ideal S1024x512 .bf16) (v5 : FVec Ideal S1024x64 .bf16) (pos : IVec S1024x1 32)
    (k : Fin (k0_t1_loop i).trips) (kc : FVec Ideal S512x512 .bf16) (pc : FVec Ideal S512x64 .bf16) (m l : FVec Ideal S1024x1 .f32) (r : Fin 1024) :
    k0_pay8 (F := Ideal) i v2 v5 pos 0#32 1#32 k kc pc m l (ix2 r 0)
      = l (ix2 r 0) * Ideal.exp (m (ix2 r 0) - k0_pay28 (F := Ideal) (k0_pay5 i v2 v5 pos 0#32 1#32 k kc pc m) (ix2 r 0))
        + ∑ x : Fin 512, Ideal.exp (k0_pay4 (F := Ideal) i v2 v5 pos 0#32 1#32 k kc pc (ix2 r x)
            - k0_pay28 (F := Ideal) (k0_pay5 i v2 v5 pos 0#32 1#32 k kc pc m) (ix2 r 0)) := by
  rw [m_at]
  pointwise [k0_pay8, k0_pay7, k0_pay6, k0_pay5]
  rw [neg_inf]

theorem a_at (i : grid0.Coords) (v2 : FVec Ideal S1024x512 .bf16) (v5 : FVec Ideal S1024x64 .bf16) (pos : IVec S1024x1 32)
    (k : Fin (k0_t1_loop i).trips) (kc : FVec Ideal S512x512 .bf16) (pc : FVec Ideal S512x64 .bf16) (m : FVec Ideal S1024x1 .f32)
    (a : FVec Ideal S1024x512 .f32) (r : Fin 1024) (c : Fin 512) :
    k0_pay27 (F := Ideal) (k0_pay3 kc) (k0_pay9 i v2 v5 pos 0#32 1#32 k kc pc m a) (k0_pay10 i v2 v5 pos 0#32 1#32 k kc pc m) (ix2 r c)
      = a (ix2 r c) * Ideal.exp (m (ix2 r 0) - k0_pay28 (F := Ideal) (k0_pay5 i v2 v5 pos 0#32 1#32 k kc pc m) (ix2 r 0))
        + ∑ x : Fin 512, Ideal.exp (k0_pay4 (F := Ideal) i v2 v5 pos 0#32 1#32 k kc pc (ix2 r x)
            - k0_pay28 (F := Ideal) (k0_pay5 i v2 v5 pos 0#32 1#32 k kc pc m) (ix2 r 0)) * kc (ix2 x c) := by
  rw [m_at]
  pointwise [k0_pay27, k0_pay9, k0_pay10, k0_pay7, k0_pay6, k0_pay5, k0_pay3]
  rw [neg_inf]

theorem lat_at (v64 : FVec Ideal S1024x512 .f32) (v65 : FVec Ideal S1024x1 .f32) (r : Fin 1024) (c : Fin 512) :
    k0_pay31 (F := Ideal) v64 v65 (ix2 r c) = Ideal.div (v64 (ix2 r c)) (v65 (ix2 r 0)) := by
  pointwise [k0_pay31]

theorem m0_at (r : Fin 1024) : k0_pay21 (F := Ideal) (ix2 r 0) = ⊥ := by
  pointwise [k0_pay21]
  rw [neg_inf]

theorem l0_at (r : Fin 1024) : k0_pay22 (F := Ideal) (ix2 r 0) = 0 := by
  pointwise [k0_pay22]

theorem a0_at (r : Fin 1024) (c : Fin 512) : k0_pay23 (F := Ideal) (ix2 r c) = 0 := by
  pointwise [k0_pay23]

theorem q_at (x0 : Vec Ideal S16x64x512 .bf16) (r : Fin 1024) (c : Fin 512) (h : Fin 16) (t : Fin 64) (hr : r.val = h.val * 64 + t.val) :
    k0_pay19 (F := Ideal) x0 (ix2 r c) = x0 (ix3 h t c) := by
  pointwise [k0_pay19]
  have e1 : (⟨r.val / 64, by omega⟩ : Fin 16) = h := Fin.ext (by simp; omega)
  have e2 : (⟨r.val % 64, by omega⟩ : Fin 64) = t := Fin.ext (by simp; omega)
  rw [e1, e2]

theorem qp_at (x1 : Vec Ideal S16x64x64 .bf16) (r : Fin 1024) (c : Fin 64) (h : Fin 16) (t : Fin 64) (hr : r.val = h.val * 64 + t.val) :
    k0_pay20 (F := Ideal) x1 (ix2 r c) = x1 (ix3 h t c) := by
  pointwise [k0_pay20]
  have e1 : (⟨r.val / 64, by omega⟩ : Fin 16) = h := Fin.ext (by simp; omega)
  have e2 : (⟨r.val % 64, by omega⟩ : Fin 64) = t := Fin.ext (by simp; omega)
  rw [e1, e2]

end Cert.KernelIdeal.Body

end
-- ==== Proof.Online.lean ====
/- The running softmax over the extended reals: a maximum, a sum and a weighted sum carried over chunks of 512 keys end at
   the softmax of the whole row. -/
module

public import Idealize.ShloMosaic.PureOps
public import Idealize.ShloMosaic.Lib.IdealHost

@[expose] public section

set_option maxRecDepth 16384

noncomputable section

namespace Cert.Online

open Idealize.ShloMosaic

/-- The weight of a score `x` under the maximum `μ`: `exp (x - μ)`, and 0 of a masked score. -/
def wt (μ : ℝ) : EReal → ℝ
  | ⊥ => 0
  | ⊤ => 0
  | (x : ℝ) => Real.exp (x - μ)

theorem wt_bot (μ : ℝ) : wt μ ⊥ = 0 := rfl
theorem wt_top (μ : ℝ) : wt μ ⊤ = 0 := rfl
theorem wt_coe (μ x : ℝ) : wt μ (x : EReal) = Real.exp (x - μ) := rfl

theorem exp_sub (μ : ℝ) (x : EReal) (hx : x ≠ ⊤) : Ideal.exp (x - (μ : EReal)) = ((wt μ x : ℝ) : EReal) := by
  induction x with
  | bot => simp [wt_bot, EReal.bot_sub]
  | top => exact absurd rfl hx
  | coe x => rw [← EReal.coe_sub, Ideal.exp_coe]; rfl

theorem wt_nonneg (μ : ℝ) (x : EReal) : 0 ≤ wt μ x := by
  induction x with
  | bot => exact le_refl _
  | top => exact le_refl _
  | coe x => exact (Real.exp_pos _).le

theorem wt_shift (μ ν : ℝ) (x : EReal) : wt μ x * Real.exp (μ - ν) = wt ν x := by
  induction x with
  | bot => simp [wt_bot]
  | top => simp [wt_top]
  | coe x => rw [wt_coe, wt_coe, ← Real.exp_add]; congr 1; ring

theorem coe_sum {ι : Type} (s : Finset ι) (f : ι → ℝ) : ∑ x ∈ s, ((f x : ℝ) : EReal) = ((∑ x ∈ s, f x : ℝ) : EReal) := by
  classical
  induction s using Finset.induction_on with
  | empty => simp
  | insert a s ha ih => rw [Finset.sum_insert ha, Finset.sum_insert ha, ih, EReal.coe_add]

/-- The maximum of the first `n` scores. -/
def mx (S : ℕ → EReal) (n : ℕ) : EReal := (Finset.range n).sup S

theorem mx_add (S : ℕ → EReal) (n k : ℕ) : mx S (n + k) = max (mx S n) (Finset.fold max ⊥ (fun x : Fin k => S (n + x.val)) Finset.univ) := by
  have e : Finset.fold max ⊥ (fun x : Fin k => S (n + x.val)) Finset.univ = Finset.univ.sup fun x : Fin k => S (n + x.val) := rfl
  rw [e]
  apply le_antisymm
  · refine Finset.sup_le fun j hj => ?_
    rw [Finset.mem_range] at hj
    by_cases h : j < n
    · exact le_max_of_le_left (Finset.le_sup (f := S) (Finset.mem_range.mpr h))
    · refine le_max_of_le_right ?_
      have := Finset.le_sup (f := fun x : Fin k => S (n + x.val)) (Finset.mem_univ (⟨j - n, by omega⟩ : Fin k))
      simpa [show n + (j - n) = j by omega] using this
  · refine max_le (Finset.sup_mono (Finset.range_mono (by omega))) (Finset.sup_le fun x _ => ?_)
    exact Finset.le_sup (f := S) (Finset.mem_range.mpr (by omega))

theorem mx_fold (S : ℕ → EReal) (n : ℕ) : Finset.fold max ⊥ (fun x : Fin n => S x.val) Finset.univ = mx S n := by
  have h := mx_add S 0 n
  simp only [Nat.zero_add] at h
  rw [h]
  simp [mx]

/-- Masked scores beyond the first `n` leave the maximum. -/
theorem mx_mask (S : ℕ → EReal) (n k : ℕ) (h : ∀ j, n ≤ j → S j = ⊥) : mx S (n + k) = mx S n := by
  rw [mx_add]
  refine max_eq_left ?_
  have e : Finset.fold max ⊥ (fun x : Fin k => S (n + x.val)) Finset.univ = Finset.univ.sup fun x : Fin k => S (n + x.val) := rfl
  rw [e]
  exact Finset.sup_le fun x _ => by rw [h _ (by omega)]; exact bot_le

theorem mx_real (S : ℕ → EReal) (hS : ∀ j, S j ≠ ⊤) (h0 : S 0 ≠ ⊥) (n : ℕ) (hn : 0 < n) : ∃ μ : ℝ, mx S n = (μ : EReal) := by
  have h1 : mx S n ≠ ⊥ := by
    intro h
    have := Finset.le_sup (f := S) (Finset.mem_range.mpr hn)
    change S 0 ≤ mx S n at this
    rw [h] at this
    exact h0 (le_bot_iff.mp this)
  have h2 : mx S n ≠ ⊤ := by
    have : mx S n < ⊤ := (Finset.sup_lt_iff (by exact bot_lt_top)).mpr fun j _ => lt_top_iff_ne_top.mpr (hS j)
    exact this.ne
  exact ⟨(mx S n).toReal, (EReal.coe_toReal h2 h1).symm⟩

/-- What the running state holds after `n` chunks of 512. -/
structure Holds (S : ℕ → EReal) (V : ℕ → ℝ) (n : ℕ) (m l a : EReal) : Prop where
  max : m = mx S (512 * n)
  init : n = 0 → l = 0 ∧ a = 0
  sum : ∀ μ : ℝ, m = (μ : EReal) → l = ((∑ j ∈ Finset.range (512 * n), wt μ (S j) : ℝ) : EReal)
  acc : ∀ μ : ℝ, m = (μ : EReal) → a = ((∑ j ∈ Finset.range (512 * n), wt μ (S j) * V j : ℝ) : EReal)

theorem Holds.zero (S : ℕ → EReal) (V : ℕ → ℝ) : Holds S V 0 ⊥ 0 0 where
  max := by simp [mx]
  init := fun _ => ⟨rfl, rfl⟩
  sum := fun μ h => absurd h.symm (EReal.coe_ne_bot μ)
  acc := fun μ h => absurd h.symm (EReal.coe_ne_bot μ)

theorem Holds.step (S : ℕ → EReal) (V : ℕ → ℝ) (hS : ∀ j, S j ≠ ⊤) (h0 : S 0 ≠ ⊥) (n : ℕ) (m l a m' l' a' : EReal) (h : Holds S V n m l a)
    (hm : m' = Max.max m (Finset.fold Max.max ⊥ (fun x : Fin 512 => S (512 * n + x.val)) Finset.univ))
    (hl : l' = l * Ideal.exp (m - m') + ∑ x : Fin 512, Ideal.exp (S (512 * n + x.val) - m'))
    (ha : a' = a * Ideal.exp (m - m') + ∑ x : Fin 512, Ideal.exp (S (512 * n + x.val) - m') * ((V (512 * n + x.val) : ℝ) : EReal)) :
    Holds S V (n + 1) m' l' a' := by
  have hm' : m' = mx S (512 * (n + 1)) := by rw [hm, h.max, ← mx_add]; rfl
  obtain ⟨μ', hμ'⟩ := mx_real S hS h0 (512 * (n + 1)) (by omega)
  have hsplit : ∀ f : ℕ → ℝ, ∑ j ∈ Finset.range (512 * (n + 1)), f j = (∑ j ∈ Finset.range (512 * n), f j) + ∑ x : Fin 512, f (512 * n + x.val) := by
    intro f
    rw [show 512 * (n + 1) = 512 * n + 512 by ring, Finset.sum_range_add, Finset.sum_range (fun x => f (512 * n + x))]
  have hL : l * Ideal.exp (m - m') = ((∑ j ∈ Finset.range (512 * n), wt μ' (S j) : ℝ) : EReal)
      ∧ a * Ideal.exp (m - m') = ((∑ j ∈ Finset.range (512 * n), wt μ' (S j) * V j : ℝ) : EReal) := by
    rcases Nat.eq_zero_or_pos n with rfl | hn
    · obtain ⟨e1, e2⟩ := h.init rfl
      rw [e1, e2]; simp
    · obtain ⟨μ, hμ⟩ := mx_real S hS h0 (512 * n) (by omega)
      have e := h.max.trans hμ
      rw [h.sum μ e, h.acc μ e, e, hm', hμ', ← EReal.coe_sub, Ideal.exp_coe, ← EReal.coe_mul, ← EReal.coe_mul, Finset.sum_mul, Finset.sum_mul]
      refine ⟨?_, ?_⟩ <;> congr 1 <;> refine Finset.sum_congr rfl fun j _ => ?_
      · exact wt_shift _ _ _
      · rw [← wt_shift μ μ' (S j)]; ring
  refine ⟨hm', fun h => absurd h (by omega), fun μ hμ => ?_, fun μ hμ => ?_⟩
  · have : μ = μ' := by
      have := hμ.symm.trans (hm'.trans hμ'); exact_mod_cast this
    subst this
    rw [hl, hL.1, hμ, hsplit, EReal.coe_add, ← coe_sum Finset.univ]
    congr 1
    exact Finset.sum_congr rfl fun x _ => exp_sub _ _ (hS _)
  · have : μ = μ' := by
      have := hμ.symm.trans (hm'.trans hμ'); exact_mod_cast this
    subst this
    rw [ha, hL.2, hμ, hsplit, EReal.coe_add, ← coe_sum Finset.univ]
    congr 1
    refine Finset.sum_congr rfl fun x _ => ?_
    rw [exp_sub _ _ (hS _), EReal.coe_mul]

/-- The quotient of the two running sums after the chunks that hold every unmasked key is the softmax of the whole row, weighted. -/
theorem Holds.softmax (S : ℕ → EReal) (V : ℕ → ℝ) (hS : ∀ j, S j ≠ ⊤) (h0 : S 0 ≠ ⊥) (n k N : ℕ) (m l a : EReal) (h : Holds S V n m l a)
    (hn : 0 < n) (hN : N = 512 * n + k) (hmask : ∀ j, 512 * n ≤ j → S j = ⊥) :
    Ideal.div a l = ∑ j : Fin N, ((V j.val : ℝ) : EReal) * Ideal.div (Ideal.exp (S j.val - Finset.fold Max.max ⊥ (fun x : Fin N => S x.val) Finset.univ))
      (∑ x : Fin N, Ideal.exp (S x.val - Finset.fold Max.max ⊥ (fun x : Fin N => S x.val) Finset.univ)) := by
  subst hN
  obtain ⟨μ, hμ⟩ := mx_real S hS h0 (512 * n) (by omega)
  have hm := h.max.trans hμ
  have e0 : ∀ f : ℕ → ℝ, ∑ x : Fin (512 * n + k), wt μ (S x.val) * f x.val = ∑ j ∈ Finset.range (512 * n), wt μ (S j) * f j := by
    intro f
    rw [← Finset.sum_range (fun x => wt μ (S x) * f x), Finset.sum_range_add]
    have : ∑ x ∈ Finset.range k, wt μ (S (512 * n + x)) * f (512 * n + x) = 0 :=
      Finset.sum_eq_zero fun x _ => by rw [hmask _ (by omega), wt_bot, zero_mul]
    rw [this, add_zero]
  have e1 : ∑ x : Fin (512 * n + k), wt μ (S x.val) = ∑ j ∈ Finset.range (512 * n), wt μ (S j) := by
    simpa using e0 fun _ => 1
  rw [mx_fold S, mx_mask S (512 * n) k hmask, hμ, h.sum μ hm, h.acc μ hm]
  have e2 : ∑ x : Fin (512 * n + k), Ideal.exp (S x.val - (μ : EReal)) = ((∑ j ∈ Finset.range (512 * n), wt μ (S j) : ℝ) : EReal) := by
    rw [← e1, ← coe_sum]
    exact Finset.sum_congr rfl fun x _ => exp_sub _ _ (hS _)
  rw [e2]
  have hpos : (∑ j ∈ Finset.range (512 * n), wt μ (S j)) ≠ 0 := by
    refine ne_of_gt (Finset.sum_pos' (fun j _ => wt_nonneg _ _) ⟨0, Finset.mem_range.mpr (by omega), ?_⟩)
    have h0' := hS 0
    revert h0 h0'
    induction S 0 with
    | bot => intro h _; exact absurd rfl h
    | top => intro _ h; exact absurd rfl h
    | coe x => intro _ _; exact Real.exp_pos _
  rw [Ideal.div_coe hpos, ← EReal.coe_mul, ← e0 V, Finset.sum_mul, ← coe_sum]
  refine Finset.sum_congr rfl fun x _ => ?_
  rw [exp_sub _ _ (hS _), Ideal.div_coe hpos, ← EReal.coe_mul, ← EReal.coe_mul]
  congr 1
  ring

end Cert.Online

end
-- ==== Proof.Block.lean ====
/- What one block of queries computes: each of its rows of latent outputs is the softmax of the row's masked scores over
   the whole sequence, weighted with the compressed keys. -/
module

public import proofs.«01_k».proof.Proof.Rows
public import proofs.«01_k».proof.Proof.Online

@[expose] public section

set_option maxRecDepth 16384

noncomputable section

namespace Cert.KernelIdeal.Body

open Idealize.ShloMosaic Idealize.ShloMosaic.TcCoe Idealize.SL Idealize.SL.Sem
open Cert.KernelIdeal Cert.KernelIdeal.Gen Cert.Online

/-- A finite number. -/
def Fn (x : EReal) : Prop := ∃ v : ℝ, x = (v : EReal)

theorem Fn.mul {x y : EReal} (hx : Fn x) (hy : Fn y) : Fn (x * y) := by
  obtain ⟨a, rfl⟩ := hx; obtain ⟨b, rfl⟩ := hy; exact ⟨a * b, (EReal.coe_mul a b).symm⟩

theorem Fn.add {x y : EReal} (hx : Fn x) (hy : Fn y) : Fn (x + y) := by
  obtain ⟨a, rfl⟩ := hx; obtain ⟨b, rfl⟩ := hy; exact ⟨a + b, (EReal.coe_add a b).symm⟩

theorem Fn.sum {ι : Type} [Fintype ι] {f : ι → EReal} (h : ∀ x, Fn (f x)) : Fn (∑ x, f x) := by
  choose g hg using h
  exact ⟨∑ x, g x, by rw [← coe_sum]; exact Finset.sum_congr rfl fun x _ => hg x⟩

/-- The score of the query at row `t` of head `h` against the key `n`. -/
def score (x0 : Vec Ideal S16x64x512 .bf16) (x1 : Vec Ideal S16x64x64 .bf16) (x2 : Vec Ideal S2048x512 .bf16) (x3 : Vec Ideal S2048x64 .bf16)
    (h : Fin 16) (t : Fin 64) (n : Fin 2048) : EReal :=
  (∑ x : Fin 512, x0 (ix3 h t x) * x2 (ix2 n x)) + ∑ x : Fin 64, x1 (ix3 h t x) * x3 (ix2 n x)

/-- The softmax over the keys of the masked scores `s`, weighted with `v`. -/
def attend (s v : Fin 2048 → EReal) : EReal :=
  ∑ n : Fin 2048, v n * Ideal.div (Ideal.exp (s n - Finset.fold max ⊥ s Finset.univ)) (∑ x : Fin 2048, Ideal.exp (s x - Finset.fold max ⊥ s Finset.univ))

section row

variable (i : grid0.Coords) (x0 : Vec Ideal S16x64x512 .bf16) (x1 : Vec Ideal S16x64x64 .bf16) (x2 : Vec Ideal S2048x512 .bf16) (x3 : Vec Ideal S2048x64 .bf16)
  (r : Fin 1024) (h : Fin 16) (t : Fin 64) (hr : r.val = h.val * 64 + t.val) (c : Fin 512)

/-- The row's masked scores, over the naturals. -/
def ms (q : ℕ) (j : ℕ) : EReal := if hj : j < 2048 then (if j ≤ q then score x0 x1 x2 x3 h t ⟨j, hj⟩ else ⊥) else ⊥

/-- The keys' column `c`, over the naturals. -/
def col (j : ℕ) : ℝ := if hj : j < 2048 then (x2 (ix2 ⟨j, hj⟩ c)).toReal else 0

include hr in
theorem trip_holds (hs : ∀ n, Fn (score x0 x1 x2 x3 h t n)) (hv : ∀ n, Fn (x2 (ix2 n c))) (n : ℕ) (hn : n ≤ (k0_t1_loop i).trips) :
    Holds (ms x0 x1 x2 x3 h t (64 * (i 1).val + t.val)) (col x2 c) n
      ((stateN (F := Ideal) i (k0_pay19 x0) (k0_pay20 x1) (posOf i) x2 x3 (k0_pay21, k0_pay22, k0_pay23) n).1 (ix2 r 0))
      ((stateN (F := Ideal) i (k0_pay19 x0) (k0_pay20 x1) (posOf i) x2 x3 (k0_pay21, k0_pay22, k0_pay23) n).2.1 (ix2 r 0))
      ((stateN (F := Ideal) i (k0_pay19 x0) (k0_pay20 x1) (posOf i) x2 x3 (k0_pay21, k0_pay22, k0_pay23) n).2.2 (ix2 r c)) := by
  have htop : ∀ j, ms x0 x1 x2 x3 h t (64 * (i 1).val + t.val) j ≠ ⊤ := by
    intro j
    unfold ms
    split
    · split
      · obtain ⟨v, e⟩ := hs ⟨j, by assumption⟩
        rw [e]; exact EReal.coe_ne_top v
      · exact bot_ne_top
    · exact bot_ne_top
  have hbot : ms x0 x1 x2 x3 h t (64 * (i 1).val + t.val) 0 ≠ ⊥ := by
    unfold ms
    rw [dif_pos (by omega), if_pos (by omega)]
    obtain ⟨v, e⟩ := hs ⟨0, by omega⟩
    rw [e]; exact EReal.coe_ne_bot v
  induction n with
  | zero =>
    have e := Holds.zero (ms x0 x1 x2 x3 h t (64 * (i 1).val + t.val)) (col x2 c)
    simp only [stateN]
    rw [m0_at, l0_at, a0_at]
    exact e
  | succ n ih =>
    have hlt : n < (k0_t1_loop i).trips := hn
    have h4 : n < 4 := lt_of_lt_of_le hlt (k0_t1_abs i).2.1
    have ih := ih (by omega)
    have hpay : ∀ x : Fin 512, k0_pay4 (F := Ideal) i (k0_pay19 x0) (k0_pay20 x1) (posOf i) 0#32 1#32 ⟨n, hlt⟩ (kcAt i ⟨n, hlt⟩ x2) (pcAt i ⟨n, hlt⟩ x3) (ix2 r x)
        = ms x0 x1 x2 x3 h t (64 * (i 1).val + t.val) (512 * n + x.val) := by
      intro x
      have hx := x.isLt
      rw [masked_at]
      unfold ms score
      rw [dif_pos (by omega)]
      have hrt : r.val % 64 = t.val := by omega
      rw [hrt]
      congr 1
      congr 1
      · refine Finset.sum_congr rfl fun y _ => ?_
        rw [q_at x0 r y h t hr, kc_at i ⟨n, hlt⟩ x2 x y ⟨512 * n + x.val, by omega⟩ rfl]
      · refine Finset.sum_congr rfl fun y _ => ?_
        rw [qp_at x1 r y h t hr, pc_at i ⟨n, hlt⟩ x3 x y ⟨512 * n + x.val, by omega⟩ rfl]
    have hcol : ∀ x : Fin 512, kcAt (F := Ideal) i ⟨n, hlt⟩ x2 (ix2 x c) = ((col x2 c (512 * n + x.val) : ℝ) : EReal) := by
      intro x
      have hx := x.isLt
      rw [kc_at i ⟨n, hlt⟩ x2 x c ⟨512 * n + x.val, by omega⟩ rfl]
      unfold col
      rw [dif_pos (by omega)]
      obtain ⟨v, e⟩ := hv ⟨512 * n + x.val, by omega⟩
      rw [e, EReal.toReal_coe]
    simp only [stateN, dif_pos hlt, step]
    refine Holds.step _ _ htop hbot n _ _ _ _ _ _ ih ?_ ?_ ?_
    · rw [m_at]; simp only [hpay]
    · rw [l_at]; simp only [hpay]
    · rw [a_at]; simp only [hpay, hcol]

include hr in
/-- A row of the block's latent outputs. -/
theorem lat_block (hs : ∀ n, Fn (score x0 x1 x2 x3 h t n)) (hv : ∀ n, Fn (x2 (ix2 n c))) :
    latRows (F := Ideal) i x0 x1 x2 x3 (ix2 r c)
      = attend (fun n => if n.val ≤ 64 * (i 1).val + t.val then score x0 x1 x2 x3 h t n else ⊥) (fun n => x2 (ix2 n c)) := by
  have hi : (i 1).val < 32 := (i 1).isLt
  have ht := t.isLt
  have H := trip_holds i x0 x1 x2 x3 r h t hr c hs hv (k0_t1_loop i).trips le_rfl
  have htr := trips_eq i
  unfold latRows
  rw [lat_at]
  unfold finalSt
  have htop : ∀ j, ms x0 x1 x2 x3 h t (64 * (i 1).val + t.val) j ≠ ⊤ := by
    intro j
    unfold ms
    split
    · split
      · obtain ⟨v, e⟩ := hs ⟨j, by assumption⟩
        rw [e]; exact EReal.coe_ne_top v
      · exact bot_ne_top
    · exact bot_ne_top
  have hbot : ms x0 x1 x2 x3 h t (64 * (i 1).val + t.val) 0 ≠ ⊥ := by
    unfold ms
    rw [dif_pos (by omega), if_pos (by omega)]
    obtain ⟨v, e⟩ := hs ⟨0, by omega⟩
    rw [e]; exact EReal.coe_ne_bot v
  have hmask : ∀ j, 512 * (k0_t1_loop i).trips ≤ j → ms x0 x1 x2 x3 h t (64 * (i 1).val + t.val) j = ⊥ := by
    intro j hj
    unfold ms
    split
    · rw [if_neg (by omega)]
    · rfl
  rw [H.softmax _ _ htop hbot (k0_t1_loop i).trips (2048 - 512 * (k0_t1_loop i).trips) 2048 _ _ _ (by omega) (by omega) hmask]
  have e1 : ∀ n : Fin 2048, ms x0 x1 x2 x3 h t (64 * (i 1).val + t.val) n.val
      = if n.val ≤ 64 * (i 1).val + t.val then score x0 x1 x2 x3 h t n else ⊥ := by
    intro n; unfold ms; rw [dif_pos n.isLt]
  have e2 : ∀ n : Fin 2048, ((col x2 c n.val : ℝ) : EReal) = x2 (ix2 n c) := by
    intro n
    unfold col
    rw [dif_pos n.isLt]
    obtain ⟨v, e⟩ := hv n
    rw [e, EReal.toReal_coe]
  unfold attend
  simp only [e1, e2]

end row

end Cert.KernelIdeal.Body

end
-- ==== Proof.Ref.lean ====
/- The reference at an index: the softmax of the masked scores over the keys of the sequence, weighted with the compressed
   keys, then the up-projection. -/
module

public import proofs.«01_k».proof.Proof.Gen.ReferenceIdeal.Run
public import proofs.«01_k».proof.Proof.Block
public import Idealize.ShloMosaic.Lib.Pointwise
public import Idealize.ShloMosaic.Lib.Claim
public import Idealize.ShloMosaic.Lib.WordCmp

@[expose] public section

set_option maxRecDepth 16384

noncomputable section

namespace Cert.ReferenceIdeal.Value

open Idealize.ShloMosaic Idealize.ShloMosaic.TcCoe Idealize.SL Idealize.SL.Sem
open Cert.ReferenceIdeal Cert.ReferenceIdeal.Gen
open Cert.KernelIdeal.Body (attend)

/-- The scale of the scores. -/
def SC : EReal := Ideal.ofBits .f32 0x3D93CD3A#32

theorem neg_inf : Ideal.ofBits FTy.f32 4286578688#32 = ⊥ := by
  simp [Ideal.ofBits, Ideal.ieee]

/-- The sequence's compressed keys. -/
def keys (a2 : FVec Ideal S9216x512 .f32) : FVec Ideal S4x2048x512 .f32 :=
  shapeCast _ (extractStridedSlice S8192x512 ![0, 0] a2 slices_S9216x512_S8192x512_0_0) shapeCasts_S8192x512_S4x2048x512

/-- The sequence's rotary keys. -/
def rkeys (a3 : FVec Ideal S9216x64 .f32) : FVec Ideal S4x2048x64 .f32 :=
  shapeCast _ (extractStridedSlice S8192x64 ![0, 0] a3 slices_S9216x64_S8192x64_0_0) shapeCasts_S8192x64_S4x2048x64

/-- The masked scores. -/
def msk (q : FVec Ideal S4x2048x16x512 .f32) (p : FVec Ideal S4x2048x16x64 .f32) (k : FVec Ideal S4x2048x512 .f32) (kp : FVec Ideal S4x2048x64 .f32) :
    FVec Ideal S4x16x2048x2048 .f32 :=
  select (broadcastInDim S4x16x2048x2048 ![2, 3] bcast_S2048x2048_S4x16x2048x2048_2_3
      (cmpi .sle (broadcastInDim S2048x2048 ![0, 1] bcast_S1x2048_S2048x2048_0_1 (broadcastInDim S1x2048 ![1] bcast_S2048_S1x2048_1 (iotaInDim S2048 32 0)))
        (broadcastInDim S2048x2048 ![0, 1] bcast_S2048x1_S2048x2048_0_1 (broadcastInDim S2048x1 ![0] bcast_S2048_S2048x1_0 (iotaInDim S2048 32 0)))))
    (mulf (addf (transpose S4x16x2048x2048 [0, 3, 2, 1] (Host.dotGeneral dot_S4x2048x512_S4x2048x16x512_S4x2048x2048x16_2_3_1_12_0_0 none k q) transposes_S4x2048x2048x16_S4x16x2048x2048_0_3_2_1)
        (transpose S4x16x2048x2048 [0, 3, 2, 1] (Host.dotGeneral dot_S4x2048x64_S4x2048x16x64_S4x2048x2048x16_2_3_1_12_0_0 none kp p) transposes_S4x2048x2048x16_S4x16x2048x2048_0_3_2_1))
      (broadcastInDim S4x16x2048x2048 ![] bcast_S_S4x16x2048x2048 (constant S_ .f32 0x3D93CD3A#32)))
    (broadcastInDim S4x16x2048x2048 ![] bcast_S_S4x16x2048x2048 (id (constant S_ .f32 0xFF800000#32)))

/-- A row's maximum. -/
def rmax (s : FVec Ideal S4x16x2048x2048 .f32) : FVec Ideal S4x16x2048 .f32 :=
  Host.reduce FloatOps.maximumf s (constant S_ .f32 0xFF800000#32) reducesTo_S4x16x2048x2048_S4x16x2048_d3 h_S_

/-- A row's maximum, from −∞ up. -/
def fromBot (M : FVec Ideal S4x16x2048 .f32) : FVec Ideal S4x16x2048 .f32 :=
  maximumf (broadcastInDim S4x16x2048 ![] bcast_S_S4x16x2048 (constant S_ .f32 0xFF800000#32)) M

/-- A row's exponentials under a number. -/
def ex (s : FVec Ideal S4x16x2048x2048 .f32) (M : FVec Ideal S4x16x2048 .f32) : FVec Ideal S4x16x2048x2048 .f32 :=
  Host.exp (subf s (broadcastInDim S4x16x2048x2048 ![0, 1, 2, 3] bcast_S4x16x2048x1_S4x16x2048x2048_0_1_2_3
    (broadcastInDim S4x16x2048x1 ![0, 1, 2] bcast_S4x16x2048_S4x16x2048x1_0_1_2 M)))

/-- A row divided by its sum. -/
def nrm (e : FVec Ideal S4x16x2048x2048 .f32) : FVec Ideal S4x16x2048x2048 .f32 :=
  Host.divf e (broadcastInDim S4x16x2048x2048 ![0, 1, 2, 3] bcast_S4x16x2048x1_S4x16x2048x2048_0_1_2_3
    (broadcastInDim S4x16x2048x1 ![0, 1, 2] bcast_S4x16x2048_S4x16x2048x1_0_1_2
      (Host.reduceAdd e (constant S_ .f32 0x00000000#32) reducesTo_S4x16x2048x2048_S4x16x2048_d3 h_S_)))

/-- The two products after the softmax. -/
def outX (k : FVec Ideal S4x2048x512 .f32) (pr : FVec Ideal S4x16x2048x2048 .f32) (w : FVec Ideal S1x512x16x128 .f32) : FVec Ideal S4x2048x16x128 .f32 :=
  transpose S4x2048x16x128 [2, 3, 0, 1]
    (Host.dotGeneral dot_S512x16x128_S4x2048x16x512_S16x128x4x2048_0_3_2_01_1_2 none (shapeCast _ w shapeCasts_S1x512x16x128_S512x16x128)
      (transpose S4x2048x16x512 [0, 3, 2, 1] (Host.dotGeneral dot_S4x2048x512_S4x16x2048x2048_S4x512x16x2048_1_3_2_12_0_0 none k pr) transposes_S4x512x16x2048_S4x2048x16x512_0_3_2_1))
    transposes_S16x128x4x2048_S4x2048x16x128_2_3_0_1

/-- The result's rows and columns. -/
def flat (X : FVec Ideal S4x2048x16x128 .f32) : FVec Ideal S8192x2048 .bf16 :=
  truncf .bf16 (shapeCast _ X shapeCasts_S4x2048x16x128_S8192x2048) bitsLt_bf16_f32

/-- The reference's result as a function of its arguments. -/
def refOut (a0 : FVec Ideal S4x2048x16x512 .f32) (a1 : FVec Ideal S4x2048x16x64 .f32) (a2 : FVec Ideal S9216x512 .f32) (a3 : FVec Ideal S9216x64 .f32)
    (a4 : FVec Ideal S1x512x16x128 .f32) : FVec Ideal S8192x2048 .bf16 :=
  flat (outX (keys a2) (nrm (ex (msk a0 a1 (keys a2) (rkeys a3)) (fromBot (rmax (msk a0 a1 (keys a2) (rkeys a3)))))) a4)

theorem res_eq (m : (ℓ : Loc nD τ sig) → Buf (Elt Ideal) ℓ) (c : Dev nD) :
    res_main_v35 (F := Ideal) m c
      = refOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  unfold res_main_v35
  rfl

theorem keys_at (a2 : FVec Ideal S9216x512 .f32) (b : Fin 4) (n : Fin 2048) (x : Fin 512) (R : Fin 9216) (hR : R.val = b.val * 2048 + n.val) :
    keys a2 (ix3 b n x) = a2 (ix2 R x) := by
  pointwise [keys]
  exact congrArg (fun r => a2 (ix2 r x)) (Fin.ext hR.symm)

theorem rkeys_at (a3 : FVec Ideal S9216x64 .f32) (b : Fin 4) (n : Fin 2048) (x : Fin 64) (R : Fin 9216) (hR : R.val = b.val * 2048 + n.val) :
    rkeys a3 (ix3 b n x) = a3 (ix2 R x) := by
  pointwise [rkeys]
  exact congrArg (fun r => a3 (ix2 r x)) (Fin.ext hR.symm)

theorem msk_at (q : FVec Ideal S4x2048x16x512 .f32) (p : FVec Ideal S4x2048x16x64 .f32) (k : FVec Ideal S4x2048x512 .f32) (kp : FVec Ideal S4x2048x64 .f32)
    (b : Fin 4) (h : Fin 16) (t n : Fin 2048) :
    msk q p k kp (ix4 b h t n) = if n.val ≤ t.val then ((∑ x : Fin 512, k (ix3 b n x) * q (ix4 b t h x)) + ∑ x : Fin 64, kp (ix3 b n x) * p (ix4 b t h x)) * SC else ⊥ := by
  have hb : id (constant (F := Ideal) S_ .f32 0xFF800000#32) ix0 = ⊥ := neg_inf
  have ht := t.isLt
  have hn := n.isLt
  pointwise [msk]
  rw [hb]
  simp (disch := omega) only [hlo_ix]
  rfl

theorem red_at (s : FVec Ideal S4x16x2048x2048 .f32) (b : Fin 4) (h : Fin 16) (t : Fin 2048) :
    Host.reduce FloatOps.maximumf s (constant S_ .f32 0xFF800000#32) reducesTo_S4x16x2048x2048_S4x16x2048_d3 h_S_ (ix3 b h t)
      = Finset.fold max (Ideal.ofBits FTy.f32 4286578688#32) (fun x : Fin 2048 => s (ix4 b h t x)) Finset.univ := by
  pointwise

theorem rmax_at (s : FVec Ideal S4x16x2048x2048 .f32) (b : Fin 4) (h : Fin 16) (t : Fin 2048) :
    rmax s (ix3 b h t) = Finset.fold max (Ideal.ofBits FTy.f32 4286578688#32) (fun x : Fin 2048 => s (ix4 b h t x)) Finset.univ := by
  unfold rmax
  exact red_at s b h t

theorem fromBot_at (M : FVec Ideal S4x16x2048 .f32) (b : Fin 4) (h : Fin 16) (t : Fin 2048) : fromBot M (ix3 b h t) = M (ix3 b h t) := by
  have e : fromBot M (ix3 b h t) = max (Ideal.ofBits FTy.f32 4286578688#32) (M (ix3 b h t)) := by pointwise [fromBot]
  rw [e, neg_inf]
  exact max_eq_right bot_le

theorem ex_at (s : FVec Ideal S4x16x2048x2048 .f32) (M : FVec Ideal S4x16x2048 .f32) (b : Fin 4) (h : Fin 16) (t n : Fin 2048) :
    ex s M (ix4 b h t n) = Ideal.exp (s (ix4 b h t n) - M (ix3 b h t)) := by
  pointwise [ex]

theorem nrm_at (e : FVec Ideal S4x16x2048x2048 .f32) (b : Fin 4) (h : Fin 16) (t n : Fin 2048) :
    nrm e (ix4 b h t n) = Ideal.div (e (ix4 b h t n)) (∑ x : Fin 2048, e (ix4 b h t x)) := by
  pointwise [nrm]

theorem outX_at (k : FVec Ideal S4x2048x512 .f32) (pr : FVec Ideal S4x16x2048x2048 .f32) (w : FVec Ideal S1x512x16x128 .f32)
    (b : Fin 4) (t : Fin 2048) (h : Fin 16) (d : Fin 128) :
    outX k pr w (ix4 b t h d) = ∑ x : Fin 512, w (ix4 0 x h d) * ∑ n : Fin 2048, k (ix3 b n x) * pr (ix4 b h t n) := by
  pointwise [outX]

theorem flat_at (X : FVec Ideal S4x2048x16x128 .f32) (b : Fin 4) (t : Fin 2048) (h : Fin 16) (d : Fin 128) (R : Fin 8192) (C : Fin 2048)
    (hR : R.val = b.val * 2048 + t.val) (hC : C.val = h.val * 128 + d.val) : flat X (ix2 R C) = X (ix4 b t h d) := by
  have hd := d.isLt
  have ht := t.isLt
  pointwise [flat]
  refine congrArg X ((ix4_inj ..).2 ⟨Fin.ext ?_, Fin.ext ?_, Fin.ext ?_, Fin.ext ?_⟩) <;> simp <;> omega

/-- The reference's result at an index. -/
theorem ref_at (a0 : FVec Ideal S4x2048x16x512 .f32) (a1 : FVec Ideal S4x2048x16x64 .f32)
    (a2 : FVec Ideal S9216x512 .f32) (a3 : FVec Ideal S9216x64 .f32) (a4 : FVec Ideal S1x512x16x128 .f32)
    (b : Fin 4) (t : Fin 2048) (h : Fin 16) (d : Fin 128) (R : Fin 8192) (C : Fin 2048)
    (hR : R.val = b.val * 2048 + t.val) (hC : C.val = h.val * 128 + d.val) (row : Fin 2048 → Fin 9216) (hrow : ∀ n, (row n).val = b.val * 2048 + n.val) :
    refOut a0 a1 a2 a3 a4 (ix2 R C) = ∑ x : Fin 512, a4 (ix4 0 x h d) *
      attend (fun n => if n.val ≤ t.val then ((∑ x : Fin 512, a2 (ix2 (row n) x) * a0 (ix4 b t h x)) + ∑ x : Fin 64, a3 (ix2 (row n) x) * a1 (ix4 b t h x)) * SC else ⊥)
        (fun n => a2 (ix2 (row n) x)) := by
  have hk : ∀ (n : Fin 2048) (x : Fin 512), keys a2 (ix3 b n x) = a2 (ix2 (row n) x) := fun n x => keys_at a2 b n x _ (hrow n)
  have hkp : ∀ (n : Fin 2048) (x : Fin 64), rkeys a3 (ix3 b n x) = a3 (ix2 (row n) x) := fun n x => rkeys_at a3 b n x _ (hrow n)
  unfold refOut
  rw [flat_at _ b t h d R C hR hC, outX_at]
  refine Finset.sum_congr rfl fun x _ => ?_
  simp only [nrm_at, ex_at, fromBot_at, rmax_at, neg_inf, msk_at, hk, hkp, attend]

end Cert.ReferenceIdeal.Value

end
-- ==== Proof.Blocks.lean ====
/- The blocks a grid point is given, read at the arguments' entries. -/
module

public import proofs.«01_k».proof.Proof.Gen.KernelIdeal.Value
public import proofs.«01_k».proof.Proof.Ref
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Blocks

open Idealize.ShloMosaic Idealize.ShloMosaic.TcCoe Idealize.SL Idealize.SL.Sem
open Cert.KernelIdeal Cert.KernelIdeal.Gen
open Cert.ReferenceIdeal.Value (SC)

variable (m : (ℓ : Loc nD τ sig) → Buf (Elt Ideal) ℓ) (c : Dev nD)

/-- The scaled latent queries, head first. -/
def QL (a : FVec Ideal S4x2048x16x512 .f32) : FVec Ideal S16x8192x512 .bf16 :=
  truncf .bf16 (mulf (transpose S16x8192x512 [1, 0, 2] (shapeCast S8192x16x512 a shapeCasts_S4x2048x16x512_S8192x16x512) transposes_S8192x16x512_S16x8192x512_1_0_2)
    (broadcastInDim S16x8192x512 ![] bcast_S_S16x8192x512 (constant S_ .f32 0x3D93CD3A#32))) bitsLt_bf16_f32

/-- The scaled rotary queries, head first. -/
def QP (a : FVec Ideal S4x2048x16x64 .f32) : FVec Ideal S16x8192x64 .bf16 :=
  truncf .bf16 (mulf (transpose S16x8192x64 [1, 0, 2] (shapeCast S8192x16x64 a shapeCasts_S4x2048x16x64_S8192x16x64) transposes_S8192x16x64_S16x8192x64_1_0_2)
    (broadcastInDim S16x8192x64 ![] bcast_S_S16x8192x64 (constant S_ .f32 0x3D93CD3A#32))) bitsLt_bf16_f32

/-- The up-projection, head first. -/
def WU (a : FVec Ideal S1x512x16x128 .f32) : FVec Ideal S16x512x128 .bf16 :=
  truncf .bf16 (transpose S16x512x128 [1, 0, 2] (shapeCast S512x16x128 a shapeCasts_S1x512x16x128_S512x16x128) transposes_S512x16x128_S16x512x128_1_0_2) bitsLt_bf16_f32

theorem V4 : V m c main_v4 = QL (m ((c : Thread nD τ).loc main_arg0)) := by entry_read; rfl
theorem V9 : V m c main_v9 = QP (m ((c : Thread nD τ).loc main_arg1)) := by entry_read; rfl
theorem V12 : V m c main_v12 = WU (m ((c : Thread nD τ).loc main_arg4)) := by entry_read; rfl
theorem V13 : V m c main_v13 = (truncf .bf16 (m ((c : Thread nD τ).loc main_arg2) : FVec Ideal S9216x512 .f32) bitsLt_bf16_f32 : FVec Ideal S9216x512 .bf16) := by entry_read; rfl
theorem V14 : V m c main_v14 = (truncf .bf16 (m ((c : Thread nD τ).loc main_arg3) : FVec Ideal S9216x64 .f32) bitsLt_bf16_f32 : FVec Ideal S9216x64 .bf16) := by entry_read; rfl

theorem QL_at (a : FVec Ideal S4x2048x16x512 .f32) (h : Fin 16) (R : Fin 8192) (x : Fin 512) (b : Fin 4) (t : Fin 2048) (hR : R.val = b.val * 2048 + t.val) :
    QL a (ix3 h R x) = a (ix4 b t h x) * SC := by
  have ht := t.isLt
  pointwise [QL]
  refine congrArg (· * SC) (congrArg a ((ix4_inj ..).2 ⟨Fin.ext ?_, Fin.ext ?_, rfl, rfl⟩)) <;> simp <;> omega

theorem QP_at (a : FVec Ideal S4x2048x16x64 .f32) (h : Fin 16) (R : Fin 8192) (x : Fin 64) (b : Fin 4) (t : Fin 2048) (hR : R.val = b.val * 2048 + t.val) :
    QP a (ix3 h R x) = a (ix4 b t h x) * SC := by
  have ht := t.isLt
  pointwise [QP]
  refine congrArg (· * SC) (congrArg a ((ix4_inj ..).2 ⟨Fin.ext ?_, Fin.ext ?_, rfl, rfl⟩)) <;> simp <;> omega

theorem WU_at (a : FVec Ideal S1x512x16x128 .f32) (h : Fin 16) (k : Fin 512) (d : Fin 128) :
    WU a (ix3 h k d) = a (ix4 0 k h d) := by
  pointwise [WU]

/-- Where each window's block lies. -/
theorem idx : ∀ t : Fin cfg0.N,
    (win0_0.index t (0 : Fin 3) = 0 ∧ win0_0.index t (1 : Fin 3) = t.val ∧ win0_0.index t (2 : Fin 3) = 0) ∧
    (win0_1.index t (0 : Fin 3) = 0 ∧ win0_1.index t (1 : Fin 3) = t.val ∧ win0_1.index t (2 : Fin 3) = 0) ∧
    (win0_2.index t (0 : Fin 2) = t.val / 32 ∧ win0_2.index t (1 : Fin 2) = 0) ∧
    (win0_3.index t (0 : Fin 2) = t.val / 32 ∧ win0_3.index t (1 : Fin 2) = 0) ∧
    (win0_4.index t (0 : Fin 3) = 0 ∧ win0_4.index t (1 : Fin 3) = 0 ∧ win0_4.index t (2 : Fin 3) = 0) ∧
    (win0_5.index t (0 : Fin 2) = t.val ∧ win0_5.index t (1 : Fin 2) = 0) ∧
    ((grid0.coords t) 1).val = t.val % 32 :=
  (by decide +kernel : ∀ t : Fin grid0.N, _)

variable (t : Fin cfg0.N)

theorem blk0 (h : Fin 16) (r : Fin 64) (x : Fin 512) (R : Fin 8192) (hR : R.val = t.val * 64 + r.val) :
    iblk m c 0 t (ix3 h r x) = V m c main_v4 (ix3 h R x) := by
  have e := idx t
  have hr := r.isLt
  blk_ext [iblk, e]

theorem blk1 (h : Fin 16) (r : Fin 64) (x : Fin 64) (R : Fin 8192) (hR : R.val = t.val * 64 + r.val) :
    iblk m c 1 t (ix3 h r x) = V m c main_v9 (ix3 h R x) := by
  have e := idx t
  have hr := r.isLt
  blk_ext [iblk, e]

theorem blk2 (n : Fin 2048) (x : Fin 512) (R : Fin 9216) (hR : R.val = t.val / 32 * 2048 + n.val) :
    X0_2 m c t (ix2 n x) = V m c main_v13 (ix2 R x) := by
  have e := idx t
  have hn := n.isLt
  unfold X0_2 Pipeline.Window.fill
  rw [dif_pos (moved0_2 t _)]
  blk_ext [iblk, e]

theorem blk3 (n : Fin 2048) (x : Fin 64) (R : Fin 9216) (hR : R.val = t.val / 32 * 2048 + n.val) :
    X0_3 m c t (ix2 n x) = V m c main_v14 (ix2 R x) := by
  have e := idx t
  have hn := n.isLt
  unfold X0_3 Pipeline.Window.fill
  rw [dif_pos (moved0_3 t _)]
  blk_ext [iblk, e]

theorem blk4 (h : Fin 16) (k : Fin 512) (d : Fin 128) : iblk m c 4 t (ix3 h k d) = V m c main_v12 (ix3 h k d) := by
  have e := idx t
  blk_ext [iblk, e]

end Cert.KernelIdeal.Blocks

end
-- ==== Proof.Array.lean ====
/- The kernel's result array, entry by entry, is the reference's. -/
module

public import proofs.«01_k».proof.Proof.Blocks
public import proofs.«01_k».proof.Proof.Body
public import proofs.«01_k».proof.Proof.Block

@[expose] public section

set_option maxRecDepth 16384

noncomputable section

namespace Cert.KernelIdeal.Array

open Idealize.ShloMosaic Idealize.ShloMosaic.TcCoe Idealize.SL Idealize.SL.Sem
open Cert.KernelIdeal Cert.KernelIdeal.Gen Cert.KernelIdeal.Body Cert.KernelIdeal.Blocks Cert.Online
open Cert.ReferenceIdeal.Value (SC refOut ref_at)

theorem SC_fn : Fn SC := by
  unfold SC Fn
  simp [Ideal.ofBits, Ideal.ieee]
  exact ⟨_, rfl⟩

/-- A scale on the left factors comes out of a sum of products of finite numbers. -/
theorem scale_out {n : ℕ} (q k : Fin n → EReal) (s : ℝ) (hq : ∀ x, Fn (q x)) (hk : ∀ x, Fn (k x)) :
    ∑ x, q x * (s : EReal) * k x = (∑ x, k x * q x) * (s : EReal) := by
  choose a ha using hq
  choose b hb using hk
  simp only [ha, hb, ← EReal.coe_mul, coe_sum]
  congr 1
  rw [Finset.sum_mul]
  exact Finset.sum_congr rfl fun x _ => by ring

theorem sum_add_mul {n k : ℕ} (f : Fin n → EReal) (g : Fin k → EReal) (s : ℝ) (hf : ∀ x, Fn (f x)) (hg : ∀ x, Fn (g x)) :
    (∑ x, f x) * (s : EReal) + (∑ x, g x) * (s : EReal) = ((∑ x, f x) + ∑ x, g x) * (s : EReal) := by
  obtain ⟨a, ha⟩ := Fn.sum hf
  obtain ⟨b, hb⟩ := Fn.sum hg
  rw [ha, hb, ← EReal.coe_mul, ← EReal.coe_mul, ← EReal.coe_add, ← EReal.coe_add, ← EReal.coe_mul]
  congr 1
  ring

section block

variable (i : grid0.Coords) (x0 : Vec Ideal S16x64x512 .bf16) (x1 : Vec Ideal S16x64x64 .bf16) (x2 : Vec Ideal S2048x512 .bf16) (x3 : Vec Ideal S2048x64 .bf16)
  (x4 : Vec Ideal S16x512x128 .bf16)
  (a0 : FVec Ideal S4x2048x16x512 .f32) (a1 : FVec Ideal S4x2048x16x64 .f32) (a2 : FVec Ideal S9216x512 .f32) (a3 : FVec Ideal S9216x64 .f32) (a4 : FVec Ideal S1x512x16x128 .f32)

/-- A block's result at an entry, from what the blocks hold. -/
theorem block_out (f0 : ∀ j, Fn (a0 j)) (f1 : ∀ j, Fn (a1 j)) (f2 : ∀ j, Fn (a2 j)) (f3 : ∀ j, Fn (a3 j))
    (b : Fin 4) (T : Fin 2048) (tq : Fin 64) (h : Fin 16) (d : Fin 128) (R : Fin 8192) (C : Fin 2048) (r : Fin 1024)
    (hT : T.val = 64 * (i 1).val + tq.val) (hR : R.val = b.val * 2048 + T.val) (hC : C.val = h.val * 128 + d.val) (hr : r.val = h.val * 64 + tq.val)
    (row : Fin 2048 → Fin 9216) (hrow : ∀ n, (row n).val = b.val * 2048 + n.val)
    (e0 : ∀ x, x0 (ix3 h tq x) = a0 (ix4 b T h x) * SC) (e1 : ∀ x, x1 (ix3 h tq x) = a1 (ix4 b T h x) * SC)
    (e2 : ∀ n x, x2 (ix2 n x) = a2 (ix2 (row n) x)) (e3 : ∀ n x, x3 (ix2 n x) = a3 (ix2 (row n) x))
    (e4 : ∀ k, x4 (ix3 h k d) = a4 (ix4 0 k h d)) :
    ∑ k : Fin 512, latRows (F := Ideal) i x0 x1 x2 x3 (ix2 r k) * x4 (ix3 h k d) = refOut a0 a1 a2 a3 a4 (ix2 R C) := by
  rw [ref_at a0 a1 a2 a3 a4 b T h d R C hR hC row hrow]
  obtain ⟨s, hs⟩ := SC_fn
  have hsc : ∀ n, score x0 x1 x2 x3 h tq n = ((∑ x : Fin 512, a2 (ix2 (row n) x) * a0 (ix4 b T h x)) + ∑ x : Fin 64, a3 (ix2 (row n) x) * a1 (ix4 b T h x)) * SC := by
    intro n
    unfold score
    simp only [e0, e1, e2, e3]
    rw [hs, scale_out (fun x => a0 (ix4 b T h x)) (fun x => a2 (ix2 (row n) x)) s (fun x => f0 _) (fun x => f2 _),
      scale_out (fun x => a1 (ix4 b T h x)) (fun x => a3 (ix2 (row n) x)) s (fun x => f1 _) (fun x => f3 _)]
    exact sum_add_mul _ _ s (fun x => (f2 _).mul (f0 _)) (fun x => (f3 _).mul (f1 _))
  have hfn : ∀ n, Fn (score x0 x1 x2 x3 h tq n) := by
    intro n
    rw [hsc]
    exact ((Fn.sum fun x => (f2 _).mul (f0 _)).add (Fn.sum fun x => (f3 _).mul (f1 _))).mul SC_fn
  refine Finset.sum_congr rfl fun k _ => ?_
  rw [lat_block i x0 x1 x2 x3 r h tq hr k hfn (fun n => by rw [e2]; exact f2 _), e4, mul_comm]
  simp only [hsc, e2, hT]

end block

variable (m : (ℓ : Loc nD τ sig) → Buf (Elt Ideal) ℓ) (c : Dev nD)

set_option maxHeartbeats 4000000 in
/-- The result array after the run. -/
theorem final (a0 : FVec Ideal S4x2048x16x512 .f32) (a1 : FVec Ideal S4x2048x16x64 .f32) (a2 : FVec Ideal S9216x512 .f32) (a3 : FVec Ideal S9216x64 .f32) (a4 : FVec Ideal S1x512x16x128 .f32)
    (h0 : m ((c : Thread nD τ).loc main_arg0) = a0) (h1 : m ((c : Thread nD τ).loc main_arg1) = a1) (h2 : m ((c : Thread nD τ).loc main_arg2) = a2)
    (h3 : m ((c : Thread nD τ).loc main_arg3) = a3) (h4 : m ((c : Thread nD τ).loc main_arg4) = a4)
    (f0 : ∀ j, Fn (a0 j)) (f1 : ∀ j, Fn (a1 j)) (f2 : ∀ j, Fn (a2 j)) (f3 : ∀ j, Fn (a3 j)) :
    (dats m 0 c).arrAt 5 cfg0.N = refOut a0 a1 a2 a3 a4 := by
  refine (dats m 0 c).arrAt_eq_of_covers 5 _ (by decide +kernel) fun t _ y => ?_
  blk_simp
  rw [after0_5]
  unfold outsAt0
  have e := idx t
  have ht : t.val < 128 := t.isLt
  have y0 : (y 0 : ℕ) < 64 := (y 0).isLt
  have y1 : (y 1 : ℕ) < 2048 := (y 1).isLt
  obtain ⟨-, -, -, -, -, ⟨e50, e51⟩, ec⟩ := e
  have hh : (y 1 : ℕ) / 128 < 16 := by omega
  have hd : (y 1 : ℕ) % 128 < 128 := by omega
  rw [out_at c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (X0_2 m c t) (X0_3 m c t) (iblk m c 4 t) y
    ⟨(y 1 : ℕ) / 128, hh⟩ rfl ⟨(y 1 : ℕ) / 128 * 64 + (y 0 : ℕ), by omega⟩ rfl ⟨(y 1 : ℕ) % 128, hd⟩ rfl]
  have hb : t.val / 32 < 4 := by omega
  have hT : 64 * (t.val % 32) + (y 0 : ℕ) < 2048 := by omega
  have hR : t.val * 64 + (y 0 : ℕ) < 8192 := by omega
  refine (block_out (grid0.coords t) (iblk m c 0 t) (iblk m c 1 t) (X0_2 m c t) (X0_3 m c t) (iblk m c 4 t) a0 a1 a2 a3 a4 f0 f1 f2 f3
    ⟨t.val / 32, hb⟩ ⟨64 * (t.val % 32) + (y 0 : ℕ), hT⟩ ⟨(y 0 : ℕ), y0⟩ ⟨(y 1 : ℕ) / 128, hh⟩ ⟨(y 1 : ℕ) % 128, hd⟩ ⟨t.val * 64 + (y 0 : ℕ), hR⟩ ⟨(y 1 : ℕ), y1⟩
    ⟨(y 1 : ℕ) / 128 * 64 + (y 0 : ℕ), by omega⟩ (by rw [ec]) (by simp only []; omega) (by simp only []; omega) rfl
    (fun n => ⟨t.val / 32 * 2048 + n.val, by have := n.isLt; omega⟩) (fun n => rfl) ?_ ?_ ?_ ?_ ?_).trans ?_
  · intro x
    rw [blk0 m c t _ ⟨(y 0 : ℕ), y0⟩ x ⟨t.val * 64 + (y 0 : ℕ), hR⟩ rfl, V4, h0]
    exact QL_at a0 _ _ x _ _ (by simp only []; omega)
  · intro x
    rw [blk1 m c t _ ⟨(y 0 : ℕ), y0⟩ x ⟨t.val * 64 + (y 0 : ℕ), hR⟩ rfl, V9, h1]
    exact QP_at a1 _ _ x _ _ (by simp only []; omega)
  · intro n x
    rw [blk2 m c t n x ⟨t.val / 32 * 2048 + n.val, by have := n.isLt; omega⟩ rfl, V13, h2]
    rfl
  · intro n x
    rw [blk3 m c t n x ⟨t.val / 32 * 2048 + n.val, by have := n.isLt; omega⟩ rfl, V14, h3]
    rfl
  · intro k
    rw [blk4 m c t _ k _, V12, h4]
    exact WU_at a4 _ k _
  · congr 1
    blk_ext [e50, e51]

end Cert.KernelIdeal.Array

end
-- ==== Proof.Finite.lean ====
/- The precondition, entry by entry. -/
module

public import proofs.«01_k».proof.Defs
public import proofs.«01_k».proof.Proof.Block

@[expose] public section

set_option maxRecDepth 16384

noncomputable section

namespace Cert.Finite

open Idealize.ShloMosaic Idealize.ShloMosaic.TcCoe Idealize.SL Idealize.SL.Sem
open Cert.KernelIdeal.Body (Fn)

instance facts : Cert.Pre_finite_inputs.Facts where
  bcast_S_S4x2048x16x512 := by decide
  bcast_S_S4x2048x16x64 := by decide
  bcast_S_S9216x512 := by decide
  bcast_S_S9216x64 := by decide

theorem lo : Ideal.ofBits FTy.f32 0xFF800000#32 = ⊥ := by
  simp [Ideal.ofBits, Ideal.ieee]

theorem hi : Ideal.ofBits FTy.f32 0x7F800000#32 = ⊤ := by
  simp [Ideal.ofBits, Ideal.ieee]

/-- The two comparisons at an entry say it is finite. -/
theorem fn_of {s : Shape} (x : FVec Ideal s .f32) (L H : FVec Ideal s .f32)
    (hL : ∀ j, L j = ⊥) (hH : ∀ j, H j = ⊤) (h : (andi (cmpf .ogt x L) (cmpf .olt x H) : IVec s 1) = fun _ => 1#1) (j : s.Idx) : Fn (x j) := by
  have e := congrFun h j
  have e' : (IntOp.andi (Idealize.ShloMosaic.Ideal.cmp .ogt (x j) (L j)) (Idealize.ShloMosaic.Ideal.cmp .olt (x j) (H j)) : BitVec 1) = 1#1 := e
  rw [hL, hH] at e'
  generalize x j = y at e'
  induction y using EReal.rec with
  | bot => simp [Idealize.ShloMosaic.Ideal.cmp, IntOp.andi] at e'
  | top => simp [Idealize.ShloMosaic.Ideal.cmp, IntOp.andi] at e'
  | coe v => exact ⟨v, rfl⟩

theorem fns (a0 : FVec Ideal Cert.Pre_finite_inputs.S4x2048x16x512 .f32) (a1 : FVec Ideal Cert.Pre_finite_inputs.S4x2048x16x64 .f32)
    (a2 : FVec Ideal Cert.Pre_finite_inputs.S9216x512 .f32) (a3 : FVec Ideal Cert.Pre_finite_inputs.S9216x64 .f32) (a4 : FVec Ideal Cert.Pre_finite_inputs.S1x512x16x128 .f32)
    (h : (Cert.Pre_finite_inputs.fn (F := Ideal) a0 a1 a2 a3 a4).1 = (fun _ => 1#1)
      ∧ (Cert.Pre_finite_inputs.fn (F := Ideal) a0 a1 a2 a3 a4).2.1 = (fun _ => 1#1)
      ∧ (Cert.Pre_finite_inputs.fn (F := Ideal) a0 a1 a2 a3 a4).2.2.1 = (fun _ => 1#1)
      ∧ (Cert.Pre_finite_inputs.fn (F := Ideal) a0 a1 a2 a3 a4).2.2.2 = (fun _ => 1#1)) :
    (∀ j, Fn (a0 j)) ∧ (∀ j, Fn (a1 j)) ∧ (∀ j, Fn (a2 j)) ∧ (∀ j, Fn (a3 j)) := by
  obtain ⟨h0, h1, h2, h3⟩ := h
  exact ⟨fn_of a0 _ _ (fun _ => lo) (fun _ => hi) h0, fn_of a1 _ _ (fun _ => lo) (fun _ => hi) h1,
    fn_of a2 _ _ (fun _ => lo) (fun _ => hi) h2, fn_of a3 _ _ (fun _ => lo) (fun _ => hi) h3⟩

end Cert.Finite

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Reference2Ideal.Run
public import proofs.«01_k».proof.Proof.InProjRef
public import proofs.«01_k».proof.Proof.InProj
public import proofs.«01_k».proof.Proof.Gen.Kernel3.Frame
public import proofs.«01_k».proof.Proof.Gen.Kernel3Ideal.Value
public import proofs.«01_k».proof.Proof.Gen.Reference3Ideal.Run
public import proofs.«01_k».proof.Proof.MergeRef
public import proofs.«01_k».proof.Proof.Merge
public import proofs.«01_k».proof.Proof.Gen.Kernel4.Frame
public import proofs.«01_k».proof.Proof.Gen.Kernel4Ideal.Value
public import proofs.«01_k».proof.Proof.Gen.Reference4Ideal.Run
public import proofs.«01_k».proof.Proof.Resid
public import proofs.«01_k».proof.Proof.Gen.Kernel5.Frame
public import proofs.«01_k».proof.Proof.Gen.Kernel5Ideal.Frame
public import proofs.«01_k».proof.Proof.Gen.Reference5Ideal.Run
public import proofs.«01_k».proof.Proof.SharedRef
public import proofs.«01_k».proof.Proof.Shared
public import proofs.«01_k».proof.Proof.Gen.Kernel6.Frame
public import proofs.«01_k».proof.Proof.Gen.Kernel6Ideal.Frame
public import proofs.«01_k».proof.Proof.Gen.Reference6Ideal.Run
public import proofs.«01_k».proof.Proof.MlaRef
public import proofs.«01_k».proof.Proof.Mla
public import proofs.«01_k».proof.Proof.Gen.Kernel7.Frame
public import proofs.«01_k».proof.Proof.Gen.Kernel7Ideal.Frame
public import proofs.«01_k».proof.Proof.Gen.Reference7Ideal.Run
public import proofs.«01_k».proof.Proof.QProjRef
public import proofs.«01_k».proof.Proof.QProj
public import proofs.«01_k».proof.Proof.Gen.Kernel8.Frame
public import proofs.«01_k».proof.Proof.Gen.Kernel8Ideal.Frame
public import proofs.«01_k».proof.Proof.Gen.Reference8Ideal.Run
public import proofs.«01_k».proof.Proof.AbsorbRef
public import proofs.«01_k».proof.Proof.Absorb
public import proofs.«01_k».proof.Proof.Gen.Kernel9.Frame
public import proofs.«01_k».proof.Proof.Gen.Kernel9Ideal.Value
public import proofs.«01_k».proof.Proof.Gen.Reference9Ideal.Run
public import proofs.«01_k».proof.Proof.NormRef
public import proofs.«01_k».proof.Proof.Norm
public import proofs.«01_k».proof.Proof.Gen.Kernel10.Frame
public import proofs.«01_k».proof.Proof.Gen.Kernel10Ideal.Value
public import proofs.«01_k».proof.Proof.Gen.Reference10Ideal.Run
public import proofs.«01_k».proof.Proof.Combine
public import proofs.«01_k».proof.Proof.Array
public import proofs.«01_k».proof.Proof.Finite
public import Idealize.ShloMosaic.Lib.Claim

@[expose] public section

noncomputable section

namespace Cert.Proof

open Idealize.ShloMosaic Idealize.ShloMosaic.TcCoe Idealize.SL.Sem

/-! ## The attention -/

theorem frame_reference : Cert.quiescent_ReferenceIdeal (hReferenceIdeal := Cert.ReferenceIdeal.Gen.facts) := by
  intro m g _
  exact (θ_run (Cert.ReferenceIdeal.defs (F := Ideal)) _ _).mono
    (fun r h => ⟨fun c => (h c).2, sem_eq_zero_of_no_sems (by decide) r.2⟩) (Cert.ReferenceIdeal.Value.run (F := Ideal) m g)

theorem algebraic : Cert.algebraic_KernelIdeal_ReferenceIdeal_pre_finite_inputs (hKernelIdeal := Cert.KernelIdeal.Gen.facts)
    (hReferenceIdeal := Cert.ReferenceIdeal.Gen.facts) (hPre_finite_inputs := Cert.Finite.facts) := by
  intro m g m' g' hpre hargs
  refine ⟨fun c => Cert.ReferenceIdeal.Value.refOut (m ((c.tc : Thread _ _).loc Cert.KernelIdeal.main_arg0)) (m ((c.tc : Thread _ _).loc Cert.KernelIdeal.main_arg1))
    (m ((c.tc : Thread _ _).loc Cert.KernelIdeal.main_arg2)) (m ((c.tc : Thread _ _).loc Cert.KernelIdeal.main_arg3)) (m ((c.tc : Thread _ _).loc Cert.KernelIdeal.main_arg4)), ?_, ?_⟩
  · refine (θ_run (Cert.KernelIdeal.defs (F := Ideal)) _ _).mono (fun r h c => ?_) (Cert.KernelIdeal.Value.run_blocks (F := Ideal) m g)
    obtain ⟨hv, ha⟩ := h c
    obtain ⟨f0, f1, f2, f3⟩ := Cert.Finite.fns _ _ _ _ _ (hpre c)
    exact ⟨hv.trans (Cert.KernelIdeal.Array.final m c _ _ _ _ _ rfl rfl rfl rfl rfl f0 f1 f2 f3), ha⟩
  · refine (θ_run (Cert.ReferenceIdeal.defs (F := Ideal)) _ _).mono (fun r h c => ?_) (Cert.ReferenceIdeal.Value.run (F := Ideal) m' g')
    obtain ⟨hv, ha⟩ := h c
    obtain ⟨h0, h1, h2, h3, h4⟩ := hargs c
    refine ⟨hv.trans ?_, ha⟩
    rw [Cert.ReferenceIdeal.Value.res_eq, h0, h1, h2, h3, h4]

/-! ## The input projection -/

theorem frame_reference2 : Cert.quiescent_Reference2Ideal (hReference2Ideal := Cert.Reference2Ideal.Gen.facts) := by
  intro m g _
  exact (θ_run (Cert.Reference2Ideal.defs (F := Ideal)) _ _).mono
    (fun r h => ⟨fun c => (h c).2.2.2.2.2.2, sem_eq_zero_of_no_sems (by decide) r.2⟩) (Cert.Reference2Ideal.Value.run (F := Ideal) m g)

theorem algebraic2 : Cert.algebraic_Kernel2Ideal_Reference2Ideal (hKernel2Ideal := Cert.Kernel2Ideal.Gen.facts)
    (hReference2Ideal := Cert.Reference2Ideal.Gen.facts) := by
  intro m g m' g' _ hargs
  refine ⟨fun c => Cert.InProjRef.rw (Cert.InProjRef.proj (m ((c.tc : Thread _ _).loc Cert.Kernel2Ideal.main_arg0)) (m ((c.tc : Thread _ _).loc Cert.Kernel2Ideal.main_arg1))),
    fun c => Cert.InProjRef.q (Cert.InProjRef.proj (m ((c.tc : Thread _ _).loc Cert.Kernel2Ideal.main_arg0)) (m ((c.tc : Thread _ _).loc Cert.Kernel2Ideal.main_arg1))),
    fun c => Cert.InProjRef.kv (Cert.InProjRef.proj (m ((c.tc : Thread _ _).loc Cert.Kernel2Ideal.main_arg0)) (m ((c.tc : Thread _ _).loc Cert.Kernel2Ideal.main_arg1))),
    fun c => Cert.InProjRef.gate (Cert.InProjRef.proj (m ((c.tc : Thread _ _).loc Cert.Kernel2Ideal.main_arg0)) (m ((c.tc : Thread _ _).loc Cert.Kernel2Ideal.main_arg1))),
    fun c => Cert.InProjRef.lastPrompt (Cert.InProjRef.rw (Cert.InProjRef.proj (m ((c.tc : Thread _ _).loc Cert.Kernel2Ideal.main_arg0)) (m ((c.tc : Thread _ _).loc Cert.Kernel2Ideal.main_arg1)))),
    fun c => Cert.InProjRef.lastSample (Cert.InProjRef.rw (Cert.InProjRef.proj (m ((c.tc : Thread _ _).loc Cert.Kernel2Ideal.main_arg0)) (m ((c.tc : Thread _ _).loc Cert.Kernel2Ideal.main_arg1)))), ?_, ?_⟩
  · exact Cert.InProj.run m g
  · refine (θ_run (Cert.Reference2Ideal.defs (F := Ideal)) _ _).mono (fun r h c => ?_) (Cert.Reference2Ideal.Value.run (F := Ideal) m' g')
    obtain ⟨r0, r1, r2, r3, r4, r5, ha⟩ := h c
    obtain ⟨h0, h1⟩ := hargs c
    beta_reduce
    rw [← h0, ← h1]
    exact ⟨r0.trans (by unfold Cert.InProjRef.rw Cert.InProjRef.proj; rfl), r1.trans (by unfold Cert.InProjRef.q Cert.InProjRef.proj; rfl), r2.trans (by unfold Cert.InProjRef.kv Cert.InProjRef.proj; rfl), r3.trans (by unfold Cert.InProjRef.gate Cert.InProjRef.proj; rfl), r4.trans (by unfold Cert.InProjRef.lastPrompt Cert.InProjRef.rw Cert.InProjRef.proj; rfl), r5.trans (by unfold Cert.InProjRef.lastSample Cert.InProjRef.rw Cert.InProjRef.proj; rfl), ha⟩

/-! ## The gated merge -/

theorem frame_reference3 : Cert.quiescent_Reference3Ideal (hReference3Ideal := Cert.Reference3Ideal.Gen.facts) := by
  intro m g _
  exact (θ_run (Cert.Reference3Ideal.defs (F := Ideal)) _ _).mono
    (fun r h => ⟨fun c => (h c).2, sem_eq_zero_of_no_sems (by decide) r.2⟩) (Cert.Reference3Ideal.Value.run (F := Ideal) m g)

theorem algebraic3 : Cert.algebraic_Kernel3Ideal_Reference3Ideal (hKernel3Ideal := Cert.Kernel3Ideal.Gen.facts)
    (hReference3Ideal := Cert.Reference3Ideal.Gen.facts) := by
  intro m g m' g' _ hargs
  refine ⟨fun c => Cert.MergeRef.ref (m ((c.tc : Thread _ _).loc Cert.Kernel3Ideal.main_arg0)) (m ((c.tc : Thread _ _).loc Cert.Kernel3Ideal.main_arg1)) (m ((c.tc : Thread _ _).loc Cert.Kernel3Ideal.main_arg2)) (m ((c.tc : Thread _ _).loc Cert.Kernel3Ideal.main_arg3)), ?_, ?_⟩
  · refine (θ_run (Cert.Kernel3Ideal.defs (F := Ideal)) _ _).mono (fun r h c => ?_) (Cert.Kernel3Ideal.Value.run_blocks (F := Ideal) m g)
    obtain ⟨v0, ha⟩ := h c
    exact ⟨v0.trans (Cert.Merge.final m c), ha⟩
  · refine (θ_run (Cert.Reference3Ideal.defs (F := Ideal)) _ _).mono (fun r h c => ?_) (Cert.Reference3Ideal.Value.run (F := Ideal) m' g')
    obtain ⟨r0, ha⟩ := h c
    obtain ⟨h0, h1, h2, h3⟩ := hargs c
    beta_reduce
    rw [← h0, ← h1, ← h2, ← h3]
    exact ⟨r0.trans (by unfold Cert.MergeRef.ref; rfl), ha⟩

/-! ## The residual product -/

theorem frame_reference4 : Cert.quiescent_Reference4Ideal (hReference4Ideal := Cert.Reference4Ideal.Gen.facts) := by
  intro m g _
  exact (θ_run (Cert.Reference4Ideal.defs (F := Ideal)) _ _).mono
    (fun r h => ⟨fun c => (h c).2, sem_eq_zero_of_no_sems (by decide) r.2⟩) (Cert.Reference4Ideal.Value.run (F := Ideal) m g)

theorem algebraic4 : Cert.algebraic_Kernel4Ideal_Reference4Ideal (hKernel4Ideal := Cert.Kernel4Ideal.Gen.facts)
    (hReference4Ideal := Cert.Reference4Ideal.Gen.facts) := by
  intro m g m' g' _ hargs
  refine ⟨fun c => Cert.Resid.ref (m ((c.tc : Thread _ _).loc Cert.Kernel4Ideal.main_arg0)) (m ((c.tc : Thread _ _).loc Cert.Kernel4Ideal.main_arg1)) (m ((c.tc : Thread _ _).loc Cert.Kernel4Ideal.main_arg2)), ?_, ?_⟩
  · refine (θ_run (Cert.Kernel4Ideal.defs (F := Ideal)) _ _).mono (fun r h c => ?_) (Cert.Kernel4Ideal.Value.run_blocks (F := Ideal) m g)
    obtain ⟨v0, ha⟩ := h c
    exact ⟨v0.trans (Cert.Resid.final m c), ha⟩
  · refine (θ_run (Cert.Reference4Ideal.defs (F := Ideal)) _ _).mono (fun r h c => ?_) (Cert.Reference4Ideal.Value.run (F := Ideal) m' g')
    obtain ⟨r0, ha⟩ := h c
    obtain ⟨h0, h1, h2⟩ := hargs c
    beta_reduce
    rw [← h0, ← h1, ← h2]
    exact ⟨r0.trans (by unfold Cert.Resid.ref; rfl), ha⟩

/-! ## The shared expert and the final layer norm -/

theorem frame_reference5 : Cert.quiescent_Reference5Ideal (hReference5Ideal := Cert.Reference5Ideal.Gen.facts) := by
  intro m g _
  exact (θ_run (Cert.Reference5Ideal.defs (F := Ideal)) _ _).mono
    (fun r h => ⟨fun c => (h c).2.2, sem_eq_zero_of_no_sems (by decide) r.2⟩) (Cert.Reference5Ideal.Value.run (F := Ideal) m g)

theorem algebraic5 : Cert.algebraic_Kernel5Ideal_Reference5Ideal (hKernel5Ideal := Cert.Kernel5Ideal.Gen.facts)
    (hReference5Ideal := Cert.Reference5Ideal.Gen.facts) := by
  intro m g m' g' _ hargs
  refine ⟨fun c => Cert.SharedRef.prompt (Cert.SharedRef.out (m ((c.tc : Thread _ _).loc Cert.Kernel5Ideal.main_arg0)) (m ((c.tc : Thread _ _).loc Cert.Kernel5Ideal.main_arg1)) (m ((c.tc : Thread _ _).loc Cert.Kernel5Ideal.main_arg2)) (m ((c.tc : Thread _ _).loc Cert.Kernel5Ideal.main_arg3)) (m ((c.tc : Thread _ _).loc Cert.Kernel5Ideal.main_arg4)) (m ((c.tc : Thread _ _).loc Cert.Kernel5Ideal.main_arg5))),
    fun c => Cert.SharedRef.sample (Cert.SharedRef.out (m ((c.tc : Thread _ _).loc Cert.Kernel5Ideal.main_arg0)) (m ((c.tc : Thread _ _).loc Cert.Kernel5Ideal.main_arg1)) (m ((c.tc : Thread _ _).loc Cert.Kernel5Ideal.main_arg2)) (m ((c.tc : Thread _ _).loc Cert.Kernel5Ideal.main_arg3)) (m ((c.tc : Thread _ _).loc Cert.Kernel5Ideal.main_arg4)) (m ((c.tc : Thread _ _).loc Cert.Kernel5Ideal.main_arg5))), ?_, ?_⟩
  · exact Cert.Shared.run m g
  · refine (θ_run (Cert.Reference5Ideal.defs (F := Ideal)) _ _).mono (fun r h c => ?_) (Cert.Reference5Ideal.Value.run (F := Ideal) m' g')
    obtain ⟨r0, r1, ha⟩ := h c
    obtain ⟨h0, h1, h2, h3, h4, h5⟩ := hargs c
    beta_reduce
    rw [← h0, ← h1, ← h2, ← h3, ← h4, ← h5]
    exact ⟨r0.trans (Cert.SharedRef.res_prompt m' c), r1.trans (Cert.SharedRef.res_sample m' c), ha⟩

/-! ## The latent attention's preparation -/

theorem frame_reference6 : Cert.quiescent_Reference6Ideal (hReference6Ideal := Cert.Reference6Ideal.Gen.facts) := by
  intro m g _
  exact (θ_run (Cert.Reference6Ideal.defs (F := Ideal)) _ _).mono
    (fun r h => ⟨fun c => (h c).2.2.2.2.2, sem_eq_zero_of_no_sems (by decide) r.2⟩) (Cert.Reference6Ideal.Value.run (F := Ideal) m g)

theorem algebraic6 : Cert.algebraic_Kernel6Ideal_Reference6Ideal (hKernel6Ideal := Cert.Kernel6Ideal.Gen.facts)
    (hReference6Ideal := Cert.Reference6Ideal.Gen.facts) := by
  intro m g m' g' _ hargs
  refine ⟨fun c => Cert.MlaRef.qn (m ((c.tc : Thread _ _).loc Cert.Kernel6Ideal.main_arg0)) (m ((c.tc : Thread _ _).loc Cert.Kernel6Ideal.main_arg1)) (m ((c.tc : Thread _ _).loc Cert.Kernel6Ideal.main_arg2)),
    fun c => Cert.MlaRef.ckvP (m ((c.tc : Thread _ _).loc Cert.Kernel6Ideal.main_arg0)) (m ((c.tc : Thread _ _).loc Cert.Kernel6Ideal.main_arg1)) (m ((c.tc : Thread _ _).loc Cert.Kernel6Ideal.main_arg2)),
    fun c => Cert.MlaRef.krP (m ((c.tc : Thread _ _).loc Cert.Kernel6Ideal.main_arg0)) (m ((c.tc : Thread _ _).loc Cert.Kernel6Ideal.main_arg1)) (m ((c.tc : Thread _ _).loc Cert.Kernel6Ideal.main_arg2)),
    fun c => Cert.MlaRef.ckvS (m ((c.tc : Thread _ _).loc Cert.Kernel6Ideal.main_arg0)) (m ((c.tc : Thread _ _).loc Cert.Kernel6Ideal.main_arg1)) (m ((c.tc : Thread _ _).loc Cert.Kernel6Ideal.main_arg2)),
    fun c => Cert.MlaRef.krS (m ((c.tc : Thread _ _).loc Cert.Kernel6Ideal.main_arg0)) (m ((c.tc : Thread _ _).loc Cert.Kernel6Ideal.main_arg1)) (m ((c.tc : Thread _ _).loc Cert.Kernel6Ideal.main_arg2)), ?_, ?_⟩
  · exact Cert.Mla.run m g
  · refine (θ_run (Cert.Reference6Ideal.defs (F := Ideal)) _ _).mono (fun r h c => ?_) (Cert.Reference6Ideal.Value.run (F := Ideal) m' g')
    obtain ⟨r0, r1, r2, r3, r4, ha⟩ := h c
    obtain ⟨h0, h1, h2⟩ := hargs c
    beta_reduce
    rw [← h0, ← h1, ← h2]
    exact ⟨r0.trans (Cert.MlaRef.qn_eq _ _ _), r1.trans (Cert.MlaRef.ckvP_eq _ _ _), r2.trans (Cert.MlaRef.res_krP m' c), r3.trans (Cert.MlaRef.ckvS_eq _ _ _), r4.trans (Cert.MlaRef.res_krS m' c), ha⟩

/-! ## The queries' projection -/

theorem frame_reference7 : Cert.quiescent_Reference7Ideal (hReference7Ideal := Cert.Reference7Ideal.Gen.facts) := by
  intro m g _
  exact (θ_run (Cert.Reference7Ideal.defs (F := Ideal)) _ _).mono
    (fun r h => ⟨fun c => (h c).2, sem_eq_zero_of_no_sems (by decide) r.2⟩) (Cert.Reference7Ideal.Value.run (F := Ideal) m g)

theorem algebraic7 : Cert.algebraic_Kernel7Ideal_Reference7Ideal (hKernel7Ideal := Cert.Kernel7Ideal.Gen.facts)
    (hReference7Ideal := Cert.Reference7Ideal.Gen.facts) := by
  intro m g m' g' _ hargs
  refine ⟨fun c => Cert.QProjRef.q (m ((c.tc : Thread _ _).loc Cert.Kernel7Ideal.main_arg0)) (m ((c.tc : Thread _ _).loc Cert.Kernel7Ideal.main_arg1)), ?_, ?_⟩
  · exact Cert.QProj.run m g
  · refine (θ_run (Cert.Reference7Ideal.defs (F := Ideal)) _ _).mono (fun r h c => ?_) (Cert.Reference7Ideal.Value.run (F := Ideal) m' g')
    obtain ⟨r0, ha⟩ := h c
    obtain ⟨h0, h1⟩ := hargs c
    beta_reduce
    rw [← h0, ← h1]
    exact ⟨r0.trans (by unfold Cert.QProjRef.q; rfl), ha⟩

/-! ## The queries' absorption and rotation -/

theorem frame_reference8 : Cert.quiescent_Reference8Ideal (hReference8Ideal := Cert.Reference8Ideal.Gen.facts) := by
  intro m g _
  exact (θ_run (Cert.Reference8Ideal.defs (F := Ideal)) _ _).mono
    (fun r h => ⟨fun c => (h c).2.2, sem_eq_zero_of_no_sems (by decide) r.2⟩) (Cert.Reference8Ideal.Value.run (F := Ideal) m g)

theorem algebraic8 : Cert.algebraic_Kernel8Ideal_Reference8Ideal (hKernel8Ideal := Cert.Kernel8Ideal.Gen.facts)
    (hReference8Ideal := Cert.Reference8Ideal.Gen.facts) := by
  intro m g m' g' _ hargs
  refine ⟨fun c => Cert.AbsorbRef.ql (m ((c.tc : Thread _ _).loc Cert.Kernel8Ideal.main_arg0)) (m ((c.tc : Thread _ _).loc Cert.Kernel8Ideal.main_arg1)),
    fun c => Cert.AbsorbRef.qp (m ((c.tc : Thread _ _).loc Cert.Kernel8Ideal.main_arg0)) (m ((c.tc : Thread _ _).loc Cert.Kernel8Ideal.main_arg1)), ?_, ?_⟩
  · exact Cert.Absorb.run m g
  · refine (θ_run (Cert.Reference8Ideal.defs (F := Ideal)) _ _).mono (fun r h c => ?_) (Cert.Reference8Ideal.Value.run (F := Ideal) m' g')
    obtain ⟨r0, r1, ha⟩ := h c
    obtain ⟨h0, h1⟩ := hargs c
    beta_reduce
    rw [← h0, ← h1]
    exact ⟨r0.trans (Cert.AbsorbRef.lat_eq _ _), r1.trans (Cert.AbsorbRef.res_qp m' c), ha⟩

/-! ## The first layer norm -/

theorem frame_reference9 : Cert.quiescent_Reference9Ideal (hReference9Ideal := Cert.Reference9Ideal.Gen.facts) := by
  intro m g _
  exact (θ_run (Cert.Reference9Ideal.defs (F := Ideal)) _ _).mono
    (fun r h => ⟨fun c => (h c).2.2, sem_eq_zero_of_no_sems (by decide) r.2⟩) (Cert.Reference9Ideal.Value.run (F := Ideal) m g)

theorem algebraic9 : Cert.algebraic_Kernel9Ideal_Reference9Ideal (hKernel9Ideal := Cert.Kernel9Ideal.Gen.facts)
    (hReference9Ideal := Cert.Reference9Ideal.Gen.facts) := by
  intro m g m' g' _ hargs
  refine ⟨fun c => Cert.NormRef.out (m ((c.tc : Thread _ _).loc Cert.Kernel9Ideal.main_arg0)) (m ((c.tc : Thread _ _).loc Cert.Kernel9Ideal.main_arg1)) (m ((c.tc : Thread _ _).loc Cert.Kernel9Ideal.main_arg2)) (m ((c.tc : Thread _ _).loc Cert.Kernel9Ideal.main_arg3)),
    fun c => Cert.NormRef.outB (m ((c.tc : Thread _ _).loc Cert.Kernel9Ideal.main_arg0)) (m ((c.tc : Thread _ _).loc Cert.Kernel9Ideal.main_arg1)) (m ((c.tc : Thread _ _).loc Cert.Kernel9Ideal.main_arg2)) (m ((c.tc : Thread _ _).loc Cert.Kernel9Ideal.main_arg3)), ?_, ?_⟩
  · refine (θ_run (Cert.Kernel9Ideal.defs (F := Ideal)) _ _).mono (fun r h c => ?_) (Cert.Kernel9Ideal.Value.run_blocks (F := Ideal) m g)
    obtain ⟨v0, v1, ha⟩ := h c
    exact ⟨v0.trans (Cert.Norm.final m c), v1.trans (Cert.Norm.finalB m c), ha⟩
  · refine (θ_run (Cert.Reference9Ideal.defs (F := Ideal)) _ _).mono (fun r h c => ?_) (Cert.Reference9Ideal.Value.run (F := Ideal) m' g')
    obtain ⟨r0, r1, ha⟩ := h c
    obtain ⟨h0, h1, h2, h3⟩ := hargs c
    beta_reduce
    rw [← h0, ← h1, ← h2, ← h3]
    exact ⟨r0.trans (by unfold Cert.NormRef.out Cert.NormRef.norm Cert.NormRef.cen Cert.NormRef.rows; rfl), r1.trans (by unfold Cert.NormRef.outB Cert.NormRef.out Cert.NormRef.norm Cert.NormRef.cen Cert.NormRef.rows; rfl), ha⟩

/-! ## The sum of the experts' rows -/

theorem frame_reference10 : Cert.quiescent_Reference10Ideal (hReference10Ideal := Cert.Reference10Ideal.Gen.facts) := by
  intro m g _
  exact (θ_run (Cert.Reference10Ideal.defs (F := Ideal)) _ _).mono
    (fun r h => ⟨fun c => (h c).2, sem_eq_zero_of_no_sems (by decide) r.2⟩) (Cert.Reference10Ideal.Value.run (F := Ideal) m g)

theorem algebraic10 : Cert.algebraic_Kernel10Ideal_Reference10Ideal (hKernel10Ideal := Cert.Kernel10Ideal.Gen.facts)
    (hReference10Ideal := Cert.Reference10Ideal.Gen.facts) := by
  intro m g m' g' _ hargs
  refine ⟨fun c => Cert.Combine.ref (m ((c.tc : Thread _ _).loc Cert.Kernel10Ideal.main_arg0)) (m ((c.tc : Thread _ _).loc Cert.Kernel10Ideal.main_arg1)) (m ((c.tc : Thread _ _).loc Cert.Kernel10Ideal.main_arg2)), ?_, ?_⟩
  · refine (θ_run (Cert.Kernel10Ideal.defs (F := Ideal)) _ _).mono (fun r h c => ?_) (Cert.Kernel10Ideal.Value.run_blocks (F := Ideal) m g)
    obtain ⟨v0, ha⟩ := h c
    exact ⟨v0.trans (Cert.Combine.final m c), ha⟩
  · refine (θ_run (Cert.Reference10Ideal.defs (F := Ideal)) _ _).mono (fun r h c => ?_) (Cert.Reference10Ideal.Value.run (F := Ideal) m' g')
    obtain ⟨r0, ha⟩ := h c
    obtain ⟨h0, h1, h2⟩ := hargs c
    beta_reduce
    rw [← h0, ← h1, ← h2]
    exact ⟨r0.trans (by unfold Cert.Combine.ref; rfl), ha⟩

/-! ## The claim -/

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Finite.facts,
    fun m g _ => Cert.Kernel.Gen.frame m g, fun m g _ => Cert.KernelIdeal.Gen.frame m g, fun m g _ => Cert.KernelIdeal.Gen.frame m g,
    frame_reference, fun m g _ => frame_reference m g trivial,
    fun m g _ => Cert.Kernel2.Gen.frame m g, fun m g _ => Cert.Kernel2Ideal.Gen.frame m g, frame_reference2,
    fun m g _ => Cert.Kernel3.Gen.frame m g, fun m g _ => Cert.Kernel3Ideal.Gen.frame m g, frame_reference3,
    fun m g _ => Cert.Kernel4.Gen.frame m g, fun m g _ => Cert.Kernel4Ideal.Gen.frame m g, frame_reference4,
    fun m g _ => Cert.Kernel5.Gen.frame m g, fun m g _ => Cert.Kernel5Ideal.Gen.frame m g, frame_reference5,
    fun m g _ => Cert.Kernel6.Gen.frame m g, fun m g _ => Cert.Kernel6Ideal.Gen.frame m g, frame_reference6,
    fun m g _ => Cert.Kernel7.Gen.frame m g, fun m g _ => Cert.Kernel7Ideal.Gen.frame m g, frame_reference7,
    fun m g _ => Cert.Kernel8.Gen.frame m g, fun m g _ => Cert.Kernel8Ideal.Gen.frame m g, frame_reference8,
    fun m g _ => Cert.Kernel9.Gen.frame m g, fun m g _ => Cert.Kernel9Ideal.Gen.frame m g, frame_reference9,
    fun m g _ => Cert.Kernel10.Gen.frame m g, fun m g _ => Cert.Kernel10Ideal.Gen.frame m g, frame_reference10,
    trivial, algebraic,
    trivial, algebraic2, trivial, algebraic3, trivial, algebraic4, trivial, algebraic5, trivial, algebraic6, trivial, algebraic7, trivial, algebraic8, trivial, algebraic9, trivial, algebraic10⟩

end Cert.Proof

end
